-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S1 : Shape := ⟨1, ![1]⟩
abbrev S4096x64 : Shape := ⟨2, ![4096, 64]⟩
abbrev S4x4096x512 : Shape := ⟨3, ![4, 4096, 512]⟩
abbrev S32x128x64 : Shape := ⟨3, ![32, 128, 64]⟩
abbrev S4 : Shape := ⟨1, ![4]⟩
abbrev S31 : Shape := ⟨1, ![31]⟩
abbrev S_ : Shape := ⟨0, ![]⟩
abbrev S1x4096x512 : Shape := ⟨3, ![1, 4096, 512]⟩
abbrev S4096x512 : Shape := ⟨2, ![4096, 512]⟩
abbrev S128x512 : Shape := ⟨2, ![128, 512]⟩
abbrev S128x64 : Shape := ⟨2, ![128, 64]⟩
abbrev S1x128x64 : Shape := ⟨3, ![1, 128, 64]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S4x4096x512, .f32⟩
  | .local _ .vmem, ⟨3, _⟩ => ⟨S32x128x64, .bf16⟩
  | .local _ .vmem, ⟨4, _⟩ => ⟨S32x128x64, .bf16⟩
  | .local _ .smem, ⟨0, _⟩ => ⟨S1, .f32⟩
  | .local _ .smem, ⟨1, _⟩ => ⟨S1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_dev17 : Nat :=
  let c0_i32_51 : BitVec 32 := 0#32
  let c16_i32 : BitVec 32 := 16#32
  let c1_i32_50 : BitVec 32 := 1#32
  let v36 : BitVec 32 := Scalar.muli c16_i32 c1_i32_50
  let v37 : BitVec 32 := Scalar.addi c0_i32_51 v36
  v37.toNat
def k0_dev18 : Nat :=
  let c0_i32_54 : BitVec 32 := 0#32
  let c17_i32 : BitVec 32 := 17#32
  let c1_i32_53 : BitVec 32 := 1#32
  let v38 : BitVec 32 := Scalar.muli c17_i32 c1_i32_53
  let v39 : BitVec 32 := Scalar.addi c0_i32_54 v38
  v39.toNat
def k0_dev19 : Nat :=
  let c0_i32_57 : BitVec 32 := 0#32
  let c18_i32 : BitVec 32 := 18#32
  let c1_i32_56 : BitVec 32 := 1#32
  let v40 : BitVec 32 := Scalar.muli c18_i32 c1_i32_56
  let v41 : BitVec 32 := Scalar.addi c0_i32_57 v40
  v41.toNat
def k0_dev20 : Nat :=
  let c0_i32_60 : BitVec 32 := 0#32
  let c19_i32 : BitVec 32 := 19#32
  let c1_i32_59 : BitVec 32 := 1#32
  let v42 : BitVec 32 := Scalar.muli c19_i32 c1_i32_59
  let v43 : BitVec 32 := Scalar.addi c0_i32_60 v42
  v43.toNat
def k0_dev21 : Nat :=
  let c0_i32_63 : BitVec 32 := 0#32
  let c20_i32 : BitVec 32 := 20#32
  let c1_i32_62 : BitVec 32 := 1#32
  let v44 : BitVec 32 := Scalar.muli c20_i32 c1_i32_62
  let v45 : BitVec 32 := Scalar.addi c0_i32_63 v44
  v45.toNat
def k0_dev22 : Nat :=
  let c0_i32_66 : BitVec 32 := 0#32
  let c21_i32 : BitVec 32 := 21#32
  let c1_i32_65 : BitVec 32 := 1#32
  let v46 : BitVec 32 := Scalar.muli c21_i32 c1_i32_65
  let v47 : BitVec 32 := Scalar.addi c0_i32_66 v46
  v47.toNat
def k0_dev23 : Nat :=
  let c0_i32_69 : BitVec 32 := 0#32
  let c22_i32 : BitVec 32 := 22#32
  let c1_i32_68 : BitVec 32 := 1#32
  let v48 : BitVec 32 := Scalar.muli c22_i32 c1_i32_68
  let v49 : BitVec 32 := Scalar.addi c0_i32_69 v48
  v49.toNat
def k0_dev24 : Nat :=
  let c0_i32_72 : BitVec 32 := 0#32
  let c23_i32 : BitVec 32 := 23#32
  let c1_i32_71 : BitVec 32 := 1#32
  let v50 : BitVec 32 := Scalar.muli c23_i32 c1_i32_71
  let v51 : BitVec 32 := Scalar.addi c0_i32_72 v50
  v51.toNat
def k0_dev25 : Nat :=
  let c0_i32_75 : BitVec 32 := 0#32
  let c24_i32 : BitVec 32 := 24#32
  let c1_i32_74 : BitVec 32 := 1#32
  let v52 : BitVec 32 := Scalar.muli c24_i32 c1_i32_74
  let v53 : BitVec 32 := Scalar.addi c0_i32_75 v52
  v53.toNat
def k0_dev26 : Nat :=
  let c0_i32_78 : BitVec 32 := 0#32
  let c25_i32 : BitVec 32 := 25#32
  let c1_i32_77 : BitVec 32 := 1#32
  let v54 : BitVec 32 := Scalar.muli c25_i32 c1_i32_77
  let v55 : BitVec 32 := Scalar.addi c0_i32_78 v54
  v55.toNat
def k0_dev27 : Nat :=
  let c0_i32_81 : BitVec 32 := 0#32
  let c26_i32 : BitVec 32 := 26#32
  let c1_i32_80 : BitVec 32 := 1#32
  let v56 : BitVec 32 := Scalar.muli c26_i32 c1_i32_80
  let v57 : BitVec 32 := Scalar.addi c0_i32_81 v56
  v57.toNat
def k0_dev28 : Nat :=
  let c0_i32_84 : BitVec 32 := 0#32
  let c27_i32 : BitVec 32 := 27#32
  let c1_i32_83 : BitVec 32 := 1#32
  let v58 : BitVec 32 := Scalar.muli c27_i32 c1_i32_83
  let v59 : BitVec 32 := Scalar.addi c0_i32_84 v58
  v59.toNat
def k0_dev29 : Nat :=
  let c0_i32_87 : BitVec 32 := 0#32
  let c28_i32 : BitVec 32 := 28#32
  let c1_i32_86 : BitVec 32 := 1#32
  let v60 : BitVec 32 := Scalar.muli c28_i32 c1_i32_86
  let v61 : BitVec 32 := Scalar.addi c0_i32_87 v60
  v61.toNat
def k0_dev30 : Nat :=
  let c0_i32_90 : BitVec 32 := 0#32
  let c29_i32 : BitVec 32 := 29#32
  let c1_i32_89 : BitVec 32 := 1#32
  let v62 : BitVec 32 := Scalar.muli c29_i32 c1_i32_89
  let v63 : BitVec 32 := Scalar.addi c0_i32_90 v62
  v63.toNat
def k0_dev31 : Nat :=
  let c0_i32_93 : BitVec 32 := 0#32
  let c30_i32 : BitVec 32 := 30#32
  let c1_i32_92 : BitVec 32 := 1#32
  let v64 : BitVec 32 := Scalar.muli c30_i32 c1_i32_92
  let v65 : BitVec 32 := Scalar.addi c0_i32_93 v64
  v65.toNat
def k0_dev32 : Nat :=
  let c0_i32_96 : BitVec 32 := 0#32
  let c31_i32 : BitVec 32 := 31#32
  let c1_i32_95 : BitVec 32 := 1#32
  let v66 : BitVec 32 := Scalar.muli c31_i32 c1_i32_95
  let v67 : BitVec 32 := Scalar.addi c0_i32_96 v66
  v67.toNat
def k0_off1 (d0 : Dev nD) (c0_i32_104 : BitVec 32) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c512_i32 : BitVec 32 := 512#32
  let v88 : BitVec 32 := Scalar.muli v87 c512_i32
  ![0, v88.toNat]
def k0_off2 (d0 : Dev nD) (c0_i32_104 : BitVec 32) (c0_i32_173 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_172 : BitVec 32 := 8#32
  let v193 : BitVec 32 := Scalar.muli v87 c8_i32_172
  let v194 : BitVec 32 := Scalar.addi v193 c0_i32_173
  let v195 : Index := Scalar.indexCast v194
  let c0_174 : Index := 0#32
  let c0_175 : Index := 0#32
  ![v195.toNat, 0, 0]
def k0_cond1 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_205 : BitVec 32 := 8#32
  let v248 : BitVec 32 := Scalar.muli v87 c8_i32_205
  let c1_i32_206 : BitVec 32 := 1#32
  let v249 : BitVec 32 := Scalar.addi v2 c1_i32_206
  let c0_i32_207 : BitVec 32 := 0#32
  let v250 : BitVec 32 := Scalar.addi v249 c0_i32_207
  let c8_i32_208 : BitVec 32 := 8#32
  let v251 : BitVec 32 := Scalar.remsi v250 c8_i32_208
  let v252 : BitVec 32 := Scalar.addi v248 v251
  let v253 : BitVec 32 := Scalar.subi v252 v2
  let c32_i32_209 : BitVec 32 := 32#32
  let v254 : BitVec 32 := Scalar.addi v253 c32_i32_209
  let c32_i32_210 : BitVec 32 := 32#32
  let v255 : BitVec 32 := Scalar.remsi v254 c32_i32_210
  let c0_i32_211 : BitVec 32 := 0#32
  let v256 : BitVec 1 := Scalar.cmpi .ne v255 c0_i32_211
  let v257 : BitVec 32 := Scalar.extui v256
  let c0_i32_212 : BitVec 32 := 0#32
  let v258 : BitVec 1 := Scalar.cmpi .ne v257 c0_i32_212
  v258

def k0_off3 (d0 : Dev nD) : Fin 1 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_205 : BitVec 32 := 8#32
  let v248 : BitVec 32 := Scalar.muli v87 c8_i32_205
  let c1_i32_206 : BitVec 32 := 1#32
  let v249 : BitVec 32 := Scalar.addi v2 c1_i32_206
  let c0_i32_207 : BitVec 32 := 0#32
  let v250 : BitVec 32 := Scalar.addi v249 c0_i32_207
  let c8_i32_208 : BitVec 32 := 8#32
  let v251 : BitVec 32 := Scalar.remsi v250 c8_i32_208
  let v252 : BitVec 32 := Scalar.addi v248 v251
  let v253 : BitVec 32 := Scalar.subi v252 v2
  let c32_i32_209 : BitVec 32 := 32#32
  let v254 : BitVec 32 := Scalar.addi v253 c32_i32_209
  let c32_i32_210 : BitVec 32 := 32#32
  let v255 : BitVec 32 := Scalar.remsi v254 c32_i32_210
  let c1_i32_1453 : BitVec 32 := 1#32
  let v1681 : BitVec 32 := Scalar.subi v255 c1_i32_1453
  ![v1681.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off5 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_205 : BitVec 32 := 8#32
  let v248 : BitVec 32 := Scalar.muli v87 c8_i32_205
  let c1_i32_206 : BitVec 32 := 1#32
  let v249 : BitVec 32 := Scalar.addi v2 c1_i32_206
  let c0_i32_207 : BitVec 32 := 0#32
  let v250 : BitVec 32 := Scalar.addi v249 c0_i32_207
  let c8_i32_208 : BitVec 32 := 8#32
  let v251 : BitVec 32 := Scalar.remsi v250 c8_i32_208
  let v252 : BitVec 32 := Scalar.addi v248 v251
  let c0_i32_1459 : BitVec 32 := 0#32
  let c0_i32_1460 : BitVec 32 := 0#32
  ![v252.toNat, 0, 0]
def k0_dev33 (d0 : Dev nD) : Nat :=
  let c0_i32_1456 : BitVec 32 := 0#32
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_205 : BitVec 32 := 8#32
  let v248 : BitVec 32 := Scalar.muli v87 c8_i32_205
  let c1_i32_206 : BitVec 32 := 1#32
  let v249 : BitVec 32 := Scalar.addi v2 c1_i32_206
  let c0_i32_207 : BitVec 32 := 0#32
  let v250 : BitVec 32 := Scalar.addi v249 c0_i32_207
  let c8_i32_208 : BitVec 32 := 8#32
  let v251 : BitVec 32 := Scalar.remsi v250 c8_i32_208
  let v252 : BitVec 32 := Scalar.addi v248 v251
  let c1_i32_1455 : BitVec 32 := 1#32
  let v1683 : BitVec 32 := Scalar.muli v252 c1_i32_1455
  let v1684 : BitVec 32 := Scalar.addi c0_i32_1456 v1683
  v1684.toNat
def k0_cond2 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_205 : BitVec 32 := 8#32
  let v248 : BitVec 32 := Scalar.muli v87 c8_i32_205
  let c1_i32_206 : BitVec 32 := 1#32
  let v249 : BitVec 32 := Scalar.addi v2 c1_i32_206
  let c0_i32_207 : BitVec 32 := 0#32
  let v250 : BitVec 32 := Scalar.addi v249 c0_i32_207
  let c8_i32_208 : BitVec 32 := 8#32
  let v251 : BitVec 32 := Scalar.remsi v250 c8_i32_208
  let v252 : BitVec 32 := Scalar.addi v248 v251
  let v253 : BitVec 32 := Scalar.subi v252 v2
  let c32_i32_209 : BitVec 32 := 32#32
  let v254 : BitVec 32 := Scalar.addi v253 c32_i32_209
  let c32_i32_210 : BitVec 32 := 32#32
  let v255 : BitVec 32 := Scalar.remsi v254 c32_i32_210
  let c0_i32_213 : BitVec 32 := 0#32
  let v259 : BitVec 1 := Scalar.cmpi .eq v255 c0_i32_213
  let v260 : BitVec 32 := Scalar.extui v259
  let c0_i32_214 : BitVec 32 := 0#32
  let v261 : BitVec 1 := Scalar.cmpi .ne v260 c0_i32_214
  v261

def k0_off6 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_205 : BitVec 32 := 8#32
  let v248 : BitVec 32 := Scalar.muli v87 c8_i32_205
  let c1_i32_206 : BitVec 32 := 1#32
  let v249 : BitVec 32 := Scalar.addi v2 c1_i32_206
  let c0_i32_207 : BitVec 32 := 0#32
  let v250 : BitVec 32 := Scalar.addi v249 c0_i32_207
  let c8_i32_208 : BitVec 32 := 8#32
  let v251 : BitVec 32 := Scalar.remsi v250 c8_i32_208
  let v252 : BitVec 32 := Scalar.addi v248 v251
  let v1681 : Index := Scalar.indexCast v252
  let c0_1453 : Index := 0#32
  let c0_1454 : Index := 0#32
  ![v1681.toNat, 0, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond3 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_215 : BitVec 32 := 8#32
  let v262 : BitVec 32 := Scalar.muli v87 c8_i32_215
  let c1_i32_216 : BitVec 32 := 1#32
  let v263 : BitVec 32 := Scalar.addi v2 c1_i32_216
  let c1_i32_217 : BitVec 32 := 1#32
  let v264 : BitVec 32 := Scalar.addi v263 c1_i32_217
  let c8_i32_218 : BitVec 32 := 8#32
  let v265 : BitVec 32 := Scalar.remsi v264 c8_i32_218
  let v266 : BitVec 32 := Scalar.addi v262 v265
  let v267 : BitVec 32 := Scalar.subi v266 v2
  let c32_i32_219 : BitVec 32 := 32#32
  let v268 : BitVec 32 := Scalar.addi v267 c32_i32_219
  let c32_i32_220 : BitVec 32 := 32#32
  let v269 : BitVec 32 := Scalar.remsi v268 c32_i32_220
  let c0_i32_221 : BitVec 32 := 0#32
  let v270 : BitVec 1 := Scalar.cmpi .ne v269 c0_i32_221
  let v271 : BitVec 32 := Scalar.extui v270
  let c0_i32_222 : BitVec 32 := 0#32
  let v272 : BitVec 1 := Scalar.cmpi .ne v271 c0_i32_222
  v272

def k0_off8 (d0 : Dev nD) : Fin 1 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_215 : BitVec 32 := 8#32
  let v262 : BitVec 32 := Scalar.muli v87 c8_i32_215
  let c1_i32_216 : BitVec 32 := 1#32
  let v263 : BitVec 32 := Scalar.addi v2 c1_i32_216
  let c1_i32_217 : BitVec 32 := 1#32
  let v264 : BitVec 32 := Scalar.addi v263 c1_i32_217
  let c8_i32_218 : BitVec 32 := 8#32
  let v265 : BitVec 32 := Scalar.remsi v264 c8_i32_218
  let v266 : BitVec 32 := Scalar.addi v262 v265
  let v267 : BitVec 32 := Scalar.subi v266 v2
  let c32_i32_219 : BitVec 32 := 32#32
  let v268 : BitVec 32 := Scalar.addi v267 c32_i32_219
  let c32_i32_220 : BitVec 32 := 32#32
  let v269 : BitVec 32 := Scalar.remsi v268 c32_i32_220
  let c1_i32_1453 : BitVec 32 := 1#32
  let v1681 : BitVec 32 := Scalar.subi v269 c1_i32_1453
  ![v1681.toNat]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off10 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_215 : BitVec 32 := 8#32
  let v262 : BitVec 32 := Scalar.muli v87 c8_i32_215
  let c1_i32_216 : BitVec 32 := 1#32
  let v263 : BitVec 32 := Scalar.addi v2 c1_i32_216
  let c1_i32_217 : BitVec 32 := 1#32
  let v264 : BitVec 32 := Scalar.addi v263 c1_i32_217
  let c8_i32_218 : BitVec 32 := 8#32
  let v265 : BitVec 32 := Scalar.remsi v264 c8_i32_218
  let v266 : BitVec 32 := Scalar.addi v262 v265
  let c0_i32_1459 : BitVec 32 := 0#32
  let c0_i32_1460 : BitVec 32 := 0#32
  ![v266.toNat, 0, 0]
def k0_dev34 (d0 : Dev nD) : Nat :=
  let c0_i32_1456 : BitVec 32 := 0#32
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_215 : BitVec 32 := 8#32
  let v262 : BitVec 32 := Scalar.muli v87 c8_i32_215
  let c1_i32_216 : BitVec 32 := 1#32
  let v263 : BitVec 32 := Scalar.addi v2 c1_i32_216
  let c1_i32_217 : BitVec 32 := 1#32
  let v264 : BitVec 32 := Scalar.addi v263 c1_i32_217
  let c8_i32_218 : BitVec 32 := 8#32
  let v265 : BitVec 32 := Scalar.remsi v264 c8_i32_218
  let v266 : BitVec 32 := Scalar.addi v262 v265
  let c1_i32_1455 : BitVec 32 := 1#32
  let v1683 : BitVec 32 := Scalar.muli v266 c1_i32_1455
  let v1684 : BitVec 32 := Scalar.addi c0_i32_1456 v1683
  v1684.toNat
def k0_cond4 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_215 : BitVec 32 := 8#32
  let v262 : BitVec 32 := Scalar.muli v87 c8_i32_215
  let c1_i32_216 : BitVec 32 := 1#32
  let v263 : BitVec 32 := Scalar.addi v2 c1_i32_216
  let c1_i32_217 : BitVec 32 := 1#32
  let v264 : BitVec 32 := Scalar.addi v263 c1_i32_217
  let c8_i32_218 : BitVec 32 := 8#32
  let v265 : BitVec 32 := Scalar.remsi v264 c8_i32_218
  let v266 : BitVec 32 := Scalar.addi v262 v265
  let v267 : BitVec 32 := Scalar.subi v266 v2
  let c32_i32_219 : BitVec 32 := 32#32
  let v268 : BitVec 32 := Scalar.addi v267 c32_i32_219
  let c32_i32_220 : BitVec 32 := 32#32
  let v269 : BitVec 32 := Scalar.remsi v268 c32_i32_220
  let c0_i32_223 : BitVec 32 := 0#32
  let v273 : BitVec 1 := Scalar.cmpi .eq v269 c0_i32_223
  let v274 : BitVec 32 := Scalar.extui v273
  let c0_i32_224 : BitVec 32 := 0#32
  let v275 : BitVec 1 := Scalar.cmpi .ne v274 c0_i32_224
  v275

def k0_off11 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_215 : BitVec 32 := 8#32
  let v262 : BitVec 32 := Scalar.muli v87 c8_i32_215
  let c1_i32_216 : BitVec 32 := 1#32
  let v263 : BitVec 32 := Scalar.addi v2 c1_i32_216
  let c1_i32_217 : BitVec 32 := 1#32
  let v264 : BitVec 32 := Scalar.addi v263 c1_i32_217
  let c8_i32_218 : BitVec 32 := 8#32
  let v265 : BitVec 32 := Scalar.remsi v264 c8_i32_218
  let v266 : BitVec 32 := Scalar.addi v262 v265
  let v1681 : Index := Scalar.indexCast v266
  let c0_1453 : Index := 0#32
  let c0_1454 : Index := 0#32
  ![v1681.toNat, 0, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond5 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_225 : BitVec 32 := 8#32
  let v276 : BitVec 32 := Scalar.muli v87 c8_i32_225
  let c1_i32_226 : BitVec 32 := 1#32
  let v277 : BitVec 32 := Scalar.addi v2 c1_i32_226
  let c2_i32_227 : BitVec 32 := 2#32
  let v278 : BitVec 32 := Scalar.addi v277 c2_i32_227
  let c8_i32_228 : BitVec 32 := 8#32
  let v279 : BitVec 32 := Scalar.remsi v278 c8_i32_228
  let v280 : BitVec 32 := Scalar.addi v276 v279
  let v281 : BitVec 32 := Scalar.subi v280 v2
  let c32_i32_229 : BitVec 32 := 32#32
  let v282 : BitVec 32 := Scalar.addi v281 c32_i32_229
  let c32_i32_230 : BitVec 32 := 32#32
  let v283 : BitVec 32 := Scalar.remsi v282 c32_i32_230
  let c0_i32_231 : BitVec 32 := 0#32
  let v284 : BitVec 1 := Scalar.cmpi .ne v283 c0_i32_231
  let v285 : BitVec 32 := Scalar.extui v284
  let c0_i32_232 : BitVec 32 := 0#32
  let v286 : BitVec 1 := Scalar.cmpi .ne v285 c0_i32_232
  v286

def k0_off13 (d0 : Dev nD) : Fin 1 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_225 : BitVec 32 := 8#32
  let v276 : BitVec 32 := Scalar.muli v87 c8_i32_225
  let c1_i32_226 : BitVec 32 := 1#32
  let v277 : BitVec 32 := Scalar.addi v2 c1_i32_226
  let c2_i32_227 : BitVec 32 := 2#32
  let v278 : BitVec 32 := Scalar.addi v277 c2_i32_227
  let c8_i32_228 : BitVec 32 := 8#32
  let v279 : BitVec 32 := Scalar.remsi v278 c8_i32_228
  let v280 : BitVec 32 := Scalar.addi v276 v279
  let v281 : BitVec 32 := Scalar.subi v280 v2
  let c32_i32_229 : BitVec 32 := 32#32
  let v282 : BitVec 32 := Scalar.addi v281 c32_i32_229
  let c32_i32_230 : BitVec 32 := 32#32
  let v283 : BitVec 32 := Scalar.remsi v282 c32_i32_230
  let c1_i32_1453 : BitVec 32 := 1#32
  let v1681 : BitVec 32 := Scalar.subi v283 c1_i32_1453
  ![v1681.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off15 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_225 : BitVec 32 := 8#32
  let v276 : BitVec 32 := Scalar.muli v87 c8_i32_225
  let c1_i32_226 : BitVec 32 := 1#32
  let v277 : BitVec 32 := Scalar.addi v2 c1_i32_226
  let c2_i32_227 : BitVec 32 := 2#32
  let v278 : BitVec 32 := Scalar.addi v277 c2_i32_227
  let c8_i32_228 : BitVec 32 := 8#32
  let v279 : BitVec 32 := Scalar.remsi v278 c8_i32_228
  let v280 : BitVec 32 := Scalar.addi v276 v279
  let c0_i32_1459 : BitVec 32 := 0#32
  let c0_i32_1460 : BitVec 32 := 0#32
  ![v280.toNat, 0, 0]
def k0_dev35 (d0 : Dev nD) : Nat :=
  let c0_i32_1456 : BitVec 32 := 0#32
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_225 : BitVec 32 := 8#32
  let v276 : BitVec 32 := Scalar.muli v87 c8_i32_225
  let c1_i32_226 : BitVec 32 := 1#32
  let v277 : BitVec 32 := Scalar.addi v2 c1_i32_226
  let c2_i32_227 : BitVec 32 := 2#32
  let v278 : BitVec 32 := Scalar.addi v277 c2_i32_227
  let c8_i32_228 : BitVec 32 := 8#32
  let v279 : BitVec 32 := Scalar.remsi v278 c8_i32_228
  let v280 : BitVec 32 := Scalar.addi v276 v279
  let c1_i32_1455 : BitVec 32 := 1#32
  let v1683 : BitVec 32 := Scalar.muli v280 c1_i32_1455
  let v1684 : BitVec 32 := Scalar.addi c0_i32_1456 v1683
  v1684.toNat
def k0_cond6 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_225 : BitVec 32 := 8#32
  let v276 : BitVec 32 := Scalar.muli v87 c8_i32_225
  let c1_i32_226 : BitVec 32 := 1#32
  let v277 : BitVec 32 := Scalar.addi v2 c1_i32_226
  let c2_i32_227 : BitVec 32 := 2#32
  let v278 : BitVec 32 := Scalar.addi v277 c2_i32_227
  let c8_i32_228 : BitVec 32 := 8#32
  let v279 : BitVec 32 := Scalar.remsi v278 c8_i32_228
  let v280 : BitVec 32 := Scalar.addi v276 v279
  let v281 : BitVec 32 := Scalar.subi v280 v2
  let c32_i32_229 : BitVec 32 := 32#32
  let v282 : BitVec 32 := Scalar.addi v281 c32_i32_229
  let c32_i32_230 : BitVec 32 := 32#32
  let v283 : BitVec 32 := Scalar.remsi v282 c32_i32_230
  let c0_i32_233 : BitVec 32 := 0#32
  let v287 : BitVec 1 := Scalar.cmpi .eq v283 c0_i32_233
  let v288 : BitVec 32 := Scalar.extui v287
  let c0_i32_234 : BitVec 32 := 0#32
  let v289 : BitVec 1 := Scalar.cmpi .ne v288 c0_i32_234
  v289

def k0_off16 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_225 : BitVec 32 := 8#32
  let v276 : BitVec 32 := Scalar.muli v87 c8_i32_225
  let c1_i32_226 : BitVec 32 := 1#32
  let v277 : BitVec 32 := Scalar.addi v2 c1_i32_226
  let c2_i32_227 : BitVec 32 := 2#32
  let v278 : BitVec 32 := Scalar.addi v277 c2_i32_227
  let c8_i32_228 : BitVec 32 := 8#32
  let v279 : BitVec 32 := Scalar.remsi v278 c8_i32_228
  let v280 : BitVec 32 := Scalar.addi v276 v279
  let v1681 : Index := Scalar.indexCast v280
  let c0_1453 : Index := 0#32
  let c0_1454 : Index := 0#32
  ![v1681.toNat, 0, 0]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond7 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_235 : BitVec 32 := 8#32
  let v290 : BitVec 32 := Scalar.muli v87 c8_i32_235
  let c1_i32_236 : BitVec 32 := 1#32
  let v291 : BitVec 32 := Scalar.addi v2 c1_i32_236
  let c3_i32_237 : BitVec 32 := 3#32
  let v292 : BitVec 32 := Scalar.addi v291 c3_i32_237
  let c8_i32_238 : BitVec 32 := 8#32
  let v293 : BitVec 32 := Scalar.remsi v292 c8_i32_238
  let v294 : BitVec 32 := Scalar.addi v290 v293
  let v295 : BitVec 32 := Scalar.subi v294 v2
  let c32_i32_239 : BitVec 32 := 32#32
  let v296 : BitVec 32 := Scalar.addi v295 c32_i32_239
  let c32_i32_240 : BitVec 32 := 32#32
  let v297 : BitVec 32 := Scalar.remsi v296 c32_i32_240
  let c0_i32_241 : BitVec 32 := 0#32
  let v298 : BitVec 1 := Scalar.cmpi .ne v297 c0_i32_241
  let v299 : BitVec 32 := Scalar.extui v298
  let c0_i32_242 : BitVec 32 := 0#32
  let v300 : BitVec 1 := Scalar.cmpi .ne v299 c0_i32_242
  v300

def k0_off18 (d0 : Dev nD) : Fin 1 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_235 : BitVec 32 := 8#32
  let v290 : BitVec 32 := Scalar.muli v87 c8_i32_235
  let c1_i32_236 : BitVec 32 := 1#32
  let v291 : BitVec 32 := Scalar.addi v2 c1_i32_236
  let c3_i32_237 : BitVec 32 := 3#32
  let v292 : BitVec 32 := Scalar.addi v291 c3_i32_237
  let c8_i32_238 : BitVec 32 := 8#32
  let v293 : BitVec 32 := Scalar.remsi v292 c8_i32_238
  let v294 : BitVec 32 := Scalar.addi v290 v293
  let v295 : BitVec 32 := Scalar.subi v294 v2
  let c32_i32_239 : BitVec 32 := 32#32
  let v296 : BitVec 32 := Scalar.addi v295 c32_i32_239
  let c32_i32_240 : BitVec 32 := 32#32
  let v297 : BitVec 32 := Scalar.remsi v296 c32_i32_240
  let c1_i32_1453 : BitVec 32 := 1#32
  let v1681 : BitVec 32 := Scalar.subi v297 c1_i32_1453
  ![v1681.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off20 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_235 : BitVec 32 := 8#32
  let v290 : BitVec 32 := Scalar.muli v87 c8_i32_235
  let c1_i32_236 : BitVec 32 := 1#32
  let v291 : BitVec 32 := Scalar.addi v2 c1_i32_236
  let c3_i32_237 : BitVec 32 := 3#32
  let v292 : BitVec 32 := Scalar.addi v291 c3_i32_237
  let c8_i32_238 : BitVec 32 := 8#32
  let v293 : BitVec 32 := Scalar.remsi v292 c8_i32_238
  let v294 : BitVec 32 := Scalar.addi v290 v293
  let c0_i32_1459 : BitVec 32 := 0#32
  let c0_i32_1460 : BitVec 32 := 0#32
  ![v294.toNat, 0, 0]
def k0_dev36 (d0 : Dev nD) : Nat :=
  let c0_i32_1456 : BitVec 32 := 0#32
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_235 : BitVec 32 := 8#32
  let v290 : BitVec 32 := Scalar.muli v87 c8_i32_235
  let c1_i32_236 : BitVec 32 := 1#32
  let v291 : BitVec 32 := Scalar.addi v2 c1_i32_236
  let c3_i32_237 : BitVec 32 := 3#32
  let v292 : BitVec 32 := Scalar.addi v291 c3_i32_237
  let c8_i32_238 : BitVec 32 := 8#32
  let v293 : BitVec 32 := Scalar.remsi v292 c8_i32_238
  let v294 : BitVec 32 := Scalar.addi v290 v293
  let c1_i32_1455 : BitVec 32 := 1#32
  let v1683 : BitVec 32 := Scalar.muli v294 c1_i32_1455
  let v1684 : BitVec 32 := Scalar.addi c0_i32_1456 v1683
  v1684.toNat
def k0_cond8 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_235 : BitVec 32 := 8#32
  let v290 : BitVec 32 := Scalar.muli v87 c8_i32_235
  let c1_i32_236 : BitVec 32 := 1#32
  let v291 : BitVec 32 := Scalar.addi v2 c1_i32_236
  let c3_i32_237 : BitVec 32 := 3#32
  let v292 : BitVec 32 := Scalar.addi v291 c3_i32_237
  let c8_i32_238 : BitVec 32 := 8#32
  let v293 : BitVec 32 := Scalar.remsi v292 c8_i32_238
  let v294 : BitVec 32 := Scalar.addi v290 v293
  let v295 : BitVec 32 := Scalar.subi v294 v2
  let c32_i32_239 : BitVec 32 := 32#32
  let v296 : BitVec 32 := Scalar.addi v295 c32_i32_239
  let c32_i32_240 : BitVec 32 := 32#32
  let v297 : BitVec 32 := Scalar.remsi v296 c32_i32_240
  let c0_i32_243 : BitVec 32 := 0#32
  let v301 : BitVec 1 := Scalar.cmpi .eq v297 c0_i32_243
  let v302 : BitVec 32 := Scalar.extui v301
  let c0_i32_244 : BitVec 32 := 0#32
  let v303 : BitVec 1 := Scalar.cmpi .ne v302 c0_i32_244
  v303

def k0_off21 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_235 : BitVec 32 := 8#32
  let v290 : BitVec 32 := Scalar.muli v87 c8_i32_235
  let c1_i32_236 : BitVec 32 := 1#32
  let v291 : BitVec 32 := Scalar.addi v2 c1_i32_236
  let c3_i32_237 : BitVec 32 := 3#32
  let v292 : BitVec 32 := Scalar.addi v291 c3_i32_237
  let c8_i32_238 : BitVec 32 := 8#32
  let v293 : BitVec 32 := Scalar.remsi v292 c8_i32_238
  let v294 : BitVec 32 := Scalar.addi v290 v293
  let v1681 : Index := Scalar.indexCast v294
  let c0_1453 : Index := 0#32
  let c0_1454 : Index := 0#32
  ![v1681.toNat, 0, 0]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond9 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_245 : BitVec 32 := 8#32
  let v304 : BitVec 32 := Scalar.muli v87 c8_i32_245
  let c1_i32_246 : BitVec 32 := 1#32
  let v305 : BitVec 32 := Scalar.addi v2 c1_i32_246
  let c4_i32_247 : BitVec 32 := 4#32
  let v306 : BitVec 32 := Scalar.addi v305 c4_i32_247
  let c8_i32_248 : BitVec 32 := 8#32
  let v307 : BitVec 32 := Scalar.remsi v306 c8_i32_248
  let v308 : BitVec 32 := Scalar.addi v304 v307
  let v309 : BitVec 32 := Scalar.subi v308 v2
  let c32_i32_249 : BitVec 32 := 32#32
  let v310 : BitVec 32 := Scalar.addi v309 c32_i32_249
  let c32_i32_250 : BitVec 32 := 32#32
  let v311 : BitVec 32 := Scalar.remsi v310 c32_i32_250
  let c0_i32_251 : BitVec 32 := 0#32
  let v312 : BitVec 1 := Scalar.cmpi .ne v311 c0_i32_251
  let v313 : BitVec 32 := Scalar.extui v312
  let c0_i32_252 : BitVec 32 := 0#32
  let v314 : BitVec 1 := Scalar.cmpi .ne v313 c0_i32_252
  v314

def k0_off23 (d0 : Dev nD) : Fin 1 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_245 : BitVec 32 := 8#32
  let v304 : BitVec 32 := Scalar.muli v87 c8_i32_245
  let c1_i32_246 : BitVec 32 := 1#32
  let v305 : BitVec 32 := Scalar.addi v2 c1_i32_246
  let c4_i32_247 : BitVec 32 := 4#32
  let v306 : BitVec 32 := Scalar.addi v305 c4_i32_247
  let c8_i32_248 : BitVec 32 := 8#32
  let v307 : BitVec 32 := Scalar.remsi v306 c8_i32_248
  let v308 : BitVec 32 := Scalar.addi v304 v307
  let v309 : BitVec 32 := Scalar.subi v308 v2
  let c32_i32_249 : BitVec 32 := 32#32
  let v310 : BitVec 32 := Scalar.addi v309 c32_i32_249
  let c32_i32_250 : BitVec 32 := 32#32
  let v311 : BitVec 32 := Scalar.remsi v310 c32_i32_250
  let c1_i32_1453 : BitVec 32 := 1#32
  let v1681 : BitVec 32 := Scalar.subi v311 c1_i32_1453
  ![v1681.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off25 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_245 : BitVec 32 := 8#32
  let v304 : BitVec 32 := Scalar.muli v87 c8_i32_245
  let c1_i32_246 : BitVec 32 := 1#32
  let v305 : BitVec 32 := Scalar.addi v2 c1_i32_246
  let c4_i32_247 : BitVec 32 := 4#32
  let v306 : BitVec 32 := Scalar.addi v305 c4_i32_247
  let c8_i32_248 : BitVec 32 := 8#32
  let v307 : BitVec 32 := Scalar.remsi v306 c8_i32_248
  let v308 : BitVec 32 := Scalar.addi v304 v307
  let c0_i32_1459 : BitVec 32 := 0#32
  let c0_i32_1460 : BitVec 32 := 0#32
  ![v308.toNat, 0, 0]
def k0_dev37 (d0 : Dev nD) : Nat :=
  let c0_i32_1456 : BitVec 32 := 0#32
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_245 : BitVec 32 := 8#32
  let v304 : BitVec 32 := Scalar.muli v87 c8_i32_245
  let c1_i32_246 : BitVec 32 := 1#32
  let v305 : BitVec 32 := Scalar.addi v2 c1_i32_246
  let c4_i32_247 : BitVec 32 := 4#32
  let v306 : BitVec 32 := Scalar.addi v305 c4_i32_247
  let c8_i32_248 : BitVec 32 := 8#32
  let v307 : BitVec 32 := Scalar.remsi v306 c8_i32_248
  let v308 : BitVec 32 := Scalar.addi v304 v307
  let c1_i32_1455 : BitVec 32 := 1#32
  let v1683 : BitVec 32 := Scalar.muli v308 c1_i32_1455
  let v1684 : BitVec 32 := Scalar.addi c0_i32_1456 v1683
  v1684.toNat
def k0_cond10 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_245 : BitVec 32 := 8#32
  let v304 : BitVec 32 := Scalar.muli v87 c8_i32_245
  let c1_i32_246 : BitVec 32 := 1#32
  let v305 : BitVec 32 := Scalar.addi v2 c1_i32_246
  let c4_i32_247 : BitVec 32 := 4#32
  let v306 : BitVec 32 := Scalar.addi v305 c4_i32_247
  let c8_i32_248 : BitVec 32 := 8#32
  let v307 : BitVec 32 := Scalar.remsi v306 c8_i32_248
  let v308 : BitVec 32 := Scalar.addi v304 v307
  let v309 : BitVec 32 := Scalar.subi v308 v2
  let c32_i32_249 : BitVec 32 := 32#32
  let v310 : BitVec 32 := Scalar.addi v309 c32_i32_249
  let c32_i32_250 : BitVec 32 := 32#32
  let v311 : BitVec 32 := Scalar.remsi v310 c32_i32_250
  let c0_i32_253 : BitVec 32 := 0#32
  let v315 : BitVec 1 := Scalar.cmpi .eq v311 c0_i32_253
  let v316 : BitVec 32 := Scalar.extui v315
  let c0_i32_254 : BitVec 32 := 0#32
  let v317 : BitVec 1 := Scalar.cmpi .ne v316 c0_i32_254
  v317

def k0_off26 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_245 : BitVec 32 := 8#32
  let v304 : BitVec 32 := Scalar.muli v87 c8_i32_245
  let c1_i32_246 : BitVec 32 := 1#32
  let v305 : BitVec 32 := Scalar.addi v2 c1_i32_246
  let c4_i32_247 : BitVec 32 := 4#32
  let v306 : BitVec 32 := Scalar.addi v305 c4_i32_247
  let c8_i32_248 : BitVec 32 := 8#32
  let v307 : BitVec 32 := Scalar.remsi v306 c8_i32_248
  let v308 : BitVec 32 := Scalar.addi v304 v307
  let v1681 : Index := Scalar.indexCast v308
  let c0_1453 : Index := 0#32
  let c0_1454 : Index := 0#32
  ![v1681.toNat, 0, 0]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond11 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_255 : BitVec 32 := 8#32
  let v318 : BitVec 32 := Scalar.muli v87 c8_i32_255
  let c1_i32_256 : BitVec 32 := 1#32
  let v319 : BitVec 32 := Scalar.addi v2 c1_i32_256
  let c5_i32_257 : BitVec 32 := 5#32
  let v320 : BitVec 32 := Scalar.addi v319 c5_i32_257
  let c8_i32_258 : BitVec 32 := 8#32
  let v321 : BitVec 32 := Scalar.remsi v320 c8_i32_258
  let v322 : BitVec 32 := Scalar.addi v318 v321
  let v323 : BitVec 32 := Scalar.subi v322 v2
  let c32_i32_259 : BitVec 32 := 32#32
  let v324 : BitVec 32 := Scalar.addi v323 c32_i32_259
  let c32_i32_260 : BitVec 32 := 32#32
  let v325 : BitVec 32 := Scalar.remsi v324 c32_i32_260
  let c0_i32_261 : BitVec 32 := 0#32
  let v326 : BitVec 1 := Scalar.cmpi .ne v325 c0_i32_261
  let v327 : BitVec 32 := Scalar.extui v326
  let c0_i32_262 : BitVec 32 := 0#32
  let v328 : BitVec 1 := Scalar.cmpi .ne v327 c0_i32_262
  v328

def k0_off28 (d0 : Dev nD) : Fin 1 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_255 : BitVec 32 := 8#32
  let v318 : BitVec 32 := Scalar.muli v87 c8_i32_255
  let c1_i32_256 : BitVec 32 := 1#32
  let v319 : BitVec 32 := Scalar.addi v2 c1_i32_256
  let c5_i32_257 : BitVec 32 := 5#32
  let v320 : BitVec 32 := Scalar.addi v319 c5_i32_257
  let c8_i32_258 : BitVec 32 := 8#32
  let v321 : BitVec 32 := Scalar.remsi v320 c8_i32_258
  let v322 : BitVec 32 := Scalar.addi v318 v321
  let v323 : BitVec 32 := Scalar.subi v322 v2
  let c32_i32_259 : BitVec 32 := 32#32
  let v324 : BitVec 32 := Scalar.addi v323 c32_i32_259
  let c32_i32_260 : BitVec 32 := 32#32
  let v325 : BitVec 32 := Scalar.remsi v324 c32_i32_260
  let c1_i32_1453 : BitVec 32 := 1#32
  let v1681 : BitVec 32 := Scalar.subi v325 c1_i32_1453
  ![v1681.toNat]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off30 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_255 : BitVec 32 := 8#32
  let v318 : BitVec 32 := Scalar.muli v87 c8_i32_255
  let c1_i32_256 : BitVec 32 := 1#32
  let v319 : BitVec 32 := Scalar.addi v2 c1_i32_256
  let c5_i32_257 : BitVec 32 := 5#32
  let v320 : BitVec 32 := Scalar.addi v319 c5_i32_257
  let c8_i32_258 : BitVec 32 := 8#32
  let v321 : BitVec 32 := Scalar.remsi v320 c8_i32_258
  let v322 : BitVec 32 := Scalar.addi v318 v321
  let c0_i32_1459 : BitVec 32 := 0#32
  let c0_i32_1460 : BitVec 32 := 0#32
  ![v322.toNat, 0, 0]
def k0_dev38 (d0 : Dev nD) : Nat :=
  let c0_i32_1456 : BitVec 32 := 0#32
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_255 : BitVec 32 := 8#32
  let v318 : BitVec 32 := Scalar.muli v87 c8_i32_255
  let c1_i32_256 : BitVec 32 := 1#32
  let v319 : BitVec 32 := Scalar.addi v2 c1_i32_256
  let c5_i32_257 : BitVec 32 := 5#32
  let v320 : BitVec 32 := Scalar.addi v319 c5_i32_257
  let c8_i32_258 : BitVec 32 := 8#32
  let v321 : BitVec 32 := Scalar.remsi v320 c8_i32_258
  let v322 : BitVec 32 := Scalar.addi v318 v321
  let c1_i32_1455 : BitVec 32 := 1#32
  let v1683 : BitVec 32 := Scalar.muli v322 c1_i32_1455
  let v1684 : BitVec 32 := Scalar.addi c0_i32_1456 v1683
  v1684.toNat
def k0_cond12 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_255 : BitVec 32 := 8#32
  let v318 : BitVec 32 := Scalar.muli v87 c8_i32_255
  let c1_i32_256 : BitVec 32 := 1#32
  let v319 : BitVec 32 := Scalar.addi v2 c1_i32_256
  let c5_i32_257 : BitVec 32 := 5#32
  let v320 : BitVec 32 := Scalar.addi v319 c5_i32_257
  let c8_i32_258 : BitVec 32 := 8#32
  let v321 : BitVec 32 := Scalar.remsi v320 c8_i32_258
  let v322 : BitVec 32 := Scalar.addi v318 v321
  let v323 : BitVec 32 := Scalar.subi v322 v2
  let c32_i32_259 : BitVec 32 := 32#32
  let v324 : BitVec 32 := Scalar.addi v323 c32_i32_259
  let c32_i32_260 : BitVec 32 := 32#32
  let v325 : BitVec 32 := Scalar.remsi v324 c32_i32_260
  let c0_i32_263 : BitVec 32 := 0#32
  let v329 : BitVec 1 := Scalar.cmpi .eq v325 c0_i32_263
  let v330 : BitVec 32 := Scalar.extui v329
  let c0_i32_264 : BitVec 32 := 0#32
  let v331 : BitVec 1 := Scalar.cmpi .ne v330 c0_i32_264
  v331

def k0_off31 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_255 : BitVec 32 := 8#32
  let v318 : BitVec 32 := Scalar.muli v87 c8_i32_255
  let c1_i32_256 : BitVec 32 := 1#32
  let v319 : BitVec 32 := Scalar.addi v2 c1_i32_256
  let c5_i32_257 : BitVec 32 := 5#32
  let v320 : BitVec 32 := Scalar.addi v319 c5_i32_257
  let c8_i32_258 : BitVec 32 := 8#32
  let v321 : BitVec 32 := Scalar.remsi v320 c8_i32_258
  let v322 : BitVec 32 := Scalar.addi v318 v321
  let v1681 : Index := Scalar.indexCast v322
  let c0_1453 : Index := 0#32
  let c0_1454 : Index := 0#32
  ![v1681.toNat, 0, 0]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond13 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_265 : BitVec 32 := 8#32
  let v332 : BitVec 32 := Scalar.muli v87 c8_i32_265
  let c1_i32_266 : BitVec 32 := 1#32
  let v333 : BitVec 32 := Scalar.addi v2 c1_i32_266
  let c6_i32_267 : BitVec 32 := 6#32
  let v334 : BitVec 32 := Scalar.addi v333 c6_i32_267
  let c8_i32_268 : BitVec 32 := 8#32
  let v335 : BitVec 32 := Scalar.remsi v334 c8_i32_268
  let v336 : BitVec 32 := Scalar.addi v332 v335
  let v337 : BitVec 32 := Scalar.subi v336 v2
  let c32_i32_269 : BitVec 32 := 32#32
  let v338 : BitVec 32 := Scalar.addi v337 c32_i32_269
  let c32_i32_270 : BitVec 32 := 32#32
  let v339 : BitVec 32 := Scalar.remsi v338 c32_i32_270
  let c0_i32_271 : BitVec 32 := 0#32
  let v340 : BitVec 1 := Scalar.cmpi .ne v339 c0_i32_271
  let v341 : BitVec 32 := Scalar.extui v340
  let c0_i32_272 : BitVec 32 := 0#32
  let v342 : BitVec 1 := Scalar.cmpi .ne v341 c0_i32_272
  v342

def k0_off33 (d0 : Dev nD) : Fin 1 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_265 : BitVec 32 := 8#32
  let v332 : BitVec 32 := Scalar.muli v87 c8_i32_265
  let c1_i32_266 : BitVec 32 := 1#32
  let v333 : BitVec 32 := Scalar.addi v2 c1_i32_266
  let c6_i32_267 : BitVec 32 := 6#32
  let v334 : BitVec 32 := Scalar.addi v333 c6_i32_267
  let c8_i32_268 : BitVec 32 := 8#32
  let v335 : BitVec 32 := Scalar.remsi v334 c8_i32_268
  let v336 : BitVec 32 := Scalar.addi v332 v335
  let v337 : BitVec 32 := Scalar.subi v336 v2
  let c32_i32_269 : BitVec 32 := 32#32
  let v338 : BitVec 32 := Scalar.addi v337 c32_i32_269
  let c32_i32_270 : BitVec 32 := 32#32
  let v339 : BitVec 32 := Scalar.remsi v338 c32_i32_270
  let c1_i32_1453 : BitVec 32 := 1#32
  let v1681 : BitVec 32 := Scalar.subi v339 c1_i32_1453
  ![v1681.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off35 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_265 : BitVec 32 := 8#32
  let v332 : BitVec 32 := Scalar.muli v87 c8_i32_265
  let c1_i32_266 : BitVec 32 := 1#32
  let v333 : BitVec 32 := Scalar.addi v2 c1_i32_266
  let c6_i32_267 : BitVec 32 := 6#32
  let v334 : BitVec 32 := Scalar.addi v333 c6_i32_267
  let c8_i32_268 : BitVec 32 := 8#32
  let v335 : BitVec 32 := Scalar.remsi v334 c8_i32_268
  let v336 : BitVec 32 := Scalar.addi v332 v335
  let c0_i32_1459 : BitVec 32 := 0#32
  let c0_i32_1460 : BitVec 32 := 0#32
  ![v336.toNat, 0, 0]
def k0_dev39 (d0 : Dev nD) : Nat :=
  let c0_i32_1456 : BitVec 32 := 0#32
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_265 : BitVec 32 := 8#32
  let v332 : BitVec 32 := Scalar.muli v87 c8_i32_265
  let c1_i32_266 : BitVec 32 := 1#32
  let v333 : BitVec 32 := Scalar.addi v2 c1_i32_266
  let c6_i32_267 : BitVec 32 := 6#32
  let v334 : BitVec 32 := Scalar.addi v333 c6_i32_267
  let c8_i32_268 : BitVec 32 := 8#32
  let v335 : BitVec 32 := Scalar.remsi v334 c8_i32_268
  let v336 : BitVec 32 := Scalar.addi v332 v335
  let c1_i32_1455 : BitVec 32 := 1#32
  let v1683 : BitVec 32 := Scalar.muli v336 c1_i32_1455
  let v1684 : BitVec 32 := Scalar.addi c0_i32_1456 v1683
  v1684.toNat
def k0_cond14 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_265 : BitVec 32 := 8#32
  let v332 : BitVec 32 := Scalar.muli v87 c8_i32_265
  let c1_i32_266 : BitVec 32 := 1#32
  let v333 : BitVec 32 := Scalar.addi v2 c1_i32_266
  let c6_i32_267 : BitVec 32 := 6#32
  let v334 : BitVec 32 := Scalar.addi v333 c6_i32_267
  let c8_i32_268 : BitVec 32 := 8#32
  let v335 : BitVec 32 := Scalar.remsi v334 c8_i32_268
  let v336 : BitVec 32 := Scalar.addi v332 v335
  let v337 : BitVec 32 := Scalar.subi v336 v2
  let c32_i32_269 : BitVec 32 := 32#32
  let v338 : BitVec 32 := Scalar.addi v337 c32_i32_269
  let c32_i32_270 : BitVec 32 := 32#32
  let v339 : BitVec 32 := Scalar.remsi v338 c32_i32_270
  let c0_i32_273 : BitVec 32 := 0#32
  let v343 : BitVec 1 := Scalar.cmpi .eq v339 c0_i32_273
  let v344 : BitVec 32 := Scalar.extui v343
  let c0_i32_274 : BitVec 32 := 0#32
  let v345 : BitVec 1 := Scalar.cmpi .ne v344 c0_i32_274
  v345

def k0_off36 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_265 : BitVec 32 := 8#32
  let v332 : BitVec 32 := Scalar.muli v87 c8_i32_265
  let c1_i32_266 : BitVec 32 := 1#32
  let v333 : BitVec 32 := Scalar.addi v2 c1_i32_266
  let c6_i32_267 : BitVec 32 := 6#32
  let v334 : BitVec 32 := Scalar.addi v333 c6_i32_267
  let c8_i32_268 : BitVec 32 := 8#32
  let v335 : BitVec 32 := Scalar.remsi v334 c8_i32_268
  let v336 : BitVec 32 := Scalar.addi v332 v335
  let v1681 : Index := Scalar.indexCast v336
  let c0_1453 : Index := 0#32
  let c0_1454 : Index := 0#32
  ![v1681.toNat, 0, 0]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond15 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_275 : BitVec 32 := 8#32
  let v346 : BitVec 32 := Scalar.muli v87 c8_i32_275
  let c1_i32_276 : BitVec 32 := 1#32
  let v347 : BitVec 32 := Scalar.addi v2 c1_i32_276
  let c7_i32_277 : BitVec 32 := 7#32
  let v348 : BitVec 32 := Scalar.addi v347 c7_i32_277
  let c8_i32_278 : BitVec 32 := 8#32
  let v349 : BitVec 32 := Scalar.remsi v348 c8_i32_278
  let v350 : BitVec 32 := Scalar.addi v346 v349
  let v351 : BitVec 32 := Scalar.subi v350 v2
  let c32_i32_279 : BitVec 32 := 32#32
  let v352 : BitVec 32 := Scalar.addi v351 c32_i32_279
  let c32_i32_280 : BitVec 32 := 32#32
  let v353 : BitVec 32 := Scalar.remsi v352 c32_i32_280
  let c0_i32_281 : BitVec 32 := 0#32
  let v354 : BitVec 1 := Scalar.cmpi .ne v353 c0_i32_281
  let v355 : BitVec 32 := Scalar.extui v354
  let c0_i32_282 : BitVec 32 := 0#32
  let v356 : BitVec 1 := Scalar.cmpi .ne v355 c0_i32_282
  v356

def k0_off38 (d0 : Dev nD) : Fin 1 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_275 : BitVec 32 := 8#32
  let v346 : BitVec 32 := Scalar.muli v87 c8_i32_275
  let c1_i32_276 : BitVec 32 := 1#32
  let v347 : BitVec 32 := Scalar.addi v2 c1_i32_276
  let c7_i32_277 : BitVec 32 := 7#32
  let v348 : BitVec 32 := Scalar.addi v347 c7_i32_277
  let c8_i32_278 : BitVec 32 := 8#32
  let v349 : BitVec 32 := Scalar.remsi v348 c8_i32_278
  let v350 : BitVec 32 := Scalar.addi v346 v349
  let v351 : BitVec 32 := Scalar.subi v350 v2
  let c32_i32_279 : BitVec 32 := 32#32
  let v352 : BitVec 32 := Scalar.addi v351 c32_i32_279
  let c32_i32_280 : BitVec 32 := 32#32
  let v353 : BitVec 32 := Scalar.remsi v352 c32_i32_280
  let c1_i32_1453 : BitVec 32 := 1#32
  let v1681 : BitVec 32 := Scalar.subi v353 c1_i32_1453
  ![v1681.toNat]
def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off40 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_275 : BitVec 32 := 8#32
  let v346 : BitVec 32 := Scalar.muli v87 c8_i32_275
  let c1_i32_276 : BitVec 32 := 1#32
  let v347 : BitVec 32 := Scalar.addi v2 c1_i32_276
  let c7_i32_277 : BitVec 32 := 7#32
  let v348 : BitVec 32 := Scalar.addi v347 c7_i32_277
  let c8_i32_278 : BitVec 32 := 8#32
  let v349 : BitVec 32 := Scalar.remsi v348 c8_i32_278
  let v350 : BitVec 32 := Scalar.addi v346 v349
  let c0_i32_1459 : BitVec 32 := 0#32
  let c0_i32_1460 : BitVec 32 := 0#32
  ![v350.toNat, 0, 0]
def k0_dev40 (d0 : Dev nD) : Nat :=
  let c0_i32_1456 : BitVec 32 := 0#32
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_275 : BitVec 32 := 8#32
  let v346 : BitVec 32 := Scalar.muli v87 c8_i32_275
  let c1_i32_276 : BitVec 32 := 1#32
  let v347 : BitVec 32 := Scalar.addi v2 c1_i32_276
  let c7_i32_277 : BitVec 32 := 7#32
  let v348 : BitVec 32 := Scalar.addi v347 c7_i32_277
  let c8_i32_278 : BitVec 32 := 8#32
  let v349 : BitVec 32 := Scalar.remsi v348 c8_i32_278
  let v350 : BitVec 32 := Scalar.addi v346 v349
  let c1_i32_1455 : BitVec 32 := 1#32
  let v1683 : BitVec 32 := Scalar.muli v350 c1_i32_1455
  let v1684 : BitVec 32 := Scalar.addi c0_i32_1456 v1683
  v1684.toNat
def k0_cond16 (d0 : Dev nD) : BitVec 1 :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_275 : BitVec 32 := 8#32
  let v346 : BitVec 32 := Scalar.muli v87 c8_i32_275
  let c1_i32_276 : BitVec 32 := 1#32
  let v347 : BitVec 32 := Scalar.addi v2 c1_i32_276
  let c7_i32_277 : BitVec 32 := 7#32
  let v348 : BitVec 32 := Scalar.addi v347 c7_i32_277
  let c8_i32_278 : BitVec 32 := 8#32
  let v349 : BitVec 32 := Scalar.remsi v348 c8_i32_278
  let v350 : BitVec 32 := Scalar.addi v346 v349
  let v351 : BitVec 32 := Scalar.subi v350 v2
  let c32_i32_279 : BitVec 32 := 32#32
  let v352 : BitVec 32 := Scalar.addi v351 c32_i32_279
  let c32_i32_280 : BitVec 32 := 32#32
  let v353 : BitVec 32 := Scalar.remsi v352 c32_i32_280
  let c0_i32_283 : BitVec 32 := 0#32
  let v357 : BitVec 1 := Scalar.cmpi .eq v353 c0_i32_283
  let v358 : BitVec 32 := Scalar.extui v357
  let c0_i32_284 : BitVec 32 := 0#32
  let v359 : BitVec 1 := Scalar.cmpi .ne v358 c0_i32_284
  v359

def k0_off41 (d0 : Dev nD) : Fin 3 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_98 : BitVec 32 := 0#32
  let v69 : BitVec 1 := Scalar.cmpi .sgt v2 c0_i32_98
  let v70 : BitVec 32 := Scalar.extui v69
  let c0_i32_99 : BitVec 32 := 0#32
  let v71 : BitVec 1 := Scalar.cmpi .slt v2 c0_i32_99
  let v72 : BitVec 32 := Scalar.extui v71
  let v73 : BitVec 32 := Scalar.subi v70 v72
  let c8_i32_97 : BitVec 32 := 8#32
  let c0_i32_100 : BitVec 32 := 0#32
  let v74 : BitVec 1 := Scalar.cmpi .sgt c8_i32_97 c0_i32_100
  let v75 : BitVec 32 := Scalar.extui v74
  let c0_i32_101 : BitVec 32 := 0#32
  let v76 : BitVec 1 := Scalar.cmpi .slt c8_i32_97 c0_i32_101
  let v77 : BitVec 32 := Scalar.extui v76
  let v78 : BitVec 32 := Scalar.subi v75 v77
  let v79 : BitVec 1 := Scalar.cmpi .ne v73 v78
  let v80 : BitVec 32 := Scalar.remsi v2 c8_i32_97
  let c0_i32_102 : BitVec 32 := 0#32
  let v81 : BitVec 1 := Scalar.cmpi .ne v80 c0_i32_102
  let v82 : BitVec 1 := Scalar.andi v79 v81
  let v68 : BitVec 32 := Scalar.divsi v2 c8_i32_97
  let c1_i32_103 : BitVec 32 := 1#32
  let v83 : BitVec 32 := Scalar.subi v68 c1_i32_103
  let v84 : BitVec 32 := Scalar.select v82 v83 v68
  let v85 : BitVec 32 := Scalar.addi c0_i32_104 v84
  let c1_i32_105 : BitVec 32 := 1#32
  let v86 : BitVec 32 := Scalar.addi v85 c1_i32_105
  let c4_i32_106 : BitVec 32 := 4#32
  let v87 : BitVec 32 := Scalar.remsi v86 c4_i32_106
  let c8_i32_275 : BitVec 32 := 8#32
  let v346 : BitVec 32 := Scalar.muli v87 c8_i32_275
  let c1_i32_276 : BitVec 32 := 1#32
  let v347 : BitVec 32 := Scalar.addi v2 c1_i32_276
  let c7_i32_277 : BitVec 32 := 7#32
  let v348 : BitVec 32 := Scalar.addi v347 c7_i32_277
  let c8_i32_278 : BitVec 32 := 8#32
  let v349 : BitVec 32 := Scalar.remsi v348 c8_i32_278
  let v350 : BitVec 32 := Scalar.addi v346 v349
  let v1681 : Index := Scalar.indexCast v350
  let c0_1453 : Index := 0#32
  let c0_1454 : Index := 0#32
  ![v1681.toNat, 0, 0]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond17 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_326 : BitVec 32 := 8#32
  let v430 : BitVec 32 := Scalar.muli v113 c8_i32_326
  let c1_i32_327 : BitVec 32 := 1#32
  let v431 : BitVec 32 := Scalar.addi v2 c1_i32_327
  let c0_i32_328 : BitVec 32 := 0#32
  let v432 : BitVec 32 := Scalar.addi v431 c0_i32_328
  let c8_i32_329 : BitVec 32 := 8#32
  let v433 : BitVec 32 := Scalar.remsi v432 c8_i32_329
  let v434 : BitVec 32 := Scalar.addi v430 v433
  let v435 : BitVec 32 := Scalar.subi v434 v2
  let c32_i32_330 : BitVec 32 := 32#32
  let v436 : BitVec 32 := Scalar.addi v435 c32_i32_330
  let c32_i32_331 : BitVec 32 := 32#32
  let v437 : BitVec 32 := Scalar.remsi v436 c32_i32_331
  let c0_i32_332 : BitVec 32 := 0#32
  let v438 : BitVec 1 := Scalar.cmpi .ne v437 c0_i32_332
  let v439 : BitVec 32 := Scalar.extui v438
  let c0_i32_333 : BitVec 32 := 0#32
  let v440 : BitVec 1 := Scalar.cmpi .ne v439 c0_i32_333
  v440

def k0_off43 (d0 : Dev nD) : Fin 1 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_326 : BitVec 32 := 8#32
  let v430 : BitVec 32 := Scalar.muli v113 c8_i32_326
  let c1_i32_327 : BitVec 32 := 1#32
  let v431 : BitVec 32 := Scalar.addi v2 c1_i32_327
  let c0_i32_328 : BitVec 32 := 0#32
  let v432 : BitVec 32 := Scalar.addi v431 c0_i32_328
  let c8_i32_329 : BitVec 32 := 8#32
  let v433 : BitVec 32 := Scalar.remsi v432 c8_i32_329
  let v434 : BitVec 32 := Scalar.addi v430 v433
  let v435 : BitVec 32 := Scalar.subi v434 v2
  let c32_i32_330 : BitVec 32 := 32#32
  let v436 : BitVec 32 := Scalar.addi v435 c32_i32_330
  let c32_i32_331 : BitVec 32 := 32#32
  let v437 : BitVec 32 := Scalar.remsi v436 c32_i32_331
  let c1_i32_1453 : BitVec 32 := 1#32
  let v1681 : BitVec 32 := Scalar.subi v437 c1_i32_1453
  ![v1681.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off45 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_326 : BitVec 32 := 8#32
  let v430 : BitVec 32 := Scalar.muli v113 c8_i32_326
  let c1_i32_327 : BitVec 32 := 1#32
  let v431 : BitVec 32 := Scalar.addi v2 c1_i32_327
  let c0_i32_328 : BitVec 32 := 0#32
  let v432 : BitVec 32 := Scalar.addi v431 c0_i32_328
  let c8_i32_329 : BitVec 32 := 8#32
  let v433 : BitVec 32 := Scalar.remsi v432 c8_i32_329
  let v434 : BitVec 32 := Scalar.addi v430 v433
  let c0_i32_1459 : BitVec 32 := 0#32
  let c0_i32_1460 : BitVec 32 := 0#32
  ![v434.toNat, 0, 0]
def k0_dev41 (d0 : Dev nD) : Nat :=
  let c0_i32_1456 : BitVec 32 := 0#32
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_326 : BitVec 32 := 8#32
  let v430 : BitVec 32 := Scalar.muli v113 c8_i32_326
  let c1_i32_327 : BitVec 32 := 1#32
  let v431 : BitVec 32 := Scalar.addi v2 c1_i32_327
  let c0_i32_328 : BitVec 32 := 0#32
  let v432 : BitVec 32 := Scalar.addi v431 c0_i32_328
  let c8_i32_329 : BitVec 32 := 8#32
  let v433 : BitVec 32 := Scalar.remsi v432 c8_i32_329
  let v434 : BitVec 32 := Scalar.addi v430 v433
  let c1_i32_1455 : BitVec 32 := 1#32
  let v1683 : BitVec 32 := Scalar.muli v434 c1_i32_1455
  let v1684 : BitVec 32 := Scalar.addi c0_i32_1456 v1683
  v1684.toNat
def k0_cond18 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_326 : BitVec 32 := 8#32
  let v430 : BitVec 32 := Scalar.muli v113 c8_i32_326
  let c1_i32_327 : BitVec 32 := 1#32
  let v431 : BitVec 32 := Scalar.addi v2 c1_i32_327
  let c0_i32_328 : BitVec 32 := 0#32
  let v432 : BitVec 32 := Scalar.addi v431 c0_i32_328
  let c8_i32_329 : BitVec 32 := 8#32
  let v433 : BitVec 32 := Scalar.remsi v432 c8_i32_329
  let v434 : BitVec 32 := Scalar.addi v430 v433
  let v435 : BitVec 32 := Scalar.subi v434 v2
  let c32_i32_330 : BitVec 32 := 32#32
  let v436 : BitVec 32 := Scalar.addi v435 c32_i32_330
  let c32_i32_331 : BitVec 32 := 32#32
  let v437 : BitVec 32 := Scalar.remsi v436 c32_i32_331
  let c0_i32_334 : BitVec 32 := 0#32
  let v441 : BitVec 1 := Scalar.cmpi .eq v437 c0_i32_334
  let v442 : BitVec 32 := Scalar.extui v441
  let c0_i32_335 : BitVec 32 := 0#32
  let v443 : BitVec 1 := Scalar.cmpi .ne v442 c0_i32_335
  v443

def k0_off46 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_326 : BitVec 32 := 8#32
  let v430 : BitVec 32 := Scalar.muli v113 c8_i32_326
  let c1_i32_327 : BitVec 32 := 1#32
  let v431 : BitVec 32 := Scalar.addi v2 c1_i32_327
  let c0_i32_328 : BitVec 32 := 0#32
  let v432 : BitVec 32 := Scalar.addi v431 c0_i32_328
  let c8_i32_329 : BitVec 32 := 8#32
  let v433 : BitVec 32 := Scalar.remsi v432 c8_i32_329
  let v434 : BitVec 32 := Scalar.addi v430 v433
  let v1681 : Index := Scalar.indexCast v434
  let c0_1453 : Index := 0#32
  let c0_1454 : Index := 0#32
  ![v1681.toNat, 0, 0]
def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond19 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_336 : BitVec 32 := 8#32
  let v444 : BitVec 32 := Scalar.muli v113 c8_i32_336
  let c1_i32_337 : BitVec 32 := 1#32
  let v445 : BitVec 32 := Scalar.addi v2 c1_i32_337
  let c1_i32_338 : BitVec 32 := 1#32
  let v446 : BitVec 32 := Scalar.addi v445 c1_i32_338
  let c8_i32_339 : BitVec 32 := 8#32
  let v447 : BitVec 32 := Scalar.remsi v446 c8_i32_339
  let v448 : BitVec 32 := Scalar.addi v444 v447
  let v449 : BitVec 32 := Scalar.subi v448 v2
  let c32_i32_340 : BitVec 32 := 32#32
  let v450 : BitVec 32 := Scalar.addi v449 c32_i32_340
  let c32_i32_341 : BitVec 32 := 32#32
  let v451 : BitVec 32 := Scalar.remsi v450 c32_i32_341
  let c0_i32_342 : BitVec 32 := 0#32
  let v452 : BitVec 1 := Scalar.cmpi .ne v451 c0_i32_342
  let v453 : BitVec 32 := Scalar.extui v452
  let c0_i32_343 : BitVec 32 := 0#32
  let v454 : BitVec 1 := Scalar.cmpi .ne v453 c0_i32_343
  v454

def k0_off48 (d0 : Dev nD) : Fin 1 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_336 : BitVec 32 := 8#32
  let v444 : BitVec 32 := Scalar.muli v113 c8_i32_336
  let c1_i32_337 : BitVec 32 := 1#32
  let v445 : BitVec 32 := Scalar.addi v2 c1_i32_337
  let c1_i32_338 : BitVec 32 := 1#32
  let v446 : BitVec 32 := Scalar.addi v445 c1_i32_338
  let c8_i32_339 : BitVec 32 := 8#32
  let v447 : BitVec 32 := Scalar.remsi v446 c8_i32_339
  let v448 : BitVec 32 := Scalar.addi v444 v447
  let v449 : BitVec 32 := Scalar.subi v448 v2
  let c32_i32_340 : BitVec 32 := 32#32
  let v450 : BitVec 32 := Scalar.addi v449 c32_i32_340
  let c32_i32_341 : BitVec 32 := 32#32
  let v451 : BitVec 32 := Scalar.remsi v450 c32_i32_341
  let c1_i32_1453 : BitVec 32 := 1#32
  let v1681 : BitVec 32 := Scalar.subi v451 c1_i32_1453
  ![v1681.toNat]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off50 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_336 : BitVec 32 := 8#32
  let v444 : BitVec 32 := Scalar.muli v113 c8_i32_336
  let c1_i32_337 : BitVec 32 := 1#32
  let v445 : BitVec 32 := Scalar.addi v2 c1_i32_337
  let c1_i32_338 : BitVec 32 := 1#32
  let v446 : BitVec 32 := Scalar.addi v445 c1_i32_338
  let c8_i32_339 : BitVec 32 := 8#32
  let v447 : BitVec 32 := Scalar.remsi v446 c8_i32_339
  let v448 : BitVec 32 := Scalar.addi v444 v447
  let c0_i32_1459 : BitVec 32 := 0#32
  let c0_i32_1460 : BitVec 32 := 0#32
  ![v448.toNat, 0, 0]
def k0_dev42 (d0 : Dev nD) : Nat :=
  let c0_i32_1456 : BitVec 32 := 0#32
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_336 : BitVec 32 := 8#32
  let v444 : BitVec 32 := Scalar.muli v113 c8_i32_336
  let c1_i32_337 : BitVec 32 := 1#32
  let v445 : BitVec 32 := Scalar.addi v2 c1_i32_337
  let c1_i32_338 : BitVec 32 := 1#32
  let v446 : BitVec 32 := Scalar.addi v445 c1_i32_338
  let c8_i32_339 : BitVec 32 := 8#32
  let v447 : BitVec 32 := Scalar.remsi v446 c8_i32_339
  let v448 : BitVec 32 := Scalar.addi v444 v447
  let c1_i32_1455 : BitVec 32 := 1#32
  let v1683 : BitVec 32 := Scalar.muli v448 c1_i32_1455
  let v1684 : BitVec 32 := Scalar.addi c0_i32_1456 v1683
  v1684.toNat
def k0_cond20 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_336 : BitVec 32 := 8#32
  let v444 : BitVec 32 := Scalar.muli v113 c8_i32_336
  let c1_i32_337 : BitVec 32 := 1#32
  let v445 : BitVec 32 := Scalar.addi v2 c1_i32_337
  let c1_i32_338 : BitVec 32 := 1#32
  let v446 : BitVec 32 := Scalar.addi v445 c1_i32_338
  let c8_i32_339 : BitVec 32 := 8#32
  let v447 : BitVec 32 := Scalar.remsi v446 c8_i32_339
  let v448 : BitVec 32 := Scalar.addi v444 v447
  let v449 : BitVec 32 := Scalar.subi v448 v2
  let c32_i32_340 : BitVec 32 := 32#32
  let v450 : BitVec 32 := Scalar.addi v449 c32_i32_340
  let c32_i32_341 : BitVec 32 := 32#32
  let v451 : BitVec 32 := Scalar.remsi v450 c32_i32_341
  let c0_i32_344 : BitVec 32 := 0#32
  let v455 : BitVec 1 := Scalar.cmpi .eq v451 c0_i32_344
  let v456 : BitVec 32 := Scalar.extui v455
  let c0_i32_345 : BitVec 32 := 0#32
  let v457 : BitVec 1 := Scalar.cmpi .ne v456 c0_i32_345
  v457

def k0_off51 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_336 : BitVec 32 := 8#32
  let v444 : BitVec 32 := Scalar.muli v113 c8_i32_336
  let c1_i32_337 : BitVec 32 := 1#32
  let v445 : BitVec 32 := Scalar.addi v2 c1_i32_337
  let c1_i32_338 : BitVec 32 := 1#32
  let v446 : BitVec 32 := Scalar.addi v445 c1_i32_338
  let c8_i32_339 : BitVec 32 := 8#32
  let v447 : BitVec 32 := Scalar.remsi v446 c8_i32_339
  let v448 : BitVec 32 := Scalar.addi v444 v447
  let v1681 : Index := Scalar.indexCast v448
  let c0_1453 : Index := 0#32
  let c0_1454 : Index := 0#32
  ![v1681.toNat, 0, 0]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond21 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_346 : BitVec 32 := 8#32
  let v458 : BitVec 32 := Scalar.muli v113 c8_i32_346
  let c1_i32_347 : BitVec 32 := 1#32
  let v459 : BitVec 32 := Scalar.addi v2 c1_i32_347
  let c2_i32_348 : BitVec 32 := 2#32
  let v460 : BitVec 32 := Scalar.addi v459 c2_i32_348
  let c8_i32_349 : BitVec 32 := 8#32
  let v461 : BitVec 32 := Scalar.remsi v460 c8_i32_349
  let v462 : BitVec 32 := Scalar.addi v458 v461
  let v463 : BitVec 32 := Scalar.subi v462 v2
  let c32_i32_350 : BitVec 32 := 32#32
  let v464 : BitVec 32 := Scalar.addi v463 c32_i32_350
  let c32_i32_351 : BitVec 32 := 32#32
  let v465 : BitVec 32 := Scalar.remsi v464 c32_i32_351
  let c0_i32_352 : BitVec 32 := 0#32
  let v466 : BitVec 1 := Scalar.cmpi .ne v465 c0_i32_352
  let v467 : BitVec 32 := Scalar.extui v466
  let c0_i32_353 : BitVec 32 := 0#32
  let v468 : BitVec 1 := Scalar.cmpi .ne v467 c0_i32_353
  v468

def k0_off53 (d0 : Dev nD) : Fin 1 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_346 : BitVec 32 := 8#32
  let v458 : BitVec 32 := Scalar.muli v113 c8_i32_346
  let c1_i32_347 : BitVec 32 := 1#32
  let v459 : BitVec 32 := Scalar.addi v2 c1_i32_347
  let c2_i32_348 : BitVec 32 := 2#32
  let v460 : BitVec 32 := Scalar.addi v459 c2_i32_348
  let c8_i32_349 : BitVec 32 := 8#32
  let v461 : BitVec 32 := Scalar.remsi v460 c8_i32_349
  let v462 : BitVec 32 := Scalar.addi v458 v461
  let v463 : BitVec 32 := Scalar.subi v462 v2
  let c32_i32_350 : BitVec 32 := 32#32
  let v464 : BitVec 32 := Scalar.addi v463 c32_i32_350
  let c32_i32_351 : BitVec 32 := 32#32
  let v465 : BitVec 32 := Scalar.remsi v464 c32_i32_351
  let c1_i32_1453 : BitVec 32 := 1#32
  let v1681 : BitVec 32 := Scalar.subi v465 c1_i32_1453
  ![v1681.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off55 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_346 : BitVec 32 := 8#32
  let v458 : BitVec 32 := Scalar.muli v113 c8_i32_346
  let c1_i32_347 : BitVec 32 := 1#32
  let v459 : BitVec 32 := Scalar.addi v2 c1_i32_347
  let c2_i32_348 : BitVec 32 := 2#32
  let v460 : BitVec 32 := Scalar.addi v459 c2_i32_348
  let c8_i32_349 : BitVec 32 := 8#32
  let v461 : BitVec 32 := Scalar.remsi v460 c8_i32_349
  let v462 : BitVec 32 := Scalar.addi v458 v461
  let c0_i32_1459 : BitVec 32 := 0#32
  let c0_i32_1460 : BitVec 32 := 0#32
  ![v462.toNat, 0, 0]
def k0_dev43 (d0 : Dev nD) : Nat :=
  let c0_i32_1456 : BitVec 32 := 0#32
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_346 : BitVec 32 := 8#32
  let v458 : BitVec 32 := Scalar.muli v113 c8_i32_346
  let c1_i32_347 : BitVec 32 := 1#32
  let v459 : BitVec 32 := Scalar.addi v2 c1_i32_347
  let c2_i32_348 : BitVec 32 := 2#32
  let v460 : BitVec 32 := Scalar.addi v459 c2_i32_348
  let c8_i32_349 : BitVec 32 := 8#32
  let v461 : BitVec 32 := Scalar.remsi v460 c8_i32_349
  let v462 : BitVec 32 := Scalar.addi v458 v461
  let c1_i32_1455 : BitVec 32 := 1#32
  let v1683 : BitVec 32 := Scalar.muli v462 c1_i32_1455
  let v1684 : BitVec 32 := Scalar.addi c0_i32_1456 v1683
  v1684.toNat
def k0_cond22 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_346 : BitVec 32 := 8#32
  let v458 : BitVec 32 := Scalar.muli v113 c8_i32_346
  let c1_i32_347 : BitVec 32 := 1#32
  let v459 : BitVec 32 := Scalar.addi v2 c1_i32_347
  let c2_i32_348 : BitVec 32 := 2#32
  let v460 : BitVec 32 := Scalar.addi v459 c2_i32_348
  let c8_i32_349 : BitVec 32 := 8#32
  let v461 : BitVec 32 := Scalar.remsi v460 c8_i32_349
  let v462 : BitVec 32 := Scalar.addi v458 v461
  let v463 : BitVec 32 := Scalar.subi v462 v2
  let c32_i32_350 : BitVec 32 := 32#32
  let v464 : BitVec 32 := Scalar.addi v463 c32_i32_350
  let c32_i32_351 : BitVec 32 := 32#32
  let v465 : BitVec 32 := Scalar.remsi v464 c32_i32_351
  let c0_i32_354 : BitVec 32 := 0#32
  let v469 : BitVec 1 := Scalar.cmpi .eq v465 c0_i32_354
  let v470 : BitVec 32 := Scalar.extui v469
  let c0_i32_355 : BitVec 32 := 0#32
  let v471 : BitVec 1 := Scalar.cmpi .ne v470 c0_i32_355
  v471

def k0_off56 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_346 : BitVec 32 := 8#32
  let v458 : BitVec 32 := Scalar.muli v113 c8_i32_346
  let c1_i32_347 : BitVec 32 := 1#32
  let v459 : BitVec 32 := Scalar.addi v2 c1_i32_347
  let c2_i32_348 : BitVec 32 := 2#32
  let v460 : BitVec 32 := Scalar.addi v459 c2_i32_348
  let c8_i32_349 : BitVec 32 := 8#32
  let v461 : BitVec 32 := Scalar.remsi v460 c8_i32_349
  let v462 : BitVec 32 := Scalar.addi v458 v461
  let v1681 : Index := Scalar.indexCast v462
  let c0_1453 : Index := 0#32
  let c0_1454 : Index := 0#32
  ![v1681.toNat, 0, 0]
def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond23 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_356 : BitVec 32 := 8#32
  let v472 : BitVec 32 := Scalar.muli v113 c8_i32_356
  let c1_i32_357 : BitVec 32 := 1#32
  let v473 : BitVec 32 := Scalar.addi v2 c1_i32_357
  let c3_i32_358 : BitVec 32 := 3#32
  let v474 : BitVec 32 := Scalar.addi v473 c3_i32_358
  let c8_i32_359 : BitVec 32 := 8#32
  let v475 : BitVec 32 := Scalar.remsi v474 c8_i32_359
  let v476 : BitVec 32 := Scalar.addi v472 v475
  let v477 : BitVec 32 := Scalar.subi v476 v2
  let c32_i32_360 : BitVec 32 := 32#32
  let v478 : BitVec 32 := Scalar.addi v477 c32_i32_360
  let c32_i32_361 : BitVec 32 := 32#32
  let v479 : BitVec 32 := Scalar.remsi v478 c32_i32_361
  let c0_i32_362 : BitVec 32 := 0#32
  let v480 : BitVec 1 := Scalar.cmpi .ne v479 c0_i32_362
  let v481 : BitVec 32 := Scalar.extui v480
  let c0_i32_363 : BitVec 32 := 0#32
  let v482 : BitVec 1 := Scalar.cmpi .ne v481 c0_i32_363
  v482

def k0_off58 (d0 : Dev nD) : Fin 1 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_356 : BitVec 32 := 8#32
  let v472 : BitVec 32 := Scalar.muli v113 c8_i32_356
  let c1_i32_357 : BitVec 32 := 1#32
  let v473 : BitVec 32 := Scalar.addi v2 c1_i32_357
  let c3_i32_358 : BitVec 32 := 3#32
  let v474 : BitVec 32 := Scalar.addi v473 c3_i32_358
  let c8_i32_359 : BitVec 32 := 8#32
  let v475 : BitVec 32 := Scalar.remsi v474 c8_i32_359
  let v476 : BitVec 32 := Scalar.addi v472 v475
  let v477 : BitVec 32 := Scalar.subi v476 v2
  let c32_i32_360 : BitVec 32 := 32#32
  let v478 : BitVec 32 := Scalar.addi v477 c32_i32_360
  let c32_i32_361 : BitVec 32 := 32#32
  let v479 : BitVec 32 := Scalar.remsi v478 c32_i32_361
  let c1_i32_1453 : BitVec 32 := 1#32
  let v1681 : BitVec 32 := Scalar.subi v479 c1_i32_1453
  ![v1681.toNat]
def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off60 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_356 : BitVec 32 := 8#32
  let v472 : BitVec 32 := Scalar.muli v113 c8_i32_356
  let c1_i32_357 : BitVec 32 := 1#32
  let v473 : BitVec 32 := Scalar.addi v2 c1_i32_357
  let c3_i32_358 : BitVec 32 := 3#32
  let v474 : BitVec 32 := Scalar.addi v473 c3_i32_358
  let c8_i32_359 : BitVec 32 := 8#32
  let v475 : BitVec 32 := Scalar.remsi v474 c8_i32_359
  let v476 : BitVec 32 := Scalar.addi v472 v475
  let c0_i32_1459 : BitVec 32 := 0#32
  let c0_i32_1460 : BitVec 32 := 0#32
  ![v476.toNat, 0, 0]
def k0_dev44 (d0 : Dev nD) : Nat :=
  let c0_i32_1456 : BitVec 32 := 0#32
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_356 : BitVec 32 := 8#32
  let v472 : BitVec 32 := Scalar.muli v113 c8_i32_356
  let c1_i32_357 : BitVec 32 := 1#32
  let v473 : BitVec 32 := Scalar.addi v2 c1_i32_357
  let c3_i32_358 : BitVec 32 := 3#32
  let v474 : BitVec 32 := Scalar.addi v473 c3_i32_358
  let c8_i32_359 : BitVec 32 := 8#32
  let v475 : BitVec 32 := Scalar.remsi v474 c8_i32_359
  let v476 : BitVec 32 := Scalar.addi v472 v475
  let c1_i32_1455 : BitVec 32 := 1#32
  let v1683 : BitVec 32 := Scalar.muli v476 c1_i32_1455
  let v1684 : BitVec 32 := Scalar.addi c0_i32_1456 v1683
  v1684.toNat
def k0_cond24 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_356 : BitVec 32 := 8#32
  let v472 : BitVec 32 := Scalar.muli v113 c8_i32_356
  let c1_i32_357 : BitVec 32 := 1#32
  let v473 : BitVec 32 := Scalar.addi v2 c1_i32_357
  let c3_i32_358 : BitVec 32 := 3#32
  let v474 : BitVec 32 := Scalar.addi v473 c3_i32_358
  let c8_i32_359 : BitVec 32 := 8#32
  let v475 : BitVec 32 := Scalar.remsi v474 c8_i32_359
  let v476 : BitVec 32 := Scalar.addi v472 v475
  let v477 : BitVec 32 := Scalar.subi v476 v2
  let c32_i32_360 : BitVec 32 := 32#32
  let v478 : BitVec 32 := Scalar.addi v477 c32_i32_360
  let c32_i32_361 : BitVec 32 := 32#32
  let v479 : BitVec 32 := Scalar.remsi v478 c32_i32_361
  let c0_i32_364 : BitVec 32 := 0#32
  let v483 : BitVec 1 := Scalar.cmpi .eq v479 c0_i32_364
  let v484 : BitVec 32 := Scalar.extui v483
  let c0_i32_365 : BitVec 32 := 0#32
  let v485 : BitVec 1 := Scalar.cmpi .ne v484 c0_i32_365
  v485

def k0_off61 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_356 : BitVec 32 := 8#32
  let v472 : BitVec 32 := Scalar.muli v113 c8_i32_356
  let c1_i32_357 : BitVec 32 := 1#32
  let v473 : BitVec 32 := Scalar.addi v2 c1_i32_357
  let c3_i32_358 : BitVec 32 := 3#32
  let v474 : BitVec 32 := Scalar.addi v473 c3_i32_358
  let c8_i32_359 : BitVec 32 := 8#32
  let v475 : BitVec 32 := Scalar.remsi v474 c8_i32_359
  let v476 : BitVec 32 := Scalar.addi v472 v475
  let v1681 : Index := Scalar.indexCast v476
  let c0_1453 : Index := 0#32
  let c0_1454 : Index := 0#32
  ![v1681.toNat, 0, 0]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond25 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_366 : BitVec 32 := 8#32
  let v486 : BitVec 32 := Scalar.muli v113 c8_i32_366
  let c1_i32_367 : BitVec 32 := 1#32
  let v487 : BitVec 32 := Scalar.addi v2 c1_i32_367
  let c4_i32_368 : BitVec 32 := 4#32
  let v488 : BitVec 32 := Scalar.addi v487 c4_i32_368
  let c8_i32_369 : BitVec 32 := 8#32
  let v489 : BitVec 32 := Scalar.remsi v488 c8_i32_369
  let v490 : BitVec 32 := Scalar.addi v486 v489
  let v491 : BitVec 32 := Scalar.subi v490 v2
  let c32_i32_370 : BitVec 32 := 32#32
  let v492 : BitVec 32 := Scalar.addi v491 c32_i32_370
  let c32_i32_371 : BitVec 32 := 32#32
  let v493 : BitVec 32 := Scalar.remsi v492 c32_i32_371
  let c0_i32_372 : BitVec 32 := 0#32
  let v494 : BitVec 1 := Scalar.cmpi .ne v493 c0_i32_372
  let v495 : BitVec 32 := Scalar.extui v494
  let c0_i32_373 : BitVec 32 := 0#32
  let v496 : BitVec 1 := Scalar.cmpi .ne v495 c0_i32_373
  v496

def k0_off63 (d0 : Dev nD) : Fin 1 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_366 : BitVec 32 := 8#32
  let v486 : BitVec 32 := Scalar.muli v113 c8_i32_366
  let c1_i32_367 : BitVec 32 := 1#32
  let v487 : BitVec 32 := Scalar.addi v2 c1_i32_367
  let c4_i32_368 : BitVec 32 := 4#32
  let v488 : BitVec 32 := Scalar.addi v487 c4_i32_368
  let c8_i32_369 : BitVec 32 := 8#32
  let v489 : BitVec 32 := Scalar.remsi v488 c8_i32_369
  let v490 : BitVec 32 := Scalar.addi v486 v489
  let v491 : BitVec 32 := Scalar.subi v490 v2
  let c32_i32_370 : BitVec 32 := 32#32
  let v492 : BitVec 32 := Scalar.addi v491 c32_i32_370
  let c32_i32_371 : BitVec 32 := 32#32
  let v493 : BitVec 32 := Scalar.remsi v492 c32_i32_371
  let c1_i32_1453 : BitVec 32 := 1#32
  let v1681 : BitVec 32 := Scalar.subi v493 c1_i32_1453
  ![v1681.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off65 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_366 : BitVec 32 := 8#32
  let v486 : BitVec 32 := Scalar.muli v113 c8_i32_366
  let c1_i32_367 : BitVec 32 := 1#32
  let v487 : BitVec 32 := Scalar.addi v2 c1_i32_367
  let c4_i32_368 : BitVec 32 := 4#32
  let v488 : BitVec 32 := Scalar.addi v487 c4_i32_368
  let c8_i32_369 : BitVec 32 := 8#32
  let v489 : BitVec 32 := Scalar.remsi v488 c8_i32_369
  let v490 : BitVec 32 := Scalar.addi v486 v489
  let c0_i32_1459 : BitVec 32 := 0#32
  let c0_i32_1460 : BitVec 32 := 0#32
  ![v490.toNat, 0, 0]
def k0_dev45 (d0 : Dev nD) : Nat :=
  let c0_i32_1456 : BitVec 32 := 0#32
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_366 : BitVec 32 := 8#32
  let v486 : BitVec 32 := Scalar.muli v113 c8_i32_366
  let c1_i32_367 : BitVec 32 := 1#32
  let v487 : BitVec 32 := Scalar.addi v2 c1_i32_367
  let c4_i32_368 : BitVec 32 := 4#32
  let v488 : BitVec 32 := Scalar.addi v487 c4_i32_368
  let c8_i32_369 : BitVec 32 := 8#32
  let v489 : BitVec 32 := Scalar.remsi v488 c8_i32_369
  let v490 : BitVec 32 := Scalar.addi v486 v489
  let c1_i32_1455 : BitVec 32 := 1#32
  let v1683 : BitVec 32 := Scalar.muli v490 c1_i32_1455
  let v1684 : BitVec 32 := Scalar.addi c0_i32_1456 v1683
  v1684.toNat
def k0_cond26 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_366 : BitVec 32 := 8#32
  let v486 : BitVec 32 := Scalar.muli v113 c8_i32_366
  let c1_i32_367 : BitVec 32 := 1#32
  let v487 : BitVec 32 := Scalar.addi v2 c1_i32_367
  let c4_i32_368 : BitVec 32 := 4#32
  let v488 : BitVec 32 := Scalar.addi v487 c4_i32_368
  let c8_i32_369 : BitVec 32 := 8#32
  let v489 : BitVec 32 := Scalar.remsi v488 c8_i32_369
  let v490 : BitVec 32 := Scalar.addi v486 v489
  let v491 : BitVec 32 := Scalar.subi v490 v2
  let c32_i32_370 : BitVec 32 := 32#32
  let v492 : BitVec 32 := Scalar.addi v491 c32_i32_370
  let c32_i32_371 : BitVec 32 := 32#32
  let v493 : BitVec 32 := Scalar.remsi v492 c32_i32_371
  let c0_i32_374 : BitVec 32 := 0#32
  let v497 : BitVec 1 := Scalar.cmpi .eq v493 c0_i32_374
  let v498 : BitVec 32 := Scalar.extui v497
  let c0_i32_375 : BitVec 32 := 0#32
  let v499 : BitVec 1 := Scalar.cmpi .ne v498 c0_i32_375
  v499

def k0_off66 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_366 : BitVec 32 := 8#32
  let v486 : BitVec 32 := Scalar.muli v113 c8_i32_366
  let c1_i32_367 : BitVec 32 := 1#32
  let v487 : BitVec 32 := Scalar.addi v2 c1_i32_367
  let c4_i32_368 : BitVec 32 := 4#32
  let v488 : BitVec 32 := Scalar.addi v487 c4_i32_368
  let c8_i32_369 : BitVec 32 := 8#32
  let v489 : BitVec 32 := Scalar.remsi v488 c8_i32_369
  let v490 : BitVec 32 := Scalar.addi v486 v489
  let v1681 : Index := Scalar.indexCast v490
  let c0_1453 : Index := 0#32
  let c0_1454 : Index := 0#32
  ![v1681.toNat, 0, 0]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond27 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_376 : BitVec 32 := 8#32
  let v500 : BitVec 32 := Scalar.muli v113 c8_i32_376
  let c1_i32_377 : BitVec 32 := 1#32
  let v501 : BitVec 32 := Scalar.addi v2 c1_i32_377
  let c5_i32_378 : BitVec 32 := 5#32
  let v502 : BitVec 32 := Scalar.addi v501 c5_i32_378
  let c8_i32_379 : BitVec 32 := 8#32
  let v503 : BitVec 32 := Scalar.remsi v502 c8_i32_379
  let v504 : BitVec 32 := Scalar.addi v500 v503
  let v505 : BitVec 32 := Scalar.subi v504 v2
  let c32_i32_380 : BitVec 32 := 32#32
  let v506 : BitVec 32 := Scalar.addi v505 c32_i32_380
  let c32_i32_381 : BitVec 32 := 32#32
  let v507 : BitVec 32 := Scalar.remsi v506 c32_i32_381
  let c0_i32_382 : BitVec 32 := 0#32
  let v508 : BitVec 1 := Scalar.cmpi .ne v507 c0_i32_382
  let v509 : BitVec 32 := Scalar.extui v508
  let c0_i32_383 : BitVec 32 := 0#32
  let v510 : BitVec 1 := Scalar.cmpi .ne v509 c0_i32_383
  v510

def k0_off68 (d0 : Dev nD) : Fin 1 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_376 : BitVec 32 := 8#32
  let v500 : BitVec 32 := Scalar.muli v113 c8_i32_376
  let c1_i32_377 : BitVec 32 := 1#32
  let v501 : BitVec 32 := Scalar.addi v2 c1_i32_377
  let c5_i32_378 : BitVec 32 := 5#32
  let v502 : BitVec 32 := Scalar.addi v501 c5_i32_378
  let c8_i32_379 : BitVec 32 := 8#32
  let v503 : BitVec 32 := Scalar.remsi v502 c8_i32_379
  let v504 : BitVec 32 := Scalar.addi v500 v503
  let v505 : BitVec 32 := Scalar.subi v504 v2
  let c32_i32_380 : BitVec 32 := 32#32
  let v506 : BitVec 32 := Scalar.addi v505 c32_i32_380
  let c32_i32_381 : BitVec 32 := 32#32
  let v507 : BitVec 32 := Scalar.remsi v506 c32_i32_381
  let c1_i32_1453 : BitVec 32 := 1#32
  let v1681 : BitVec 32 := Scalar.subi v507 c1_i32_1453
  ![v1681.toNat]
def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off70 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_376 : BitVec 32 := 8#32
  let v500 : BitVec 32 := Scalar.muli v113 c8_i32_376
  let c1_i32_377 : BitVec 32 := 1#32
  let v501 : BitVec 32 := Scalar.addi v2 c1_i32_377
  let c5_i32_378 : BitVec 32 := 5#32
  let v502 : BitVec 32 := Scalar.addi v501 c5_i32_378
  let c8_i32_379 : BitVec 32 := 8#32
  let v503 : BitVec 32 := Scalar.remsi v502 c8_i32_379
  let v504 : BitVec 32 := Scalar.addi v500 v503
  let c0_i32_1459 : BitVec 32 := 0#32
  let c0_i32_1460 : BitVec 32 := 0#32
  ![v504.toNat, 0, 0]
def k0_dev46 (d0 : Dev nD) : Nat :=
  let c0_i32_1456 : BitVec 32 := 0#32
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_376 : BitVec 32 := 8#32
  let v500 : BitVec 32 := Scalar.muli v113 c8_i32_376
  let c1_i32_377 : BitVec 32 := 1#32
  let v501 : BitVec 32 := Scalar.addi v2 c1_i32_377
  let c5_i32_378 : BitVec 32 := 5#32
  let v502 : BitVec 32 := Scalar.addi v501 c5_i32_378
  let c8_i32_379 : BitVec 32 := 8#32
  let v503 : BitVec 32 := Scalar.remsi v502 c8_i32_379
  let v504 : BitVec 32 := Scalar.addi v500 v503
  let c1_i32_1455 : BitVec 32 := 1#32
  let v1683 : BitVec 32 := Scalar.muli v504 c1_i32_1455
  let v1684 : BitVec 32 := Scalar.addi c0_i32_1456 v1683
  v1684.toNat
def k0_cond28 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_376 : BitVec 32 := 8#32
  let v500 : BitVec 32 := Scalar.muli v113 c8_i32_376
  let c1_i32_377 : BitVec 32 := 1#32
  let v501 : BitVec 32 := Scalar.addi v2 c1_i32_377
  let c5_i32_378 : BitVec 32 := 5#32
  let v502 : BitVec 32 := Scalar.addi v501 c5_i32_378
  let c8_i32_379 : BitVec 32 := 8#32
  let v503 : BitVec 32 := Scalar.remsi v502 c8_i32_379
  let v504 : BitVec 32 := Scalar.addi v500 v503
  let v505 : BitVec 32 := Scalar.subi v504 v2
  let c32_i32_380 : BitVec 32 := 32#32
  let v506 : BitVec 32 := Scalar.addi v505 c32_i32_380
  let c32_i32_381 : BitVec 32 := 32#32
  let v507 : BitVec 32 := Scalar.remsi v506 c32_i32_381
  let c0_i32_384 : BitVec 32 := 0#32
  let v511 : BitVec 1 := Scalar.cmpi .eq v507 c0_i32_384
  let v512 : BitVec 32 := Scalar.extui v511
  let c0_i32_385 : BitVec 32 := 0#32
  let v513 : BitVec 1 := Scalar.cmpi .ne v512 c0_i32_385
  v513

def k0_off71 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_376 : BitVec 32 := 8#32
  let v500 : BitVec 32 := Scalar.muli v113 c8_i32_376
  let c1_i32_377 : BitVec 32 := 1#32
  let v501 : BitVec 32 := Scalar.addi v2 c1_i32_377
  let c5_i32_378 : BitVec 32 := 5#32
  let v502 : BitVec 32 := Scalar.addi v501 c5_i32_378
  let c8_i32_379 : BitVec 32 := 8#32
  let v503 : BitVec 32 := Scalar.remsi v502 c8_i32_379
  let v504 : BitVec 32 := Scalar.addi v500 v503
  let v1681 : Index := Scalar.indexCast v504
  let c0_1453 : Index := 0#32
  let c0_1454 : Index := 0#32
  ![v1681.toNat, 0, 0]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond29 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_386 : BitVec 32 := 8#32
  let v514 : BitVec 32 := Scalar.muli v113 c8_i32_386
  let c1_i32_387 : BitVec 32 := 1#32
  let v515 : BitVec 32 := Scalar.addi v2 c1_i32_387
  let c6_i32_388 : BitVec 32 := 6#32
  let v516 : BitVec 32 := Scalar.addi v515 c6_i32_388
  let c8_i32_389 : BitVec 32 := 8#32
  let v517 : BitVec 32 := Scalar.remsi v516 c8_i32_389
  let v518 : BitVec 32 := Scalar.addi v514 v517
  let v519 : BitVec 32 := Scalar.subi v518 v2
  let c32_i32_390 : BitVec 32 := 32#32
  let v520 : BitVec 32 := Scalar.addi v519 c32_i32_390
  let c32_i32_391 : BitVec 32 := 32#32
  let v521 : BitVec 32 := Scalar.remsi v520 c32_i32_391
  let c0_i32_392 : BitVec 32 := 0#32
  let v522 : BitVec 1 := Scalar.cmpi .ne v521 c0_i32_392
  let v523 : BitVec 32 := Scalar.extui v522
  let c0_i32_393 : BitVec 32 := 0#32
  let v524 : BitVec 1 := Scalar.cmpi .ne v523 c0_i32_393
  v524

def k0_off73 (d0 : Dev nD) : Fin 1 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_386 : BitVec 32 := 8#32
  let v514 : BitVec 32 := Scalar.muli v113 c8_i32_386
  let c1_i32_387 : BitVec 32 := 1#32
  let v515 : BitVec 32 := Scalar.addi v2 c1_i32_387
  let c6_i32_388 : BitVec 32 := 6#32
  let v516 : BitVec 32 := Scalar.addi v515 c6_i32_388
  let c8_i32_389 : BitVec 32 := 8#32
  let v517 : BitVec 32 := Scalar.remsi v516 c8_i32_389
  let v518 : BitVec 32 := Scalar.addi v514 v517
  let v519 : BitVec 32 := Scalar.subi v518 v2
  let c32_i32_390 : BitVec 32 := 32#32
  let v520 : BitVec 32 := Scalar.addi v519 c32_i32_390
  let c32_i32_391 : BitVec 32 := 32#32
  let v521 : BitVec 32 := Scalar.remsi v520 c32_i32_391
  let c1_i32_1453 : BitVec 32 := 1#32
  let v1681 : BitVec 32 := Scalar.subi v521 c1_i32_1453
  ![v1681.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off75 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_386 : BitVec 32 := 8#32
  let v514 : BitVec 32 := Scalar.muli v113 c8_i32_386
  let c1_i32_387 : BitVec 32 := 1#32
  let v515 : BitVec 32 := Scalar.addi v2 c1_i32_387
  let c6_i32_388 : BitVec 32 := 6#32
  let v516 : BitVec 32 := Scalar.addi v515 c6_i32_388
  let c8_i32_389 : BitVec 32 := 8#32
  let v517 : BitVec 32 := Scalar.remsi v516 c8_i32_389
  let v518 : BitVec 32 := Scalar.addi v514 v517
  let c0_i32_1459 : BitVec 32 := 0#32
  let c0_i32_1460 : BitVec 32 := 0#32
  ![v518.toNat, 0, 0]
def k0_dev47 (d0 : Dev nD) : Nat :=
  let c0_i32_1456 : BitVec 32 := 0#32
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_386 : BitVec 32 := 8#32
  let v514 : BitVec 32 := Scalar.muli v113 c8_i32_386
  let c1_i32_387 : BitVec 32 := 1#32
  let v515 : BitVec 32 := Scalar.addi v2 c1_i32_387
  let c6_i32_388 : BitVec 32 := 6#32
  let v516 : BitVec 32 := Scalar.addi v515 c6_i32_388
  let c8_i32_389 : BitVec 32 := 8#32
  let v517 : BitVec 32 := Scalar.remsi v516 c8_i32_389
  let v518 : BitVec 32 := Scalar.addi v514 v517
  let c1_i32_1455 : BitVec 32 := 1#32
  let v1683 : BitVec 32 := Scalar.muli v518 c1_i32_1455
  let v1684 : BitVec 32 := Scalar.addi c0_i32_1456 v1683
  v1684.toNat
def k0_cond30 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_386 : BitVec 32 := 8#32
  let v514 : BitVec 32 := Scalar.muli v113 c8_i32_386
  let c1_i32_387 : BitVec 32 := 1#32
  let v515 : BitVec 32 := Scalar.addi v2 c1_i32_387
  let c6_i32_388 : BitVec 32 := 6#32
  let v516 : BitVec 32 := Scalar.addi v515 c6_i32_388
  let c8_i32_389 : BitVec 32 := 8#32
  let v517 : BitVec 32 := Scalar.remsi v516 c8_i32_389
  let v518 : BitVec 32 := Scalar.addi v514 v517
  let v519 : BitVec 32 := Scalar.subi v518 v2
  let c32_i32_390 : BitVec 32 := 32#32
  let v520 : BitVec 32 := Scalar.addi v519 c32_i32_390
  let c32_i32_391 : BitVec 32 := 32#32
  let v521 : BitVec 32 := Scalar.remsi v520 c32_i32_391
  let c0_i32_394 : BitVec 32 := 0#32
  let v525 : BitVec 1 := Scalar.cmpi .eq v521 c0_i32_394
  let v526 : BitVec 32 := Scalar.extui v525
  let c0_i32_395 : BitVec 32 := 0#32
  let v527 : BitVec 1 := Scalar.cmpi .ne v526 c0_i32_395
  v527

def k0_off76 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_386 : BitVec 32 := 8#32
  let v514 : BitVec 32 := Scalar.muli v113 c8_i32_386
  let c1_i32_387 : BitVec 32 := 1#32
  let v515 : BitVec 32 := Scalar.addi v2 c1_i32_387
  let c6_i32_388 : BitVec 32 := 6#32
  let v516 : BitVec 32 := Scalar.addi v515 c6_i32_388
  let c8_i32_389 : BitVec 32 := 8#32
  let v517 : BitVec 32 := Scalar.remsi v516 c8_i32_389
  let v518 : BitVec 32 := Scalar.addi v514 v517
  let v1681 : Index := Scalar.indexCast v518
  let c0_1453 : Index := 0#32
  let c0_1454 : Index := 0#32
  ![v1681.toNat, 0, 0]
def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond31 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_396 : BitVec 32 := 8#32
  let v528 : BitVec 32 := Scalar.muli v113 c8_i32_396
  let c1_i32_397 : BitVec 32 := 1#32
  let v529 : BitVec 32 := Scalar.addi v2 c1_i32_397
  let c7_i32_398 : BitVec 32 := 7#32
  let v530 : BitVec 32 := Scalar.addi v529 c7_i32_398
  let c8_i32_399 : BitVec 32 := 8#32
  let v531 : BitVec 32 := Scalar.remsi v530 c8_i32_399
  let v532 : BitVec 32 := Scalar.addi v528 v531
  let v533 : BitVec 32 := Scalar.subi v532 v2
  let c32_i32_400 : BitVec 32 := 32#32
  let v534 : BitVec 32 := Scalar.addi v533 c32_i32_400
  let c32_i32_401 : BitVec 32 := 32#32
  let v535 : BitVec 32 := Scalar.remsi v534 c32_i32_401
  let c0_i32_402 : BitVec 32 := 0#32
  let v536 : BitVec 1 := Scalar.cmpi .ne v535 c0_i32_402
  let v537 : BitVec 32 := Scalar.extui v536
  let c0_i32_403 : BitVec 32 := 0#32
  let v538 : BitVec 1 := Scalar.cmpi .ne v537 c0_i32_403
  v538

def k0_off78 (d0 : Dev nD) : Fin 1 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_396 : BitVec 32 := 8#32
  let v528 : BitVec 32 := Scalar.muli v113 c8_i32_396
  let c1_i32_397 : BitVec 32 := 1#32
  let v529 : BitVec 32 := Scalar.addi v2 c1_i32_397
  let c7_i32_398 : BitVec 32 := 7#32
  let v530 : BitVec 32 := Scalar.addi v529 c7_i32_398
  let c8_i32_399 : BitVec 32 := 8#32
  let v531 : BitVec 32 := Scalar.remsi v530 c8_i32_399
  let v532 : BitVec 32 := Scalar.addi v528 v531
  let v533 : BitVec 32 := Scalar.subi v532 v2
  let c32_i32_400 : BitVec 32 := 32#32
  let v534 : BitVec 32 := Scalar.addi v533 c32_i32_400
  let c32_i32_401 : BitVec 32 := 32#32
  let v535 : BitVec 32 := Scalar.remsi v534 c32_i32_401
  let c1_i32_1453 : BitVec 32 := 1#32
  let v1681 : BitVec 32 := Scalar.subi v535 c1_i32_1453
  ![v1681.toNat]
def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off80 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_396 : BitVec 32 := 8#32
  let v528 : BitVec 32 := Scalar.muli v113 c8_i32_396
  let c1_i32_397 : BitVec 32 := 1#32
  let v529 : BitVec 32 := Scalar.addi v2 c1_i32_397
  let c7_i32_398 : BitVec 32 := 7#32
  let v530 : BitVec 32 := Scalar.addi v529 c7_i32_398
  let c8_i32_399 : BitVec 32 := 8#32
  let v531 : BitVec 32 := Scalar.remsi v530 c8_i32_399
  let v532 : BitVec 32 := Scalar.addi v528 v531
  let c0_i32_1459 : BitVec 32 := 0#32
  let c0_i32_1460 : BitVec 32 := 0#32
  ![v532.toNat, 0, 0]
def k0_dev48 (d0 : Dev nD) : Nat :=
  let c0_i32_1456 : BitVec 32 := 0#32
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_396 : BitVec 32 := 8#32
  let v528 : BitVec 32 := Scalar.muli v113 c8_i32_396
  let c1_i32_397 : BitVec 32 := 1#32
  let v529 : BitVec 32 := Scalar.addi v2 c1_i32_397
  let c7_i32_398 : BitVec 32 := 7#32
  let v530 : BitVec 32 := Scalar.addi v529 c7_i32_398
  let c8_i32_399 : BitVec 32 := 8#32
  let v531 : BitVec 32 := Scalar.remsi v530 c8_i32_399
  let v532 : BitVec 32 := Scalar.addi v528 v531
  let c1_i32_1455 : BitVec 32 := 1#32
  let v1683 : BitVec 32 := Scalar.muli v532 c1_i32_1455
  let v1684 : BitVec 32 := Scalar.addi c0_i32_1456 v1683
  v1684.toNat
def k0_cond32 (d0 : Dev nD) : BitVec 1 :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_396 : BitVec 32 := 8#32
  let v528 : BitVec 32 := Scalar.muli v113 c8_i32_396
  let c1_i32_397 : BitVec 32 := 1#32
  let v529 : BitVec 32 := Scalar.addi v2 c1_i32_397
  let c7_i32_398 : BitVec 32 := 7#32
  let v530 : BitVec 32 := Scalar.addi v529 c7_i32_398
  let c8_i32_399 : BitVec 32 := 8#32
  let v531 : BitVec 32 := Scalar.remsi v530 c8_i32_399
  let v532 : BitVec 32 := Scalar.addi v528 v531
  let v533 : BitVec 32 := Scalar.subi v532 v2
  let c32_i32_400 : BitVec 32 := 32#32
  let v534 : BitVec 32 := Scalar.addi v533 c32_i32_400
  let c32_i32_401 : BitVec 32 := 32#32
  let v535 : BitVec 32 := Scalar.remsi v534 c32_i32_401
  let c0_i32_404 : BitVec 32 := 0#32
  let v539 : BitVec 1 := Scalar.cmpi .eq v535 c0_i32_404
  let v540 : BitVec 32 := Scalar.extui v539
  let c0_i32_405 : BitVec 32 := 0#32
  let v541 : BitVec 1 := Scalar.cmpi .ne v540 c0_i32_405
  v541

def k0_off81 (d0 : Dev nD) : Fin 3 → Nat :=
  let c1_i32_119 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_113 : BitVec 32 := 0#32
  let v95 : BitVec 1 := Scalar.cmpi .sgt v2 c0_i32_113
  let v96 : BitVec 32 := Scalar.extui v95
  let c0_i32_114 : BitVec 32 := 0#32
  let v97 : BitVec 1 := Scalar.cmpi .slt v2 c0_i32_114
  let v98 : BitVec 32 := Scalar.extui v97
  let v99 : BitVec 32 := Scalar.subi v96 v98
  let c8_i32_112 : BitVec 32 := 8#32
  let c0_i32_115 : BitVec 32 := 0#32
  let v100 : BitVec 1 := Scalar.cmpi .sgt c8_i32_112 c0_i32_115
  let v101 : BitVec 32 := Scalar.extui v100
  let c0_i32_116 : BitVec 32 := 0#32
  let v102 : BitVec 1 := Scalar.cmpi .slt c8_i32_112 c0_i32_116
  let v103 : BitVec 32 := Scalar.extui v102
  let v104 : BitVec 32 := Scalar.subi v101 v103
  let v105 : BitVec 1 := Scalar.cmpi .ne v99 v104
  let v106 : BitVec 32 := Scalar.remsi v2 c8_i32_112
  let c0_i32_117 : BitVec 32 := 0#32
  let v107 : BitVec 1 := Scalar.cmpi .ne v106 c0_i32_117
  let v108 : BitVec 1 := Scalar.andi v105 v107
  let v94 : BitVec 32 := Scalar.divsi v2 c8_i32_112
  let c1_i32_118 : BitVec 32 := 1#32
  let v109 : BitVec 32 := Scalar.subi v94 c1_i32_118
  let v110 : BitVec 32 := Scalar.select v108 v109 v94
  let v111 : BitVec 32 := Scalar.addi c1_i32_119 v110
  let c1_i32_120 : BitVec 32 := 1#32
  let v112 : BitVec 32 := Scalar.addi v111 c1_i32_120
  let c4_i32_121 : BitVec 32 := 4#32
  let v113 : BitVec 32 := Scalar.remsi v112 c4_i32_121
  let c8_i32_396 : BitVec 32 := 8#32
  let v528 : BitVec 32 := Scalar.muli v113 c8_i32_396
  let c1_i32_397 : BitVec 32 := 1#32
  let v529 : BitVec 32 := Scalar.addi v2 c1_i32_397
  let c7_i32_398 : BitVec 32 := 7#32
  let v530 : BitVec 32 := Scalar.addi v529 c7_i32_398
  let c8_i32_399 : BitVec 32 := 8#32
  let v531 : BitVec 32 := Scalar.remsi v530 c8_i32_399
  let v532 : BitVec 32 := Scalar.addi v528 v531
  let v1681 : Index := Scalar.indexCast v532
  let c0_1453 : Index := 0#32
  let c0_1454 : Index := 0#32
  ![v1681.toNat, 0, 0]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond33 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_447 : BitVec 32 := 8#32
  let v612 : BitVec 32 := Scalar.muli v139 c8_i32_447
  let c1_i32_448 : BitVec 32 := 1#32
  let v613 : BitVec 32 := Scalar.addi v2 c1_i32_448
  let c0_i32_449 : BitVec 32 := 0#32
  let v614 : BitVec 32 := Scalar.addi v613 c0_i32_449
  let c8_i32_450 : BitVec 32 := 8#32
  let v615 : BitVec 32 := Scalar.remsi v614 c8_i32_450
  let v616 : BitVec 32 := Scalar.addi v612 v615
  let v617 : BitVec 32 := Scalar.subi v616 v2
  let c32_i32_451 : BitVec 32 := 32#32
  let v618 : BitVec 32 := Scalar.addi v617 c32_i32_451
  let c32_i32_452 : BitVec 32 := 32#32
  let v619 : BitVec 32 := Scalar.remsi v618 c32_i32_452
  let c0_i32_453 : BitVec 32 := 0#32
  let v620 : BitVec 1 := Scalar.cmpi .ne v619 c0_i32_453
  let v621 : BitVec 32 := Scalar.extui v620
  let c0_i32_454 : BitVec 32 := 0#32
  let v622 : BitVec 1 := Scalar.cmpi .ne v621 c0_i32_454
  v622

def k0_off83 (d0 : Dev nD) : Fin 1 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_447 : BitVec 32 := 8#32
  let v612 : BitVec 32 := Scalar.muli v139 c8_i32_447
  let c1_i32_448 : BitVec 32 := 1#32
  let v613 : BitVec 32 := Scalar.addi v2 c1_i32_448
  let c0_i32_449 : BitVec 32 := 0#32
  let v614 : BitVec 32 := Scalar.addi v613 c0_i32_449
  let c8_i32_450 : BitVec 32 := 8#32
  let v615 : BitVec 32 := Scalar.remsi v614 c8_i32_450
  let v616 : BitVec 32 := Scalar.addi v612 v615
  let v617 : BitVec 32 := Scalar.subi v616 v2
  let c32_i32_451 : BitVec 32 := 32#32
  let v618 : BitVec 32 := Scalar.addi v617 c32_i32_451
  let c32_i32_452 : BitVec 32 := 32#32
  let v619 : BitVec 32 := Scalar.remsi v618 c32_i32_452
  let c1_i32_1453 : BitVec 32 := 1#32
  let v1681 : BitVec 32 := Scalar.subi v619 c1_i32_1453
  ![v1681.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off85 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_447 : BitVec 32 := 8#32
  let v612 : BitVec 32 := Scalar.muli v139 c8_i32_447
  let c1_i32_448 : BitVec 32 := 1#32
  let v613 : BitVec 32 := Scalar.addi v2 c1_i32_448
  let c0_i32_449 : BitVec 32 := 0#32
  let v614 : BitVec 32 := Scalar.addi v613 c0_i32_449
  let c8_i32_450 : BitVec 32 := 8#32
  let v615 : BitVec 32 := Scalar.remsi v614 c8_i32_450
  let v616 : BitVec 32 := Scalar.addi v612 v615
  let c0_i32_1459 : BitVec 32 := 0#32
  let c0_i32_1460 : BitVec 32 := 0#32
  ![v616.toNat, 0, 0]
def k0_dev49 (d0 : Dev nD) : Nat :=
  let c0_i32_1456 : BitVec 32 := 0#32
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_447 : BitVec 32 := 8#32
  let v612 : BitVec 32 := Scalar.muli v139 c8_i32_447
  let c1_i32_448 : BitVec 32 := 1#32
  let v613 : BitVec 32 := Scalar.addi v2 c1_i32_448
  let c0_i32_449 : BitVec 32 := 0#32
  let v614 : BitVec 32 := Scalar.addi v613 c0_i32_449
  let c8_i32_450 : BitVec 32 := 8#32
  let v615 : BitVec 32 := Scalar.remsi v614 c8_i32_450
  let v616 : BitVec 32 := Scalar.addi v612 v615
  let c1_i32_1455 : BitVec 32 := 1#32
  let v1683 : BitVec 32 := Scalar.muli v616 c1_i32_1455
  let v1684 : BitVec 32 := Scalar.addi c0_i32_1456 v1683
  v1684.toNat
def k0_cond34 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_447 : BitVec 32 := 8#32
  let v612 : BitVec 32 := Scalar.muli v139 c8_i32_447
  let c1_i32_448 : BitVec 32 := 1#32
  let v613 : BitVec 32 := Scalar.addi v2 c1_i32_448
  let c0_i32_449 : BitVec 32 := 0#32
  let v614 : BitVec 32 := Scalar.addi v613 c0_i32_449
  let c8_i32_450 : BitVec 32 := 8#32
  let v615 : BitVec 32 := Scalar.remsi v614 c8_i32_450
  let v616 : BitVec 32 := Scalar.addi v612 v615
  let v617 : BitVec 32 := Scalar.subi v616 v2
  let c32_i32_451 : BitVec 32 := 32#32
  let v618 : BitVec 32 := Scalar.addi v617 c32_i32_451
  let c32_i32_452 : BitVec 32 := 32#32
  let v619 : BitVec 32 := Scalar.remsi v618 c32_i32_452
  let c0_i32_455 : BitVec 32 := 0#32
  let v623 : BitVec 1 := Scalar.cmpi .eq v619 c0_i32_455
  let v624 : BitVec 32 := Scalar.extui v623
  let c0_i32_456 : BitVec 32 := 0#32
  let v625 : BitVec 1 := Scalar.cmpi .ne v624 c0_i32_456
  v625

def k0_off86 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_447 : BitVec 32 := 8#32
  let v612 : BitVec 32 := Scalar.muli v139 c8_i32_447
  let c1_i32_448 : BitVec 32 := 1#32
  let v613 : BitVec 32 := Scalar.addi v2 c1_i32_448
  let c0_i32_449 : BitVec 32 := 0#32
  let v614 : BitVec 32 := Scalar.addi v613 c0_i32_449
  let c8_i32_450 : BitVec 32 := 8#32
  let v615 : BitVec 32 := Scalar.remsi v614 c8_i32_450
  let v616 : BitVec 32 := Scalar.addi v612 v615
  let v1681 : Index := Scalar.indexCast v616
  let c0_1453 : Index := 0#32
  let c0_1454 : Index := 0#32
  ![v1681.toNat, 0, 0]
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond35 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_457 : BitVec 32 := 8#32
  let v626 : BitVec 32 := Scalar.muli v139 c8_i32_457
  let c1_i32_458 : BitVec 32 := 1#32
  let v627 : BitVec 32 := Scalar.addi v2 c1_i32_458
  let c1_i32_459 : BitVec 32 := 1#32
  let v628 : BitVec 32 := Scalar.addi v627 c1_i32_459
  let c8_i32_460 : BitVec 32 := 8#32
  let v629 : BitVec 32 := Scalar.remsi v628 c8_i32_460
  let v630 : BitVec 32 := Scalar.addi v626 v629
  let v631 : BitVec 32 := Scalar.subi v630 v2
  let c32_i32_461 : BitVec 32 := 32#32
  let v632 : BitVec 32 := Scalar.addi v631 c32_i32_461
  let c32_i32_462 : BitVec 32 := 32#32
  let v633 : BitVec 32 := Scalar.remsi v632 c32_i32_462
  let c0_i32_463 : BitVec 32 := 0#32
  let v634 : BitVec 1 := Scalar.cmpi .ne v633 c0_i32_463
  let v635 : BitVec 32 := Scalar.extui v634
  let c0_i32_464 : BitVec 32 := 0#32
  let v636 : BitVec 1 := Scalar.cmpi .ne v635 c0_i32_464
  v636

def k0_off88 (d0 : Dev nD) : Fin 1 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_457 : BitVec 32 := 8#32
  let v626 : BitVec 32 := Scalar.muli v139 c8_i32_457
  let c1_i32_458 : BitVec 32 := 1#32
  let v627 : BitVec 32 := Scalar.addi v2 c1_i32_458
  let c1_i32_459 : BitVec 32 := 1#32
  let v628 : BitVec 32 := Scalar.addi v627 c1_i32_459
  let c8_i32_460 : BitVec 32 := 8#32
  let v629 : BitVec 32 := Scalar.remsi v628 c8_i32_460
  let v630 : BitVec 32 := Scalar.addi v626 v629
  let v631 : BitVec 32 := Scalar.subi v630 v2
  let c32_i32_461 : BitVec 32 := 32#32
  let v632 : BitVec 32 := Scalar.addi v631 c32_i32_461
  let c32_i32_462 : BitVec 32 := 32#32
  let v633 : BitVec 32 := Scalar.remsi v632 c32_i32_462
  let c1_i32_1453 : BitVec 32 := 1#32
  let v1681 : BitVec 32 := Scalar.subi v633 c1_i32_1453
  ![v1681.toNat]
def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off90 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_457 : BitVec 32 := 8#32
  let v626 : BitVec 32 := Scalar.muli v139 c8_i32_457
  let c1_i32_458 : BitVec 32 := 1#32
  let v627 : BitVec 32 := Scalar.addi v2 c1_i32_458
  let c1_i32_459 : BitVec 32 := 1#32
  let v628 : BitVec 32 := Scalar.addi v627 c1_i32_459
  let c8_i32_460 : BitVec 32 := 8#32
  let v629 : BitVec 32 := Scalar.remsi v628 c8_i32_460
  let v630 : BitVec 32 := Scalar.addi v626 v629
  let c0_i32_1459 : BitVec 32 := 0#32
  let c0_i32_1460 : BitVec 32 := 0#32
  ![v630.toNat, 0, 0]
def k0_dev50 (d0 : Dev nD) : Nat :=
  let c0_i32_1456 : BitVec 32 := 0#32
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_457 : BitVec 32 := 8#32
  let v626 : BitVec 32 := Scalar.muli v139 c8_i32_457
  let c1_i32_458 : BitVec 32 := 1#32
  let v627 : BitVec 32 := Scalar.addi v2 c1_i32_458
  let c1_i32_459 : BitVec 32 := 1#32
  let v628 : BitVec 32 := Scalar.addi v627 c1_i32_459
  let c8_i32_460 : BitVec 32 := 8#32
  let v629 : BitVec 32 := Scalar.remsi v628 c8_i32_460
  let v630 : BitVec 32 := Scalar.addi v626 v629
  let c1_i32_1455 : BitVec 32 := 1#32
  let v1683 : BitVec 32 := Scalar.muli v630 c1_i32_1455
  let v1684 : BitVec 32 := Scalar.addi c0_i32_1456 v1683
  v1684.toNat
def k0_cond36 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_457 : BitVec 32 := 8#32
  let v626 : BitVec 32 := Scalar.muli v139 c8_i32_457
  let c1_i32_458 : BitVec 32 := 1#32
  let v627 : BitVec 32 := Scalar.addi v2 c1_i32_458
  let c1_i32_459 : BitVec 32 := 1#32
  let v628 : BitVec 32 := Scalar.addi v627 c1_i32_459
  let c8_i32_460 : BitVec 32 := 8#32
  let v629 : BitVec 32 := Scalar.remsi v628 c8_i32_460
  let v630 : BitVec 32 := Scalar.addi v626 v629
  let v631 : BitVec 32 := Scalar.subi v630 v2
  let c32_i32_461 : BitVec 32 := 32#32
  let v632 : BitVec 32 := Scalar.addi v631 c32_i32_461
  let c32_i32_462 : BitVec 32 := 32#32
  let v633 : BitVec 32 := Scalar.remsi v632 c32_i32_462
  let c0_i32_465 : BitVec 32 := 0#32
  let v637 : BitVec 1 := Scalar.cmpi .eq v633 c0_i32_465
  let v638 : BitVec 32 := Scalar.extui v637
  let c0_i32_466 : BitVec 32 := 0#32
  let v639 : BitVec 1 := Scalar.cmpi .ne v638 c0_i32_466
  v639

def k0_off91 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_457 : BitVec 32 := 8#32
  let v626 : BitVec 32 := Scalar.muli v139 c8_i32_457
  let c1_i32_458 : BitVec 32 := 1#32
  let v627 : BitVec 32 := Scalar.addi v2 c1_i32_458
  let c1_i32_459 : BitVec 32 := 1#32
  let v628 : BitVec 32 := Scalar.addi v627 c1_i32_459
  let c8_i32_460 : BitVec 32 := 8#32
  let v629 : BitVec 32 := Scalar.remsi v628 c8_i32_460
  let v630 : BitVec 32 := Scalar.addi v626 v629
  let v1681 : Index := Scalar.indexCast v630
  let c0_1453 : Index := 0#32
  let c0_1454 : Index := 0#32
  ![v1681.toNat, 0, 0]
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond37 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_467 : BitVec 32 := 8#32
  let v640 : BitVec 32 := Scalar.muli v139 c8_i32_467
  let c1_i32_468 : BitVec 32 := 1#32
  let v641 : BitVec 32 := Scalar.addi v2 c1_i32_468
  let c2_i32_469 : BitVec 32 := 2#32
  let v642 : BitVec 32 := Scalar.addi v641 c2_i32_469
  let c8_i32_470 : BitVec 32 := 8#32
  let v643 : BitVec 32 := Scalar.remsi v642 c8_i32_470
  let v644 : BitVec 32 := Scalar.addi v640 v643
  let v645 : BitVec 32 := Scalar.subi v644 v2
  let c32_i32_471 : BitVec 32 := 32#32
  let v646 : BitVec 32 := Scalar.addi v645 c32_i32_471
  let c32_i32_472 : BitVec 32 := 32#32
  let v647 : BitVec 32 := Scalar.remsi v646 c32_i32_472
  let c0_i32_473 : BitVec 32 := 0#32
  let v648 : BitVec 1 := Scalar.cmpi .ne v647 c0_i32_473
  let v649 : BitVec 32 := Scalar.extui v648
  let c0_i32_474 : BitVec 32 := 0#32
  let v650 : BitVec 1 := Scalar.cmpi .ne v649 c0_i32_474
  v650

def k0_off93 (d0 : Dev nD) : Fin 1 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_467 : BitVec 32 := 8#32
  let v640 : BitVec 32 := Scalar.muli v139 c8_i32_467
  let c1_i32_468 : BitVec 32 := 1#32
  let v641 : BitVec 32 := Scalar.addi v2 c1_i32_468
  let c2_i32_469 : BitVec 32 := 2#32
  let v642 : BitVec 32 := Scalar.addi v641 c2_i32_469
  let c8_i32_470 : BitVec 32 := 8#32
  let v643 : BitVec 32 := Scalar.remsi v642 c8_i32_470
  let v644 : BitVec 32 := Scalar.addi v640 v643
  let v645 : BitVec 32 := Scalar.subi v644 v2
  let c32_i32_471 : BitVec 32 := 32#32
  let v646 : BitVec 32 := Scalar.addi v645 c32_i32_471
  let c32_i32_472 : BitVec 32 := 32#32
  let v647 : BitVec 32 := Scalar.remsi v646 c32_i32_472
  let c1_i32_1453 : BitVec 32 := 1#32
  let v1681 : BitVec 32 := Scalar.subi v647 c1_i32_1453
  ![v1681.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off95 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_467 : BitVec 32 := 8#32
  let v640 : BitVec 32 := Scalar.muli v139 c8_i32_467
  let c1_i32_468 : BitVec 32 := 1#32
  let v641 : BitVec 32 := Scalar.addi v2 c1_i32_468
  let c2_i32_469 : BitVec 32 := 2#32
  let v642 : BitVec 32 := Scalar.addi v641 c2_i32_469
  let c8_i32_470 : BitVec 32 := 8#32
  let v643 : BitVec 32 := Scalar.remsi v642 c8_i32_470
  let v644 : BitVec 32 := Scalar.addi v640 v643
  let c0_i32_1459 : BitVec 32 := 0#32
  let c0_i32_1460 : BitVec 32 := 0#32
  ![v644.toNat, 0, 0]
def k0_dev51 (d0 : Dev nD) : Nat :=
  let c0_i32_1456 : BitVec 32 := 0#32
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_467 : BitVec 32 := 8#32
  let v640 : BitVec 32 := Scalar.muli v139 c8_i32_467
  let c1_i32_468 : BitVec 32 := 1#32
  let v641 : BitVec 32 := Scalar.addi v2 c1_i32_468
  let c2_i32_469 : BitVec 32 := 2#32
  let v642 : BitVec 32 := Scalar.addi v641 c2_i32_469
  let c8_i32_470 : BitVec 32 := 8#32
  let v643 : BitVec 32 := Scalar.remsi v642 c8_i32_470
  let v644 : BitVec 32 := Scalar.addi v640 v643
  let c1_i32_1455 : BitVec 32 := 1#32
  let v1683 : BitVec 32 := Scalar.muli v644 c1_i32_1455
  let v1684 : BitVec 32 := Scalar.addi c0_i32_1456 v1683
  v1684.toNat
def k0_cond38 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_467 : BitVec 32 := 8#32
  let v640 : BitVec 32 := Scalar.muli v139 c8_i32_467
  let c1_i32_468 : BitVec 32 := 1#32
  let v641 : BitVec 32 := Scalar.addi v2 c1_i32_468
  let c2_i32_469 : BitVec 32 := 2#32
  let v642 : BitVec 32 := Scalar.addi v641 c2_i32_469
  let c8_i32_470 : BitVec 32 := 8#32
  let v643 : BitVec 32 := Scalar.remsi v642 c8_i32_470
  let v644 : BitVec 32 := Scalar.addi v640 v643
  let v645 : BitVec 32 := Scalar.subi v644 v2
  let c32_i32_471 : BitVec 32 := 32#32
  let v646 : BitVec 32 := Scalar.addi v645 c32_i32_471
  let c32_i32_472 : BitVec 32 := 32#32
  let v647 : BitVec 32 := Scalar.remsi v646 c32_i32_472
  let c0_i32_475 : BitVec 32 := 0#32
  let v651 : BitVec 1 := Scalar.cmpi .eq v647 c0_i32_475
  let v652 : BitVec 32 := Scalar.extui v651
  let c0_i32_476 : BitVec 32 := 0#32
  let v653 : BitVec 1 := Scalar.cmpi .ne v652 c0_i32_476
  v653

def k0_off96 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_467 : BitVec 32 := 8#32
  let v640 : BitVec 32 := Scalar.muli v139 c8_i32_467
  let c1_i32_468 : BitVec 32 := 1#32
  let v641 : BitVec 32 := Scalar.addi v2 c1_i32_468
  let c2_i32_469 : BitVec 32 := 2#32
  let v642 : BitVec 32 := Scalar.addi v641 c2_i32_469
  let c8_i32_470 : BitVec 32 := 8#32
  let v643 : BitVec 32 := Scalar.remsi v642 c8_i32_470
  let v644 : BitVec 32 := Scalar.addi v640 v643
  let v1681 : Index := Scalar.indexCast v644
  let c0_1453 : Index := 0#32
  let c0_1454 : Index := 0#32
  ![v1681.toNat, 0, 0]
def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond39 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_477 : BitVec 32 := 8#32
  let v654 : BitVec 32 := Scalar.muli v139 c8_i32_477
  let c1_i32_478 : BitVec 32 := 1#32
  let v655 : BitVec 32 := Scalar.addi v2 c1_i32_478
  let c3_i32_479 : BitVec 32 := 3#32
  let v656 : BitVec 32 := Scalar.addi v655 c3_i32_479
  let c8_i32_480 : BitVec 32 := 8#32
  let v657 : BitVec 32 := Scalar.remsi v656 c8_i32_480
  let v658 : BitVec 32 := Scalar.addi v654 v657
  let v659 : BitVec 32 := Scalar.subi v658 v2
  let c32_i32_481 : BitVec 32 := 32#32
  let v660 : BitVec 32 := Scalar.addi v659 c32_i32_481
  let c32_i32_482 : BitVec 32 := 32#32
  let v661 : BitVec 32 := Scalar.remsi v660 c32_i32_482
  let c0_i32_483 : BitVec 32 := 0#32
  let v662 : BitVec 1 := Scalar.cmpi .ne v661 c0_i32_483
  let v663 : BitVec 32 := Scalar.extui v662
  let c0_i32_484 : BitVec 32 := 0#32
  let v664 : BitVec 1 := Scalar.cmpi .ne v663 c0_i32_484
  v664

def k0_off98 (d0 : Dev nD) : Fin 1 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_477 : BitVec 32 := 8#32
  let v654 : BitVec 32 := Scalar.muli v139 c8_i32_477
  let c1_i32_478 : BitVec 32 := 1#32
  let v655 : BitVec 32 := Scalar.addi v2 c1_i32_478
  let c3_i32_479 : BitVec 32 := 3#32
  let v656 : BitVec 32 := Scalar.addi v655 c3_i32_479
  let c8_i32_480 : BitVec 32 := 8#32
  let v657 : BitVec 32 := Scalar.remsi v656 c8_i32_480
  let v658 : BitVec 32 := Scalar.addi v654 v657
  let v659 : BitVec 32 := Scalar.subi v658 v2
  let c32_i32_481 : BitVec 32 := 32#32
  let v660 : BitVec 32 := Scalar.addi v659 c32_i32_481
  let c32_i32_482 : BitVec 32 := 32#32
  let v661 : BitVec 32 := Scalar.remsi v660 c32_i32_482
  let c1_i32_1453 : BitVec 32 := 1#32
  let v1681 : BitVec 32 := Scalar.subi v661 c1_i32_1453
  ![v1681.toNat]
def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off100 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_477 : BitVec 32 := 8#32
  let v654 : BitVec 32 := Scalar.muli v139 c8_i32_477
  let c1_i32_478 : BitVec 32 := 1#32
  let v655 : BitVec 32 := Scalar.addi v2 c1_i32_478
  let c3_i32_479 : BitVec 32 := 3#32
  let v656 : BitVec 32 := Scalar.addi v655 c3_i32_479
  let c8_i32_480 : BitVec 32 := 8#32
  let v657 : BitVec 32 := Scalar.remsi v656 c8_i32_480
  let v658 : BitVec 32 := Scalar.addi v654 v657
  let c0_i32_1459 : BitVec 32 := 0#32
  let c0_i32_1460 : BitVec 32 := 0#32
  ![v658.toNat, 0, 0]
def k0_dev52 (d0 : Dev nD) : Nat :=
  let c0_i32_1456 : BitVec 32 := 0#32
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_477 : BitVec 32 := 8#32
  let v654 : BitVec 32 := Scalar.muli v139 c8_i32_477
  let c1_i32_478 : BitVec 32 := 1#32
  let v655 : BitVec 32 := Scalar.addi v2 c1_i32_478
  let c3_i32_479 : BitVec 32 := 3#32
  let v656 : BitVec 32 := Scalar.addi v655 c3_i32_479
  let c8_i32_480 : BitVec 32 := 8#32
  let v657 : BitVec 32 := Scalar.remsi v656 c8_i32_480
  let v658 : BitVec 32 := Scalar.addi v654 v657
  let c1_i32_1455 : BitVec 32 := 1#32
  let v1683 : BitVec 32 := Scalar.muli v658 c1_i32_1455
  let v1684 : BitVec 32 := Scalar.addi c0_i32_1456 v1683
  v1684.toNat
def k0_cond40 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_477 : BitVec 32 := 8#32
  let v654 : BitVec 32 := Scalar.muli v139 c8_i32_477
  let c1_i32_478 : BitVec 32 := 1#32
  let v655 : BitVec 32 := Scalar.addi v2 c1_i32_478
  let c3_i32_479 : BitVec 32 := 3#32
  let v656 : BitVec 32 := Scalar.addi v655 c3_i32_479
  let c8_i32_480 : BitVec 32 := 8#32
  let v657 : BitVec 32 := Scalar.remsi v656 c8_i32_480
  let v658 : BitVec 32 := Scalar.addi v654 v657
  let v659 : BitVec 32 := Scalar.subi v658 v2
  let c32_i32_481 : BitVec 32 := 32#32
  let v660 : BitVec 32 := Scalar.addi v659 c32_i32_481
  let c32_i32_482 : BitVec 32 := 32#32
  let v661 : BitVec 32 := Scalar.remsi v660 c32_i32_482
  let c0_i32_485 : BitVec 32 := 0#32
  let v665 : BitVec 1 := Scalar.cmpi .eq v661 c0_i32_485
  let v666 : BitVec 32 := Scalar.extui v665
  let c0_i32_486 : BitVec 32 := 0#32
  let v667 : BitVec 1 := Scalar.cmpi .ne v666 c0_i32_486
  v667

def k0_off101 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_477 : BitVec 32 := 8#32
  let v654 : BitVec 32 := Scalar.muli v139 c8_i32_477
  let c1_i32_478 : BitVec 32 := 1#32
  let v655 : BitVec 32 := Scalar.addi v2 c1_i32_478
  let c3_i32_479 : BitVec 32 := 3#32
  let v656 : BitVec 32 := Scalar.addi v655 c3_i32_479
  let c8_i32_480 : BitVec 32 := 8#32
  let v657 : BitVec 32 := Scalar.remsi v656 c8_i32_480
  let v658 : BitVec 32 := Scalar.addi v654 v657
  let v1681 : Index := Scalar.indexCast v658
  let c0_1453 : Index := 0#32
  let c0_1454 : Index := 0#32
  ![v1681.toNat, 0, 0]
def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond41 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_487 : BitVec 32 := 8#32
  let v668 : BitVec 32 := Scalar.muli v139 c8_i32_487
  let c1_i32_488 : BitVec 32 := 1#32
  let v669 : BitVec 32 := Scalar.addi v2 c1_i32_488
  let c4_i32_489 : BitVec 32 := 4#32
  let v670 : BitVec 32 := Scalar.addi v669 c4_i32_489
  let c8_i32_490 : BitVec 32 := 8#32
  let v671 : BitVec 32 := Scalar.remsi v670 c8_i32_490
  let v672 : BitVec 32 := Scalar.addi v668 v671
  let v673 : BitVec 32 := Scalar.subi v672 v2
  let c32_i32_491 : BitVec 32 := 32#32
  let v674 : BitVec 32 := Scalar.addi v673 c32_i32_491
  let c32_i32_492 : BitVec 32 := 32#32
  let v675 : BitVec 32 := Scalar.remsi v674 c32_i32_492
  let c0_i32_493 : BitVec 32 := 0#32
  let v676 : BitVec 1 := Scalar.cmpi .ne v675 c0_i32_493
  let v677 : BitVec 32 := Scalar.extui v676
  let c0_i32_494 : BitVec 32 := 0#32
  let v678 : BitVec 1 := Scalar.cmpi .ne v677 c0_i32_494
  v678

def k0_off103 (d0 : Dev nD) : Fin 1 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_487 : BitVec 32 := 8#32
  let v668 : BitVec 32 := Scalar.muli v139 c8_i32_487
  let c1_i32_488 : BitVec 32 := 1#32
  let v669 : BitVec 32 := Scalar.addi v2 c1_i32_488
  let c4_i32_489 : BitVec 32 := 4#32
  let v670 : BitVec 32 := Scalar.addi v669 c4_i32_489
  let c8_i32_490 : BitVec 32 := 8#32
  let v671 : BitVec 32 := Scalar.remsi v670 c8_i32_490
  let v672 : BitVec 32 := Scalar.addi v668 v671
  let v673 : BitVec 32 := Scalar.subi v672 v2
  let c32_i32_491 : BitVec 32 := 32#32
  let v674 : BitVec 32 := Scalar.addi v673 c32_i32_491
  let c32_i32_492 : BitVec 32 := 32#32
  let v675 : BitVec 32 := Scalar.remsi v674 c32_i32_492
  let c1_i32_1453 : BitVec 32 := 1#32
  let v1681 : BitVec 32 := Scalar.subi v675 c1_i32_1453
  ![v1681.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off105 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_487 : BitVec 32 := 8#32
  let v668 : BitVec 32 := Scalar.muli v139 c8_i32_487
  let c1_i32_488 : BitVec 32 := 1#32
  let v669 : BitVec 32 := Scalar.addi v2 c1_i32_488
  let c4_i32_489 : BitVec 32 := 4#32
  let v670 : BitVec 32 := Scalar.addi v669 c4_i32_489
  let c8_i32_490 : BitVec 32 := 8#32
  let v671 : BitVec 32 := Scalar.remsi v670 c8_i32_490
  let v672 : BitVec 32 := Scalar.addi v668 v671
  let c0_i32_1459 : BitVec 32 := 0#32
  let c0_i32_1460 : BitVec 32 := 0#32
  ![v672.toNat, 0, 0]
def k0_dev53 (d0 : Dev nD) : Nat :=
  let c0_i32_1456 : BitVec 32 := 0#32
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_487 : BitVec 32 := 8#32
  let v668 : BitVec 32 := Scalar.muli v139 c8_i32_487
  let c1_i32_488 : BitVec 32 := 1#32
  let v669 : BitVec 32 := Scalar.addi v2 c1_i32_488
  let c4_i32_489 : BitVec 32 := 4#32
  let v670 : BitVec 32 := Scalar.addi v669 c4_i32_489
  let c8_i32_490 : BitVec 32 := 8#32
  let v671 : BitVec 32 := Scalar.remsi v670 c8_i32_490
  let v672 : BitVec 32 := Scalar.addi v668 v671
  let c1_i32_1455 : BitVec 32 := 1#32
  let v1683 : BitVec 32 := Scalar.muli v672 c1_i32_1455
  let v1684 : BitVec 32 := Scalar.addi c0_i32_1456 v1683
  v1684.toNat
def k0_cond42 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_487 : BitVec 32 := 8#32
  let v668 : BitVec 32 := Scalar.muli v139 c8_i32_487
  let c1_i32_488 : BitVec 32 := 1#32
  let v669 : BitVec 32 := Scalar.addi v2 c1_i32_488
  let c4_i32_489 : BitVec 32 := 4#32
  let v670 : BitVec 32 := Scalar.addi v669 c4_i32_489
  let c8_i32_490 : BitVec 32 := 8#32
  let v671 : BitVec 32 := Scalar.remsi v670 c8_i32_490
  let v672 : BitVec 32 := Scalar.addi v668 v671
  let v673 : BitVec 32 := Scalar.subi v672 v2
  let c32_i32_491 : BitVec 32 := 32#32
  let v674 : BitVec 32 := Scalar.addi v673 c32_i32_491
  let c32_i32_492 : BitVec 32 := 32#32
  let v675 : BitVec 32 := Scalar.remsi v674 c32_i32_492
  let c0_i32_495 : BitVec 32 := 0#32
  let v679 : BitVec 1 := Scalar.cmpi .eq v675 c0_i32_495
  let v680 : BitVec 32 := Scalar.extui v679
  let c0_i32_496 : BitVec 32 := 0#32
  let v681 : BitVec 1 := Scalar.cmpi .ne v680 c0_i32_496
  v681

def k0_off106 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_487 : BitVec 32 := 8#32
  let v668 : BitVec 32 := Scalar.muli v139 c8_i32_487
  let c1_i32_488 : BitVec 32 := 1#32
  let v669 : BitVec 32 := Scalar.addi v2 c1_i32_488
  let c4_i32_489 : BitVec 32 := 4#32
  let v670 : BitVec 32 := Scalar.addi v669 c4_i32_489
  let c8_i32_490 : BitVec 32 := 8#32
  let v671 : BitVec 32 := Scalar.remsi v670 c8_i32_490
  let v672 : BitVec 32 := Scalar.addi v668 v671
  let v1681 : Index := Scalar.indexCast v672
  let c0_1453 : Index := 0#32
  let c0_1454 : Index := 0#32
  ![v1681.toNat, 0, 0]
def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond43 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_497 : BitVec 32 := 8#32
  let v682 : BitVec 32 := Scalar.muli v139 c8_i32_497
  let c1_i32_498 : BitVec 32 := 1#32
  let v683 : BitVec 32 := Scalar.addi v2 c1_i32_498
  let c5_i32_499 : BitVec 32 := 5#32
  let v684 : BitVec 32 := Scalar.addi v683 c5_i32_499
  let c8_i32_500 : BitVec 32 := 8#32
  let v685 : BitVec 32 := Scalar.remsi v684 c8_i32_500
  let v686 : BitVec 32 := Scalar.addi v682 v685
  let v687 : BitVec 32 := Scalar.subi v686 v2
  let c32_i32_501 : BitVec 32 := 32#32
  let v688 : BitVec 32 := Scalar.addi v687 c32_i32_501
  let c32_i32_502 : BitVec 32 := 32#32
  let v689 : BitVec 32 := Scalar.remsi v688 c32_i32_502
  let c0_i32_503 : BitVec 32 := 0#32
  let v690 : BitVec 1 := Scalar.cmpi .ne v689 c0_i32_503
  let v691 : BitVec 32 := Scalar.extui v690
  let c0_i32_504 : BitVec 32 := 0#32
  let v692 : BitVec 1 := Scalar.cmpi .ne v691 c0_i32_504
  v692

def k0_off108 (d0 : Dev nD) : Fin 1 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_497 : BitVec 32 := 8#32
  let v682 : BitVec 32 := Scalar.muli v139 c8_i32_497
  let c1_i32_498 : BitVec 32 := 1#32
  let v683 : BitVec 32 := Scalar.addi v2 c1_i32_498
  let c5_i32_499 : BitVec 32 := 5#32
  let v684 : BitVec 32 := Scalar.addi v683 c5_i32_499
  let c8_i32_500 : BitVec 32 := 8#32
  let v685 : BitVec 32 := Scalar.remsi v684 c8_i32_500
  let v686 : BitVec 32 := Scalar.addi v682 v685
  let v687 : BitVec 32 := Scalar.subi v686 v2
  let c32_i32_501 : BitVec 32 := 32#32
  let v688 : BitVec 32 := Scalar.addi v687 c32_i32_501
  let c32_i32_502 : BitVec 32 := 32#32
  let v689 : BitVec 32 := Scalar.remsi v688 c32_i32_502
  let c1_i32_1453 : BitVec 32 := 1#32
  let v1681 : BitVec 32 := Scalar.subi v689 c1_i32_1453
  ![v1681.toNat]
def k0_off109 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off110 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_497 : BitVec 32 := 8#32
  let v682 : BitVec 32 := Scalar.muli v139 c8_i32_497
  let c1_i32_498 : BitVec 32 := 1#32
  let v683 : BitVec 32 := Scalar.addi v2 c1_i32_498
  let c5_i32_499 : BitVec 32 := 5#32
  let v684 : BitVec 32 := Scalar.addi v683 c5_i32_499
  let c8_i32_500 : BitVec 32 := 8#32
  let v685 : BitVec 32 := Scalar.remsi v684 c8_i32_500
  let v686 : BitVec 32 := Scalar.addi v682 v685
  let c0_i32_1459 : BitVec 32 := 0#32
  let c0_i32_1460 : BitVec 32 := 0#32
  ![v686.toNat, 0, 0]
def k0_dev54 (d0 : Dev nD) : Nat :=
  let c0_i32_1456 : BitVec 32 := 0#32
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_497 : BitVec 32 := 8#32
  let v682 : BitVec 32 := Scalar.muli v139 c8_i32_497
  let c1_i32_498 : BitVec 32 := 1#32
  let v683 : BitVec 32 := Scalar.addi v2 c1_i32_498
  let c5_i32_499 : BitVec 32 := 5#32
  let v684 : BitVec 32 := Scalar.addi v683 c5_i32_499
  let c8_i32_500 : BitVec 32 := 8#32
  let v685 : BitVec 32 := Scalar.remsi v684 c8_i32_500
  let v686 : BitVec 32 := Scalar.addi v682 v685
  let c1_i32_1455 : BitVec 32 := 1#32
  let v1683 : BitVec 32 := Scalar.muli v686 c1_i32_1455
  let v1684 : BitVec 32 := Scalar.addi c0_i32_1456 v1683
  v1684.toNat
def k0_cond44 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_497 : BitVec 32 := 8#32
  let v682 : BitVec 32 := Scalar.muli v139 c8_i32_497
  let c1_i32_498 : BitVec 32 := 1#32
  let v683 : BitVec 32 := Scalar.addi v2 c1_i32_498
  let c5_i32_499 : BitVec 32 := 5#32
  let v684 : BitVec 32 := Scalar.addi v683 c5_i32_499
  let c8_i32_500 : BitVec 32 := 8#32
  let v685 : BitVec 32 := Scalar.remsi v684 c8_i32_500
  let v686 : BitVec 32 := Scalar.addi v682 v685
  let v687 : BitVec 32 := Scalar.subi v686 v2
  let c32_i32_501 : BitVec 32 := 32#32
  let v688 : BitVec 32 := Scalar.addi v687 c32_i32_501
  let c32_i32_502 : BitVec 32 := 32#32
  let v689 : BitVec 32 := Scalar.remsi v688 c32_i32_502
  let c0_i32_505 : BitVec 32 := 0#32
  let v693 : BitVec 1 := Scalar.cmpi .eq v689 c0_i32_505
  let v694 : BitVec 32 := Scalar.extui v693
  let c0_i32_506 : BitVec 32 := 0#32
  let v695 : BitVec 1 := Scalar.cmpi .ne v694 c0_i32_506
  v695

def k0_off111 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_497 : BitVec 32 := 8#32
  let v682 : BitVec 32 := Scalar.muli v139 c8_i32_497
  let c1_i32_498 : BitVec 32 := 1#32
  let v683 : BitVec 32 := Scalar.addi v2 c1_i32_498
  let c5_i32_499 : BitVec 32 := 5#32
  let v684 : BitVec 32 := Scalar.addi v683 c5_i32_499
  let c8_i32_500 : BitVec 32 := 8#32
  let v685 : BitVec 32 := Scalar.remsi v684 c8_i32_500
  let v686 : BitVec 32 := Scalar.addi v682 v685
  let v1681 : Index := Scalar.indexCast v686
  let c0_1453 : Index := 0#32
  let c0_1454 : Index := 0#32
  ![v1681.toNat, 0, 0]
def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond45 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_507 : BitVec 32 := 8#32
  let v696 : BitVec 32 := Scalar.muli v139 c8_i32_507
  let c1_i32_508 : BitVec 32 := 1#32
  let v697 : BitVec 32 := Scalar.addi v2 c1_i32_508
  let c6_i32_509 : BitVec 32 := 6#32
  let v698 : BitVec 32 := Scalar.addi v697 c6_i32_509
  let c8_i32_510 : BitVec 32 := 8#32
  let v699 : BitVec 32 := Scalar.remsi v698 c8_i32_510
  let v700 : BitVec 32 := Scalar.addi v696 v699
  let v701 : BitVec 32 := Scalar.subi v700 v2
  let c32_i32_511 : BitVec 32 := 32#32
  let v702 : BitVec 32 := Scalar.addi v701 c32_i32_511
  let c32_i32_512 : BitVec 32 := 32#32
  let v703 : BitVec 32 := Scalar.remsi v702 c32_i32_512
  let c0_i32_513 : BitVec 32 := 0#32
  let v704 : BitVec 1 := Scalar.cmpi .ne v703 c0_i32_513
  let v705 : BitVec 32 := Scalar.extui v704
  let c0_i32_514 : BitVec 32 := 0#32
  let v706 : BitVec 1 := Scalar.cmpi .ne v705 c0_i32_514
  v706

def k0_off113 (d0 : Dev nD) : Fin 1 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_507 : BitVec 32 := 8#32
  let v696 : BitVec 32 := Scalar.muli v139 c8_i32_507
  let c1_i32_508 : BitVec 32 := 1#32
  let v697 : BitVec 32 := Scalar.addi v2 c1_i32_508
  let c6_i32_509 : BitVec 32 := 6#32
  let v698 : BitVec 32 := Scalar.addi v697 c6_i32_509
  let c8_i32_510 : BitVec 32 := 8#32
  let v699 : BitVec 32 := Scalar.remsi v698 c8_i32_510
  let v700 : BitVec 32 := Scalar.addi v696 v699
  let v701 : BitVec 32 := Scalar.subi v700 v2
  let c32_i32_511 : BitVec 32 := 32#32
  let v702 : BitVec 32 := Scalar.addi v701 c32_i32_511
  let c32_i32_512 : BitVec 32 := 32#32
  let v703 : BitVec 32 := Scalar.remsi v702 c32_i32_512
  let c1_i32_1453 : BitVec 32 := 1#32
  let v1681 : BitVec 32 := Scalar.subi v703 c1_i32_1453
  ![v1681.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off115 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_507 : BitVec 32 := 8#32
  let v696 : BitVec 32 := Scalar.muli v139 c8_i32_507
  let c1_i32_508 : BitVec 32 := 1#32
  let v697 : BitVec 32 := Scalar.addi v2 c1_i32_508
  let c6_i32_509 : BitVec 32 := 6#32
  let v698 : BitVec 32 := Scalar.addi v697 c6_i32_509
  let c8_i32_510 : BitVec 32 := 8#32
  let v699 : BitVec 32 := Scalar.remsi v698 c8_i32_510
  let v700 : BitVec 32 := Scalar.addi v696 v699
  let c0_i32_1459 : BitVec 32 := 0#32
  let c0_i32_1460 : BitVec 32 := 0#32
  ![v700.toNat, 0, 0]
def k0_dev55 (d0 : Dev nD) : Nat :=
  let c0_i32_1456 : BitVec 32 := 0#32
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_507 : BitVec 32 := 8#32
  let v696 : BitVec 32 := Scalar.muli v139 c8_i32_507
  let c1_i32_508 : BitVec 32 := 1#32
  let v697 : BitVec 32 := Scalar.addi v2 c1_i32_508
  let c6_i32_509 : BitVec 32 := 6#32
  let v698 : BitVec 32 := Scalar.addi v697 c6_i32_509
  let c8_i32_510 : BitVec 32 := 8#32
  let v699 : BitVec 32 := Scalar.remsi v698 c8_i32_510
  let v700 : BitVec 32 := Scalar.addi v696 v699
  let c1_i32_1455 : BitVec 32 := 1#32
  let v1683 : BitVec 32 := Scalar.muli v700 c1_i32_1455
  let v1684 : BitVec 32 := Scalar.addi c0_i32_1456 v1683
  v1684.toNat
def k0_cond46 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_507 : BitVec 32 := 8#32
  let v696 : BitVec 32 := Scalar.muli v139 c8_i32_507
  let c1_i32_508 : BitVec 32 := 1#32
  let v697 : BitVec 32 := Scalar.addi v2 c1_i32_508
  let c6_i32_509 : BitVec 32 := 6#32
  let v698 : BitVec 32 := Scalar.addi v697 c6_i32_509
  let c8_i32_510 : BitVec 32 := 8#32
  let v699 : BitVec 32 := Scalar.remsi v698 c8_i32_510
  let v700 : BitVec 32 := Scalar.addi v696 v699
  let v701 : BitVec 32 := Scalar.subi v700 v2
  let c32_i32_511 : BitVec 32 := 32#32
  let v702 : BitVec 32 := Scalar.addi v701 c32_i32_511
  let c32_i32_512 : BitVec 32 := 32#32
  let v703 : BitVec 32 := Scalar.remsi v702 c32_i32_512
  let c0_i32_515 : BitVec 32 := 0#32
  let v707 : BitVec 1 := Scalar.cmpi .eq v703 c0_i32_515
  let v708 : BitVec 32 := Scalar.extui v707
  let c0_i32_516 : BitVec 32 := 0#32
  let v709 : BitVec 1 := Scalar.cmpi .ne v708 c0_i32_516
  v709

def k0_off116 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_507 : BitVec 32 := 8#32
  let v696 : BitVec 32 := Scalar.muli v139 c8_i32_507
  let c1_i32_508 : BitVec 32 := 1#32
  let v697 : BitVec 32 := Scalar.addi v2 c1_i32_508
  let c6_i32_509 : BitVec 32 := 6#32
  let v698 : BitVec 32 := Scalar.addi v697 c6_i32_509
  let c8_i32_510 : BitVec 32 := 8#32
  let v699 : BitVec 32 := Scalar.remsi v698 c8_i32_510
  let v700 : BitVec 32 := Scalar.addi v696 v699
  let v1681 : Index := Scalar.indexCast v700
  let c0_1453 : Index := 0#32
  let c0_1454 : Index := 0#32
  ![v1681.toNat, 0, 0]
def k0_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond47 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_517 : BitVec 32 := 8#32
  let v710 : BitVec 32 := Scalar.muli v139 c8_i32_517
  let c1_i32_518 : BitVec 32 := 1#32
  let v711 : BitVec 32 := Scalar.addi v2 c1_i32_518
  let c7_i32_519 : BitVec 32 := 7#32
  let v712 : BitVec 32 := Scalar.addi v711 c7_i32_519
  let c8_i32_520 : BitVec 32 := 8#32
  let v713 : BitVec 32 := Scalar.remsi v712 c8_i32_520
  let v714 : BitVec 32 := Scalar.addi v710 v713
  let v715 : BitVec 32 := Scalar.subi v714 v2
  let c32_i32_521 : BitVec 32 := 32#32
  let v716 : BitVec 32 := Scalar.addi v715 c32_i32_521
  let c32_i32_522 : BitVec 32 := 32#32
  let v717 : BitVec 32 := Scalar.remsi v716 c32_i32_522
  let c0_i32_523 : BitVec 32 := 0#32
  let v718 : BitVec 1 := Scalar.cmpi .ne v717 c0_i32_523
  let v719 : BitVec 32 := Scalar.extui v718
  let c0_i32_524 : BitVec 32 := 0#32
  let v720 : BitVec 1 := Scalar.cmpi .ne v719 c0_i32_524
  v720

def k0_off118 (d0 : Dev nD) : Fin 1 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_517 : BitVec 32 := 8#32
  let v710 : BitVec 32 := Scalar.muli v139 c8_i32_517
  let c1_i32_518 : BitVec 32 := 1#32
  let v711 : BitVec 32 := Scalar.addi v2 c1_i32_518
  let c7_i32_519 : BitVec 32 := 7#32
  let v712 : BitVec 32 := Scalar.addi v711 c7_i32_519
  let c8_i32_520 : BitVec 32 := 8#32
  let v713 : BitVec 32 := Scalar.remsi v712 c8_i32_520
  let v714 : BitVec 32 := Scalar.addi v710 v713
  let v715 : BitVec 32 := Scalar.subi v714 v2
  let c32_i32_521 : BitVec 32 := 32#32
  let v716 : BitVec 32 := Scalar.addi v715 c32_i32_521
  let c32_i32_522 : BitVec 32 := 32#32
  let v717 : BitVec 32 := Scalar.remsi v716 c32_i32_522
  let c1_i32_1453 : BitVec 32 := 1#32
  let v1681 : BitVec 32 := Scalar.subi v717 c1_i32_1453
  ![v1681.toNat]
def k0_off119 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off120 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_517 : BitVec 32 := 8#32
  let v710 : BitVec 32 := Scalar.muli v139 c8_i32_517
  let c1_i32_518 : BitVec 32 := 1#32
  let v711 : BitVec 32 := Scalar.addi v2 c1_i32_518
  let c7_i32_519 : BitVec 32 := 7#32
  let v712 : BitVec 32 := Scalar.addi v711 c7_i32_519
  let c8_i32_520 : BitVec 32 := 8#32
  let v713 : BitVec 32 := Scalar.remsi v712 c8_i32_520
  let v714 : BitVec 32 := Scalar.addi v710 v713
  let c0_i32_1459 : BitVec 32 := 0#32
  let c0_i32_1460 : BitVec 32 := 0#32
  ![v714.toNat, 0, 0]
def k0_dev56 (d0 : Dev nD) : Nat :=
  let c0_i32_1456 : BitVec 32 := 0#32
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_517 : BitVec 32 := 8#32
  let v710 : BitVec 32 := Scalar.muli v139 c8_i32_517
  let c1_i32_518 : BitVec 32 := 1#32
  let v711 : BitVec 32 := Scalar.addi v2 c1_i32_518
  let c7_i32_519 : BitVec 32 := 7#32
  let v712 : BitVec 32 := Scalar.addi v711 c7_i32_519
  let c8_i32_520 : BitVec 32 := 8#32
  let v713 : BitVec 32 := Scalar.remsi v712 c8_i32_520
  let v714 : BitVec 32 := Scalar.addi v710 v713
  let c1_i32_1455 : BitVec 32 := 1#32
  let v1683 : BitVec 32 := Scalar.muli v714 c1_i32_1455
  let v1684 : BitVec 32 := Scalar.addi c0_i32_1456 v1683
  v1684.toNat
def k0_cond48 (d0 : Dev nD) : BitVec 1 :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_517 : BitVec 32 := 8#32
  let v710 : BitVec 32 := Scalar.muli v139 c8_i32_517
  let c1_i32_518 : BitVec 32 := 1#32
  let v711 : BitVec 32 := Scalar.addi v2 c1_i32_518
  let c7_i32_519 : BitVec 32 := 7#32
  let v712 : BitVec 32 := Scalar.addi v711 c7_i32_519
  let c8_i32_520 : BitVec 32 := 8#32
  let v713 : BitVec 32 := Scalar.remsi v712 c8_i32_520
  let v714 : BitVec 32 := Scalar.addi v710 v713
  let v715 : BitVec 32 := Scalar.subi v714 v2
  let c32_i32_521 : BitVec 32 := 32#32
  let v716 : BitVec 32 := Scalar.addi v715 c32_i32_521
  let c32_i32_522 : BitVec 32 := 32#32
  let v717 : BitVec 32 := Scalar.remsi v716 c32_i32_522
  let c0_i32_525 : BitVec 32 := 0#32
  let v721 : BitVec 1 := Scalar.cmpi .eq v717 c0_i32_525
  let v722 : BitVec 32 := Scalar.extui v721
  let c0_i32_526 : BitVec 32 := 0#32
  let v723 : BitVec 1 := Scalar.cmpi .ne v722 c0_i32_526
  v723

def k0_off121 (d0 : Dev nD) : Fin 3 → Nat :=
  let c2_i32_135 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_129 : BitVec 32 := 0#32
  let v121 : BitVec 1 := Scalar.cmpi .sgt v2 c0_i32_129
  let v122 : BitVec 32 := Scalar.extui v121
  let c0_i32_130 : BitVec 32 := 0#32
  let v123 : BitVec 1 := Scalar.cmpi .slt v2 c0_i32_130
  let v124 : BitVec 32 := Scalar.extui v123
  let v125 : BitVec 32 := Scalar.subi v122 v124
  let c8_i32_128 : BitVec 32 := 8#32
  let c0_i32_131 : BitVec 32 := 0#32
  let v126 : BitVec 1 := Scalar.cmpi .sgt c8_i32_128 c0_i32_131
  let v127 : BitVec 32 := Scalar.extui v126
  let c0_i32_132 : BitVec 32 := 0#32
  let v128 : BitVec 1 := Scalar.cmpi .slt c8_i32_128 c0_i32_132
  let v129 : BitVec 32 := Scalar.extui v128
  let v130 : BitVec 32 := Scalar.subi v127 v129
  let v131 : BitVec 1 := Scalar.cmpi .ne v125 v130
  let v132 : BitVec 32 := Scalar.remsi v2 c8_i32_128
  let c0_i32_133 : BitVec 32 := 0#32
  let v133 : BitVec 1 := Scalar.cmpi .ne v132 c0_i32_133
  let v134 : BitVec 1 := Scalar.andi v131 v133
  let v120 : BitVec 32 := Scalar.divsi v2 c8_i32_128
  let c1_i32_134 : BitVec 32 := 1#32
  let v135 : BitVec 32 := Scalar.subi v120 c1_i32_134
  let v136 : BitVec 32 := Scalar.select v134 v135 v120
  let v137 : BitVec 32 := Scalar.addi c2_i32_135 v136
  let c1_i32_136 : BitVec 32 := 1#32
  let v138 : BitVec 32 := Scalar.addi v137 c1_i32_136
  let c4_i32_137 : BitVec 32 := 4#32
  let v139 : BitVec 32 := Scalar.remsi v138 c4_i32_137
  let c8_i32_517 : BitVec 32 := 8#32
  let v710 : BitVec 32 := Scalar.muli v139 c8_i32_517
  let c1_i32_518 : BitVec 32 := 1#32
  let v711 : BitVec 32 := Scalar.addi v2 c1_i32_518
  let c7_i32_519 : BitVec 32 := 7#32
  let v712 : BitVec 32 := Scalar.addi v711 c7_i32_519
  let c8_i32_520 : BitVec 32 := 8#32
  let v713 : BitVec 32 := Scalar.remsi v712 c8_i32_520
  let v714 : BitVec 32 := Scalar.addi v710 v713
  let v1681 : Index := Scalar.indexCast v714
  let c0_1453 : Index := 0#32
  let c0_1454 : Index := 0#32
  ![v1681.toNat, 0, 0]
def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond49 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_568 : BitVec 32 := 8#32
  let v794 : BitVec 32 := Scalar.muli v165 c8_i32_568
  let c1_i32_569 : BitVec 32 := 1#32
  let v795 : BitVec 32 := Scalar.addi v2 c1_i32_569
  let c0_i32_570 : BitVec 32 := 0#32
  let v796 : BitVec 32 := Scalar.addi v795 c0_i32_570
  let c8_i32_571 : BitVec 32 := 8#32
  let v797 : BitVec 32 := Scalar.remsi v796 c8_i32_571
  let v798 : BitVec 32 := Scalar.addi v794 v797
  let v799 : BitVec 32 := Scalar.subi v798 v2
  let c32_i32_572 : BitVec 32 := 32#32
  let v800 : BitVec 32 := Scalar.addi v799 c32_i32_572
  let c32_i32_573 : BitVec 32 := 32#32
  let v801 : BitVec 32 := Scalar.remsi v800 c32_i32_573
  let c0_i32_574 : BitVec 32 := 0#32
  let v802 : BitVec 1 := Scalar.cmpi .ne v801 c0_i32_574
  let v803 : BitVec 32 := Scalar.extui v802
  let c0_i32_575 : BitVec 32 := 0#32
  let v804 : BitVec 1 := Scalar.cmpi .ne v803 c0_i32_575
  v804

def k0_off123 (d0 : Dev nD) : Fin 1 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_568 : BitVec 32 := 8#32
  let v794 : BitVec 32 := Scalar.muli v165 c8_i32_568
  let c1_i32_569 : BitVec 32 := 1#32
  let v795 : BitVec 32 := Scalar.addi v2 c1_i32_569
  let c0_i32_570 : BitVec 32 := 0#32
  let v796 : BitVec 32 := Scalar.addi v795 c0_i32_570
  let c8_i32_571 : BitVec 32 := 8#32
  let v797 : BitVec 32 := Scalar.remsi v796 c8_i32_571
  let v798 : BitVec 32 := Scalar.addi v794 v797
  let v799 : BitVec 32 := Scalar.subi v798 v2
  let c32_i32_572 : BitVec 32 := 32#32
  let v800 : BitVec 32 := Scalar.addi v799 c32_i32_572
  let c32_i32_573 : BitVec 32 := 32#32
  let v801 : BitVec 32 := Scalar.remsi v800 c32_i32_573
  let c1_i32_1453 : BitVec 32 := 1#32
  let v1681 : BitVec 32 := Scalar.subi v801 c1_i32_1453
  ![v1681.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off125 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_568 : BitVec 32 := 8#32
  let v794 : BitVec 32 := Scalar.muli v165 c8_i32_568
  let c1_i32_569 : BitVec 32 := 1#32
  let v795 : BitVec 32 := Scalar.addi v2 c1_i32_569
  let c0_i32_570 : BitVec 32 := 0#32
  let v796 : BitVec 32 := Scalar.addi v795 c0_i32_570
  let c8_i32_571 : BitVec 32 := 8#32
  let v797 : BitVec 32 := Scalar.remsi v796 c8_i32_571
  let v798 : BitVec 32 := Scalar.addi v794 v797
  let c0_i32_1459 : BitVec 32 := 0#32
  let c0_i32_1460 : BitVec 32 := 0#32
  ![v798.toNat, 0, 0]
def k0_dev57 (d0 : Dev nD) : Nat :=
  let c0_i32_1456 : BitVec 32 := 0#32
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_568 : BitVec 32 := 8#32
  let v794 : BitVec 32 := Scalar.muli v165 c8_i32_568
  let c1_i32_569 : BitVec 32 := 1#32
  let v795 : BitVec 32 := Scalar.addi v2 c1_i32_569
  let c0_i32_570 : BitVec 32 := 0#32
  let v796 : BitVec 32 := Scalar.addi v795 c0_i32_570
  let c8_i32_571 : BitVec 32 := 8#32
  let v797 : BitVec 32 := Scalar.remsi v796 c8_i32_571
  let v798 : BitVec 32 := Scalar.addi v794 v797
  let c1_i32_1455 : BitVec 32 := 1#32
  let v1683 : BitVec 32 := Scalar.muli v798 c1_i32_1455
  let v1684 : BitVec 32 := Scalar.addi c0_i32_1456 v1683
  v1684.toNat
def k0_cond50 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_568 : BitVec 32 := 8#32
  let v794 : BitVec 32 := Scalar.muli v165 c8_i32_568
  let c1_i32_569 : BitVec 32 := 1#32
  let v795 : BitVec 32 := Scalar.addi v2 c1_i32_569
  let c0_i32_570 : BitVec 32 := 0#32
  let v796 : BitVec 32 := Scalar.addi v795 c0_i32_570
  let c8_i32_571 : BitVec 32 := 8#32
  let v797 : BitVec 32 := Scalar.remsi v796 c8_i32_571
  let v798 : BitVec 32 := Scalar.addi v794 v797
  let v799 : BitVec 32 := Scalar.subi v798 v2
  let c32_i32_572 : BitVec 32 := 32#32
  let v800 : BitVec 32 := Scalar.addi v799 c32_i32_572
  let c32_i32_573 : BitVec 32 := 32#32
  let v801 : BitVec 32 := Scalar.remsi v800 c32_i32_573
  let c0_i32_576 : BitVec 32 := 0#32
  let v805 : BitVec 1 := Scalar.cmpi .eq v801 c0_i32_576
  let v806 : BitVec 32 := Scalar.extui v805
  let c0_i32_577 : BitVec 32 := 0#32
  let v807 : BitVec 1 := Scalar.cmpi .ne v806 c0_i32_577
  v807

def k0_off126 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_568 : BitVec 32 := 8#32
  let v794 : BitVec 32 := Scalar.muli v165 c8_i32_568
  let c1_i32_569 : BitVec 32 := 1#32
  let v795 : BitVec 32 := Scalar.addi v2 c1_i32_569
  let c0_i32_570 : BitVec 32 := 0#32
  let v796 : BitVec 32 := Scalar.addi v795 c0_i32_570
  let c8_i32_571 : BitVec 32 := 8#32
  let v797 : BitVec 32 := Scalar.remsi v796 c8_i32_571
  let v798 : BitVec 32 := Scalar.addi v794 v797
  let v1681 : Index := Scalar.indexCast v798
  let c0_1453 : Index := 0#32
  let c0_1454 : Index := 0#32
  ![v1681.toNat, 0, 0]
def k0_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond51 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_578 : BitVec 32 := 8#32
  let v808 : BitVec 32 := Scalar.muli v165 c8_i32_578
  let c1_i32_579 : BitVec 32 := 1#32
  let v809 : BitVec 32 := Scalar.addi v2 c1_i32_579
  let c1_i32_580 : BitVec 32 := 1#32
  let v810 : BitVec 32 := Scalar.addi v809 c1_i32_580
  let c8_i32_581 : BitVec 32 := 8#32
  let v811 : BitVec 32 := Scalar.remsi v810 c8_i32_581
  let v812 : BitVec 32 := Scalar.addi v808 v811
  let v813 : BitVec 32 := Scalar.subi v812 v2
  let c32_i32_582 : BitVec 32 := 32#32
  let v814 : BitVec 32 := Scalar.addi v813 c32_i32_582
  let c32_i32_583 : BitVec 32 := 32#32
  let v815 : BitVec 32 := Scalar.remsi v814 c32_i32_583
  let c0_i32_584 : BitVec 32 := 0#32
  let v816 : BitVec 1 := Scalar.cmpi .ne v815 c0_i32_584
  let v817 : BitVec 32 := Scalar.extui v816
  let c0_i32_585 : BitVec 32 := 0#32
  let v818 : BitVec 1 := Scalar.cmpi .ne v817 c0_i32_585
  v818

def k0_off128 (d0 : Dev nD) : Fin 1 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_578 : BitVec 32 := 8#32
  let v808 : BitVec 32 := Scalar.muli v165 c8_i32_578
  let c1_i32_579 : BitVec 32 := 1#32
  let v809 : BitVec 32 := Scalar.addi v2 c1_i32_579
  let c1_i32_580 : BitVec 32 := 1#32
  let v810 : BitVec 32 := Scalar.addi v809 c1_i32_580
  let c8_i32_581 : BitVec 32 := 8#32
  let v811 : BitVec 32 := Scalar.remsi v810 c8_i32_581
  let v812 : BitVec 32 := Scalar.addi v808 v811
  let v813 : BitVec 32 := Scalar.subi v812 v2
  let c32_i32_582 : BitVec 32 := 32#32
  let v814 : BitVec 32 := Scalar.addi v813 c32_i32_582
  let c32_i32_583 : BitVec 32 := 32#32
  let v815 : BitVec 32 := Scalar.remsi v814 c32_i32_583
  let c1_i32_1453 : BitVec 32 := 1#32
  let v1681 : BitVec 32 := Scalar.subi v815 c1_i32_1453
  ![v1681.toNat]
def k0_off129 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off130 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_578 : BitVec 32 := 8#32
  let v808 : BitVec 32 := Scalar.muli v165 c8_i32_578
  let c1_i32_579 : BitVec 32 := 1#32
  let v809 : BitVec 32 := Scalar.addi v2 c1_i32_579
  let c1_i32_580 : BitVec 32 := 1#32
  let v810 : BitVec 32 := Scalar.addi v809 c1_i32_580
  let c8_i32_581 : BitVec 32 := 8#32
  let v811 : BitVec 32 := Scalar.remsi v810 c8_i32_581
  let v812 : BitVec 32 := Scalar.addi v808 v811
  let c0_i32_1459 : BitVec 32 := 0#32
  let c0_i32_1460 : BitVec 32 := 0#32
  ![v812.toNat, 0, 0]
def k0_dev58 (d0 : Dev nD) : Nat :=
  let c0_i32_1456 : BitVec 32 := 0#32
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_578 : BitVec 32 := 8#32
  let v808 : BitVec 32 := Scalar.muli v165 c8_i32_578
  let c1_i32_579 : BitVec 32 := 1#32
  let v809 : BitVec 32 := Scalar.addi v2 c1_i32_579
  let c1_i32_580 : BitVec 32 := 1#32
  let v810 : BitVec 32 := Scalar.addi v809 c1_i32_580
  let c8_i32_581 : BitVec 32 := 8#32
  let v811 : BitVec 32 := Scalar.remsi v810 c8_i32_581
  let v812 : BitVec 32 := Scalar.addi v808 v811
  let c1_i32_1455 : BitVec 32 := 1#32
  let v1683 : BitVec 32 := Scalar.muli v812 c1_i32_1455
  let v1684 : BitVec 32 := Scalar.addi c0_i32_1456 v1683
  v1684.toNat
def k0_cond52 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_578 : BitVec 32 := 8#32
  let v808 : BitVec 32 := Scalar.muli v165 c8_i32_578
  let c1_i32_579 : BitVec 32 := 1#32
  let v809 : BitVec 32 := Scalar.addi v2 c1_i32_579
  let c1_i32_580 : BitVec 32 := 1#32
  let v810 : BitVec 32 := Scalar.addi v809 c1_i32_580
  let c8_i32_581 : BitVec 32 := 8#32
  let v811 : BitVec 32 := Scalar.remsi v810 c8_i32_581
  let v812 : BitVec 32 := Scalar.addi v808 v811
  let v813 : BitVec 32 := Scalar.subi v812 v2
  let c32_i32_582 : BitVec 32 := 32#32
  let v814 : BitVec 32 := Scalar.addi v813 c32_i32_582
  let c32_i32_583 : BitVec 32 := 32#32
  let v815 : BitVec 32 := Scalar.remsi v814 c32_i32_583
  let c0_i32_586 : BitVec 32 := 0#32
  let v819 : BitVec 1 := Scalar.cmpi .eq v815 c0_i32_586
  let v820 : BitVec 32 := Scalar.extui v819
  let c0_i32_587 : BitVec 32 := 0#32
  let v821 : BitVec 1 := Scalar.cmpi .ne v820 c0_i32_587
  v821

def k0_off131 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_578 : BitVec 32 := 8#32
  let v808 : BitVec 32 := Scalar.muli v165 c8_i32_578
  let c1_i32_579 : BitVec 32 := 1#32
  let v809 : BitVec 32 := Scalar.addi v2 c1_i32_579
  let c1_i32_580 : BitVec 32 := 1#32
  let v810 : BitVec 32 := Scalar.addi v809 c1_i32_580
  let c8_i32_581 : BitVec 32 := 8#32
  let v811 : BitVec 32 := Scalar.remsi v810 c8_i32_581
  let v812 : BitVec 32 := Scalar.addi v808 v811
  let v1681 : Index := Scalar.indexCast v812
  let c0_1453 : Index := 0#32
  let c0_1454 : Index := 0#32
  ![v1681.toNat, 0, 0]
def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond53 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_588 : BitVec 32 := 8#32
  let v822 : BitVec 32 := Scalar.muli v165 c8_i32_588
  let c1_i32_589 : BitVec 32 := 1#32
  let v823 : BitVec 32 := Scalar.addi v2 c1_i32_589
  let c2_i32_590 : BitVec 32 := 2#32
  let v824 : BitVec 32 := Scalar.addi v823 c2_i32_590
  let c8_i32_591 : BitVec 32 := 8#32
  let v825 : BitVec 32 := Scalar.remsi v824 c8_i32_591
  let v826 : BitVec 32 := Scalar.addi v822 v825
  let v827 : BitVec 32 := Scalar.subi v826 v2
  let c32_i32_592 : BitVec 32 := 32#32
  let v828 : BitVec 32 := Scalar.addi v827 c32_i32_592
  let c32_i32_593 : BitVec 32 := 32#32
  let v829 : BitVec 32 := Scalar.remsi v828 c32_i32_593
  let c0_i32_594 : BitVec 32 := 0#32
  let v830 : BitVec 1 := Scalar.cmpi .ne v829 c0_i32_594
  let v831 : BitVec 32 := Scalar.extui v830
  let c0_i32_595 : BitVec 32 := 0#32
  let v832 : BitVec 1 := Scalar.cmpi .ne v831 c0_i32_595
  v832

def k0_off133 (d0 : Dev nD) : Fin 1 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_588 : BitVec 32 := 8#32
  let v822 : BitVec 32 := Scalar.muli v165 c8_i32_588
  let c1_i32_589 : BitVec 32 := 1#32
  let v823 : BitVec 32 := Scalar.addi v2 c1_i32_589
  let c2_i32_590 : BitVec 32 := 2#32
  let v824 : BitVec 32 := Scalar.addi v823 c2_i32_590
  let c8_i32_591 : BitVec 32 := 8#32
  let v825 : BitVec 32 := Scalar.remsi v824 c8_i32_591
  let v826 : BitVec 32 := Scalar.addi v822 v825
  let v827 : BitVec 32 := Scalar.subi v826 v2
  let c32_i32_592 : BitVec 32 := 32#32
  let v828 : BitVec 32 := Scalar.addi v827 c32_i32_592
  let c32_i32_593 : BitVec 32 := 32#32
  let v829 : BitVec 32 := Scalar.remsi v828 c32_i32_593
  let c1_i32_1453 : BitVec 32 := 1#32
  let v1681 : BitVec 32 := Scalar.subi v829 c1_i32_1453
  ![v1681.toNat]
def k0_off134 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off135 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_588 : BitVec 32 := 8#32
  let v822 : BitVec 32 := Scalar.muli v165 c8_i32_588
  let c1_i32_589 : BitVec 32 := 1#32
  let v823 : BitVec 32 := Scalar.addi v2 c1_i32_589
  let c2_i32_590 : BitVec 32 := 2#32
  let v824 : BitVec 32 := Scalar.addi v823 c2_i32_590
  let c8_i32_591 : BitVec 32 := 8#32
  let v825 : BitVec 32 := Scalar.remsi v824 c8_i32_591
  let v826 : BitVec 32 := Scalar.addi v822 v825
  let c0_i32_1459 : BitVec 32 := 0#32
  let c0_i32_1460 : BitVec 32 := 0#32
  ![v826.toNat, 0, 0]
def k0_dev59 (d0 : Dev nD) : Nat :=
  let c0_i32_1456 : BitVec 32 := 0#32
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_588 : BitVec 32 := 8#32
  let v822 : BitVec 32 := Scalar.muli v165 c8_i32_588
  let c1_i32_589 : BitVec 32 := 1#32
  let v823 : BitVec 32 := Scalar.addi v2 c1_i32_589
  let c2_i32_590 : BitVec 32 := 2#32
  let v824 : BitVec 32 := Scalar.addi v823 c2_i32_590
  let c8_i32_591 : BitVec 32 := 8#32
  let v825 : BitVec 32 := Scalar.remsi v824 c8_i32_591
  let v826 : BitVec 32 := Scalar.addi v822 v825
  let c1_i32_1455 : BitVec 32 := 1#32
  let v1683 : BitVec 32 := Scalar.muli v826 c1_i32_1455
  let v1684 : BitVec 32 := Scalar.addi c0_i32_1456 v1683
  v1684.toNat
def k0_cond54 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_588 : BitVec 32 := 8#32
  let v822 : BitVec 32 := Scalar.muli v165 c8_i32_588
  let c1_i32_589 : BitVec 32 := 1#32
  let v823 : BitVec 32 := Scalar.addi v2 c1_i32_589
  let c2_i32_590 : BitVec 32 := 2#32
  let v824 : BitVec 32 := Scalar.addi v823 c2_i32_590
  let c8_i32_591 : BitVec 32 := 8#32
  let v825 : BitVec 32 := Scalar.remsi v824 c8_i32_591
  let v826 : BitVec 32 := Scalar.addi v822 v825
  let v827 : BitVec 32 := Scalar.subi v826 v2
  let c32_i32_592 : BitVec 32 := 32#32
  let v828 : BitVec 32 := Scalar.addi v827 c32_i32_592
  let c32_i32_593 : BitVec 32 := 32#32
  let v829 : BitVec 32 := Scalar.remsi v828 c32_i32_593
  let c0_i32_596 : BitVec 32 := 0#32
  let v833 : BitVec 1 := Scalar.cmpi .eq v829 c0_i32_596
  let v834 : BitVec 32 := Scalar.extui v833
  let c0_i32_597 : BitVec 32 := 0#32
  let v835 : BitVec 1 := Scalar.cmpi .ne v834 c0_i32_597
  v835

def k0_off136 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_588 : BitVec 32 := 8#32
  let v822 : BitVec 32 := Scalar.muli v165 c8_i32_588
  let c1_i32_589 : BitVec 32 := 1#32
  let v823 : BitVec 32 := Scalar.addi v2 c1_i32_589
  let c2_i32_590 : BitVec 32 := 2#32
  let v824 : BitVec 32 := Scalar.addi v823 c2_i32_590
  let c8_i32_591 : BitVec 32 := 8#32
  let v825 : BitVec 32 := Scalar.remsi v824 c8_i32_591
  let v826 : BitVec 32 := Scalar.addi v822 v825
  let v1681 : Index := Scalar.indexCast v826
  let c0_1453 : Index := 0#32
  let c0_1454 : Index := 0#32
  ![v1681.toNat, 0, 0]
def k0_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond55 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_598 : BitVec 32 := 8#32
  let v836 : BitVec 32 := Scalar.muli v165 c8_i32_598
  let c1_i32_599 : BitVec 32 := 1#32
  let v837 : BitVec 32 := Scalar.addi v2 c1_i32_599
  let c3_i32_600 : BitVec 32 := 3#32
  let v838 : BitVec 32 := Scalar.addi v837 c3_i32_600
  let c8_i32_601 : BitVec 32 := 8#32
  let v839 : BitVec 32 := Scalar.remsi v838 c8_i32_601
  let v840 : BitVec 32 := Scalar.addi v836 v839
  let v841 : BitVec 32 := Scalar.subi v840 v2
  let c32_i32_602 : BitVec 32 := 32#32
  let v842 : BitVec 32 := Scalar.addi v841 c32_i32_602
  let c32_i32_603 : BitVec 32 := 32#32
  let v843 : BitVec 32 := Scalar.remsi v842 c32_i32_603
  let c0_i32_604 : BitVec 32 := 0#32
  let v844 : BitVec 1 := Scalar.cmpi .ne v843 c0_i32_604
  let v845 : BitVec 32 := Scalar.extui v844
  let c0_i32_605 : BitVec 32 := 0#32
  let v846 : BitVec 1 := Scalar.cmpi .ne v845 c0_i32_605
  v846

def k0_off138 (d0 : Dev nD) : Fin 1 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_598 : BitVec 32 := 8#32
  let v836 : BitVec 32 := Scalar.muli v165 c8_i32_598
  let c1_i32_599 : BitVec 32 := 1#32
  let v837 : BitVec 32 := Scalar.addi v2 c1_i32_599
  let c3_i32_600 : BitVec 32 := 3#32
  let v838 : BitVec 32 := Scalar.addi v837 c3_i32_600
  let c8_i32_601 : BitVec 32 := 8#32
  let v839 : BitVec 32 := Scalar.remsi v838 c8_i32_601
  let v840 : BitVec 32 := Scalar.addi v836 v839
  let v841 : BitVec 32 := Scalar.subi v840 v2
  let c32_i32_602 : BitVec 32 := 32#32
  let v842 : BitVec 32 := Scalar.addi v841 c32_i32_602
  let c32_i32_603 : BitVec 32 := 32#32
  let v843 : BitVec 32 := Scalar.remsi v842 c32_i32_603
  let c1_i32_1453 : BitVec 32 := 1#32
  let v1681 : BitVec 32 := Scalar.subi v843 c1_i32_1453
  ![v1681.toNat]
def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off140 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_598 : BitVec 32 := 8#32
  let v836 : BitVec 32 := Scalar.muli v165 c8_i32_598
  let c1_i32_599 : BitVec 32 := 1#32
  let v837 : BitVec 32 := Scalar.addi v2 c1_i32_599
  let c3_i32_600 : BitVec 32 := 3#32
  let v838 : BitVec 32 := Scalar.addi v837 c3_i32_600
  let c8_i32_601 : BitVec 32 := 8#32
  let v839 : BitVec 32 := Scalar.remsi v838 c8_i32_601
  let v840 : BitVec 32 := Scalar.addi v836 v839
  let c0_i32_1459 : BitVec 32 := 0#32
  let c0_i32_1460 : BitVec 32 := 0#32
  ![v840.toNat, 0, 0]
def k0_dev60 (d0 : Dev nD) : Nat :=
  let c0_i32_1456 : BitVec 32 := 0#32
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_598 : BitVec 32 := 8#32
  let v836 : BitVec 32 := Scalar.muli v165 c8_i32_598
  let c1_i32_599 : BitVec 32 := 1#32
  let v837 : BitVec 32 := Scalar.addi v2 c1_i32_599
  let c3_i32_600 : BitVec 32 := 3#32
  let v838 : BitVec 32 := Scalar.addi v837 c3_i32_600
  let c8_i32_601 : BitVec 32 := 8#32
  let v839 : BitVec 32 := Scalar.remsi v838 c8_i32_601
  let v840 : BitVec 32 := Scalar.addi v836 v839
  let c1_i32_1455 : BitVec 32 := 1#32
  let v1683 : BitVec 32 := Scalar.muli v840 c1_i32_1455
  let v1684 : BitVec 32 := Scalar.addi c0_i32_1456 v1683
  v1684.toNat
def k0_cond56 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_598 : BitVec 32 := 8#32
  let v836 : BitVec 32 := Scalar.muli v165 c8_i32_598
  let c1_i32_599 : BitVec 32 := 1#32
  let v837 : BitVec 32 := Scalar.addi v2 c1_i32_599
  let c3_i32_600 : BitVec 32 := 3#32
  let v838 : BitVec 32 := Scalar.addi v837 c3_i32_600
  let c8_i32_601 : BitVec 32 := 8#32
  let v839 : BitVec 32 := Scalar.remsi v838 c8_i32_601
  let v840 : BitVec 32 := Scalar.addi v836 v839
  let v841 : BitVec 32 := Scalar.subi v840 v2
  let c32_i32_602 : BitVec 32 := 32#32
  let v842 : BitVec 32 := Scalar.addi v841 c32_i32_602
  let c32_i32_603 : BitVec 32 := 32#32
  let v843 : BitVec 32 := Scalar.remsi v842 c32_i32_603
  let c0_i32_606 : BitVec 32 := 0#32
  let v847 : BitVec 1 := Scalar.cmpi .eq v843 c0_i32_606
  let v848 : BitVec 32 := Scalar.extui v847
  let c0_i32_607 : BitVec 32 := 0#32
  let v849 : BitVec 1 := Scalar.cmpi .ne v848 c0_i32_607
  v849

def k0_off141 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_598 : BitVec 32 := 8#32
  let v836 : BitVec 32 := Scalar.muli v165 c8_i32_598
  let c1_i32_599 : BitVec 32 := 1#32
  let v837 : BitVec 32 := Scalar.addi v2 c1_i32_599
  let c3_i32_600 : BitVec 32 := 3#32
  let v838 : BitVec 32 := Scalar.addi v837 c3_i32_600
  let c8_i32_601 : BitVec 32 := 8#32
  let v839 : BitVec 32 := Scalar.remsi v838 c8_i32_601
  let v840 : BitVec 32 := Scalar.addi v836 v839
  let v1681 : Index := Scalar.indexCast v840
  let c0_1453 : Index := 0#32
  let c0_1454 : Index := 0#32
  ![v1681.toNat, 0, 0]
def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond57 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_608 : BitVec 32 := 8#32
  let v850 : BitVec 32 := Scalar.muli v165 c8_i32_608
  let c1_i32_609 : BitVec 32 := 1#32
  let v851 : BitVec 32 := Scalar.addi v2 c1_i32_609
  let c4_i32_610 : BitVec 32 := 4#32
  let v852 : BitVec 32 := Scalar.addi v851 c4_i32_610
  let c8_i32_611 : BitVec 32 := 8#32
  let v853 : BitVec 32 := Scalar.remsi v852 c8_i32_611
  let v854 : BitVec 32 := Scalar.addi v850 v853
  let v855 : BitVec 32 := Scalar.subi v854 v2
  let c32_i32_612 : BitVec 32 := 32#32
  let v856 : BitVec 32 := Scalar.addi v855 c32_i32_612
  let c32_i32_613 : BitVec 32 := 32#32
  let v857 : BitVec 32 := Scalar.remsi v856 c32_i32_613
  let c0_i32_614 : BitVec 32 := 0#32
  let v858 : BitVec 1 := Scalar.cmpi .ne v857 c0_i32_614
  let v859 : BitVec 32 := Scalar.extui v858
  let c0_i32_615 : BitVec 32 := 0#32
  let v860 : BitVec 1 := Scalar.cmpi .ne v859 c0_i32_615
  v860

def k0_off143 (d0 : Dev nD) : Fin 1 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_608 : BitVec 32 := 8#32
  let v850 : BitVec 32 := Scalar.muli v165 c8_i32_608
  let c1_i32_609 : BitVec 32 := 1#32
  let v851 : BitVec 32 := Scalar.addi v2 c1_i32_609
  let c4_i32_610 : BitVec 32 := 4#32
  let v852 : BitVec 32 := Scalar.addi v851 c4_i32_610
  let c8_i32_611 : BitVec 32 := 8#32
  let v853 : BitVec 32 := Scalar.remsi v852 c8_i32_611
  let v854 : BitVec 32 := Scalar.addi v850 v853
  let v855 : BitVec 32 := Scalar.subi v854 v2
  let c32_i32_612 : BitVec 32 := 32#32
  let v856 : BitVec 32 := Scalar.addi v855 c32_i32_612
  let c32_i32_613 : BitVec 32 := 32#32
  let v857 : BitVec 32 := Scalar.remsi v856 c32_i32_613
  let c1_i32_1453 : BitVec 32 := 1#32
  let v1681 : BitVec 32 := Scalar.subi v857 c1_i32_1453
  ![v1681.toNat]
def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off145 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_608 : BitVec 32 := 8#32
  let v850 : BitVec 32 := Scalar.muli v165 c8_i32_608
  let c1_i32_609 : BitVec 32 := 1#32
  let v851 : BitVec 32 := Scalar.addi v2 c1_i32_609
  let c4_i32_610 : BitVec 32 := 4#32
  let v852 : BitVec 32 := Scalar.addi v851 c4_i32_610
  let c8_i32_611 : BitVec 32 := 8#32
  let v853 : BitVec 32 := Scalar.remsi v852 c8_i32_611
  let v854 : BitVec 32 := Scalar.addi v850 v853
  let c0_i32_1459 : BitVec 32 := 0#32
  let c0_i32_1460 : BitVec 32 := 0#32
  ![v854.toNat, 0, 0]
def k0_dev61 (d0 : Dev nD) : Nat :=
  let c0_i32_1456 : BitVec 32 := 0#32
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_608 : BitVec 32 := 8#32
  let v850 : BitVec 32 := Scalar.muli v165 c8_i32_608
  let c1_i32_609 : BitVec 32 := 1#32
  let v851 : BitVec 32 := Scalar.addi v2 c1_i32_609
  let c4_i32_610 : BitVec 32 := 4#32
  let v852 : BitVec 32 := Scalar.addi v851 c4_i32_610
  let c8_i32_611 : BitVec 32 := 8#32
  let v853 : BitVec 32 := Scalar.remsi v852 c8_i32_611
  let v854 : BitVec 32 := Scalar.addi v850 v853
  let c1_i32_1455 : BitVec 32 := 1#32
  let v1683 : BitVec 32 := Scalar.muli v854 c1_i32_1455
  let v1684 : BitVec 32 := Scalar.addi c0_i32_1456 v1683
  v1684.toNat
def k0_cond58 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_608 : BitVec 32 := 8#32
  let v850 : BitVec 32 := Scalar.muli v165 c8_i32_608
  let c1_i32_609 : BitVec 32 := 1#32
  let v851 : BitVec 32 := Scalar.addi v2 c1_i32_609
  let c4_i32_610 : BitVec 32 := 4#32
  let v852 : BitVec 32 := Scalar.addi v851 c4_i32_610
  let c8_i32_611 : BitVec 32 := 8#32
  let v853 : BitVec 32 := Scalar.remsi v852 c8_i32_611
  let v854 : BitVec 32 := Scalar.addi v850 v853
  let v855 : BitVec 32 := Scalar.subi v854 v2
  let c32_i32_612 : BitVec 32 := 32#32
  let v856 : BitVec 32 := Scalar.addi v855 c32_i32_612
  let c32_i32_613 : BitVec 32 := 32#32
  let v857 : BitVec 32 := Scalar.remsi v856 c32_i32_613
  let c0_i32_616 : BitVec 32 := 0#32
  let v861 : BitVec 1 := Scalar.cmpi .eq v857 c0_i32_616
  let v862 : BitVec 32 := Scalar.extui v861
  let c0_i32_617 : BitVec 32 := 0#32
  let v863 : BitVec 1 := Scalar.cmpi .ne v862 c0_i32_617
  v863

def k0_off146 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_608 : BitVec 32 := 8#32
  let v850 : BitVec 32 := Scalar.muli v165 c8_i32_608
  let c1_i32_609 : BitVec 32 := 1#32
  let v851 : BitVec 32 := Scalar.addi v2 c1_i32_609
  let c4_i32_610 : BitVec 32 := 4#32
  let v852 : BitVec 32 := Scalar.addi v851 c4_i32_610
  let c8_i32_611 : BitVec 32 := 8#32
  let v853 : BitVec 32 := Scalar.remsi v852 c8_i32_611
  let v854 : BitVec 32 := Scalar.addi v850 v853
  let v1681 : Index := Scalar.indexCast v854
  let c0_1453 : Index := 0#32
  let c0_1454 : Index := 0#32
  ![v1681.toNat, 0, 0]
def k0_off147 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond59 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_618 : BitVec 32 := 8#32
  let v864 : BitVec 32 := Scalar.muli v165 c8_i32_618
  let c1_i32_619 : BitVec 32 := 1#32
  let v865 : BitVec 32 := Scalar.addi v2 c1_i32_619
  let c5_i32_620 : BitVec 32 := 5#32
  let v866 : BitVec 32 := Scalar.addi v865 c5_i32_620
  let c8_i32_621 : BitVec 32 := 8#32
  let v867 : BitVec 32 := Scalar.remsi v866 c8_i32_621
  let v868 : BitVec 32 := Scalar.addi v864 v867
  let v869 : BitVec 32 := Scalar.subi v868 v2
  let c32_i32_622 : BitVec 32 := 32#32
  let v870 : BitVec 32 := Scalar.addi v869 c32_i32_622
  let c32_i32_623 : BitVec 32 := 32#32
  let v871 : BitVec 32 := Scalar.remsi v870 c32_i32_623
  let c0_i32_624 : BitVec 32 := 0#32
  let v872 : BitVec 1 := Scalar.cmpi .ne v871 c0_i32_624
  let v873 : BitVec 32 := Scalar.extui v872
  let c0_i32_625 : BitVec 32 := 0#32
  let v874 : BitVec 1 := Scalar.cmpi .ne v873 c0_i32_625
  v874

def k0_off148 (d0 : Dev nD) : Fin 1 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_618 : BitVec 32 := 8#32
  let v864 : BitVec 32 := Scalar.muli v165 c8_i32_618
  let c1_i32_619 : BitVec 32 := 1#32
  let v865 : BitVec 32 := Scalar.addi v2 c1_i32_619
  let c5_i32_620 : BitVec 32 := 5#32
  let v866 : BitVec 32 := Scalar.addi v865 c5_i32_620
  let c8_i32_621 : BitVec 32 := 8#32
  let v867 : BitVec 32 := Scalar.remsi v866 c8_i32_621
  let v868 : BitVec 32 := Scalar.addi v864 v867
  let v869 : BitVec 32 := Scalar.subi v868 v2
  let c32_i32_622 : BitVec 32 := 32#32
  let v870 : BitVec 32 := Scalar.addi v869 c32_i32_622
  let c32_i32_623 : BitVec 32 := 32#32
  let v871 : BitVec 32 := Scalar.remsi v870 c32_i32_623
  let c1_i32_1453 : BitVec 32 := 1#32
  let v1681 : BitVec 32 := Scalar.subi v871 c1_i32_1453
  ![v1681.toNat]
def k0_off149 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off150 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_618 : BitVec 32 := 8#32
  let v864 : BitVec 32 := Scalar.muli v165 c8_i32_618
  let c1_i32_619 : BitVec 32 := 1#32
  let v865 : BitVec 32 := Scalar.addi v2 c1_i32_619
  let c5_i32_620 : BitVec 32 := 5#32
  let v866 : BitVec 32 := Scalar.addi v865 c5_i32_620
  let c8_i32_621 : BitVec 32 := 8#32
  let v867 : BitVec 32 := Scalar.remsi v866 c8_i32_621
  let v868 : BitVec 32 := Scalar.addi v864 v867
  let c0_i32_1459 : BitVec 32 := 0#32
  let c0_i32_1460 : BitVec 32 := 0#32
  ![v868.toNat, 0, 0]
def k0_dev62 (d0 : Dev nD) : Nat :=
  let c0_i32_1456 : BitVec 32 := 0#32
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_618 : BitVec 32 := 8#32
  let v864 : BitVec 32 := Scalar.muli v165 c8_i32_618
  let c1_i32_619 : BitVec 32 := 1#32
  let v865 : BitVec 32 := Scalar.addi v2 c1_i32_619
  let c5_i32_620 : BitVec 32 := 5#32
  let v866 : BitVec 32 := Scalar.addi v865 c5_i32_620
  let c8_i32_621 : BitVec 32 := 8#32
  let v867 : BitVec 32 := Scalar.remsi v866 c8_i32_621
  let v868 : BitVec 32 := Scalar.addi v864 v867
  let c1_i32_1455 : BitVec 32 := 1#32
  let v1683 : BitVec 32 := Scalar.muli v868 c1_i32_1455
  let v1684 : BitVec 32 := Scalar.addi c0_i32_1456 v1683
  v1684.toNat
def k0_cond60 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_618 : BitVec 32 := 8#32
  let v864 : BitVec 32 := Scalar.muli v165 c8_i32_618
  let c1_i32_619 : BitVec 32 := 1#32
  let v865 : BitVec 32 := Scalar.addi v2 c1_i32_619
  let c5_i32_620 : BitVec 32 := 5#32
  let v866 : BitVec 32 := Scalar.addi v865 c5_i32_620
  let c8_i32_621 : BitVec 32 := 8#32
  let v867 : BitVec 32 := Scalar.remsi v866 c8_i32_621
  let v868 : BitVec 32 := Scalar.addi v864 v867
  let v869 : BitVec 32 := Scalar.subi v868 v2
  let c32_i32_622 : BitVec 32 := 32#32
  let v870 : BitVec 32 := Scalar.addi v869 c32_i32_622
  let c32_i32_623 : BitVec 32 := 32#32
  let v871 : BitVec 32 := Scalar.remsi v870 c32_i32_623
  let c0_i32_626 : BitVec 32 := 0#32
  let v875 : BitVec 1 := Scalar.cmpi .eq v871 c0_i32_626
  let v876 : BitVec 32 := Scalar.extui v875
  let c0_i32_627 : BitVec 32 := 0#32
  let v877 : BitVec 1 := Scalar.cmpi .ne v876 c0_i32_627
  v877

def k0_off151 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_618 : BitVec 32 := 8#32
  let v864 : BitVec 32 := Scalar.muli v165 c8_i32_618
  let c1_i32_619 : BitVec 32 := 1#32
  let v865 : BitVec 32 := Scalar.addi v2 c1_i32_619
  let c5_i32_620 : BitVec 32 := 5#32
  let v866 : BitVec 32 := Scalar.addi v865 c5_i32_620
  let c8_i32_621 : BitVec 32 := 8#32
  let v867 : BitVec 32 := Scalar.remsi v866 c8_i32_621
  let v868 : BitVec 32 := Scalar.addi v864 v867
  let v1681 : Index := Scalar.indexCast v868
  let c0_1453 : Index := 0#32
  let c0_1454 : Index := 0#32
  ![v1681.toNat, 0, 0]
def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond61 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_628 : BitVec 32 := 8#32
  let v878 : BitVec 32 := Scalar.muli v165 c8_i32_628
  let c1_i32_629 : BitVec 32 := 1#32
  let v879 : BitVec 32 := Scalar.addi v2 c1_i32_629
  let c6_i32_630 : BitVec 32 := 6#32
  let v880 : BitVec 32 := Scalar.addi v879 c6_i32_630
  let c8_i32_631 : BitVec 32 := 8#32
  let v881 : BitVec 32 := Scalar.remsi v880 c8_i32_631
  let v882 : BitVec 32 := Scalar.addi v878 v881
  let v883 : BitVec 32 := Scalar.subi v882 v2
  let c32_i32_632 : BitVec 32 := 32#32
  let v884 : BitVec 32 := Scalar.addi v883 c32_i32_632
  let c32_i32_633 : BitVec 32 := 32#32
  let v885 : BitVec 32 := Scalar.remsi v884 c32_i32_633
  let c0_i32_634 : BitVec 32 := 0#32
  let v886 : BitVec 1 := Scalar.cmpi .ne v885 c0_i32_634
  let v887 : BitVec 32 := Scalar.extui v886
  let c0_i32_635 : BitVec 32 := 0#32
  let v888 : BitVec 1 := Scalar.cmpi .ne v887 c0_i32_635
  v888

def k0_off153 (d0 : Dev nD) : Fin 1 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_628 : BitVec 32 := 8#32
  let v878 : BitVec 32 := Scalar.muli v165 c8_i32_628
  let c1_i32_629 : BitVec 32 := 1#32
  let v879 : BitVec 32 := Scalar.addi v2 c1_i32_629
  let c6_i32_630 : BitVec 32 := 6#32
  let v880 : BitVec 32 := Scalar.addi v879 c6_i32_630
  let c8_i32_631 : BitVec 32 := 8#32
  let v881 : BitVec 32 := Scalar.remsi v880 c8_i32_631
  let v882 : BitVec 32 := Scalar.addi v878 v881
  let v883 : BitVec 32 := Scalar.subi v882 v2
  let c32_i32_632 : BitVec 32 := 32#32
  let v884 : BitVec 32 := Scalar.addi v883 c32_i32_632
  let c32_i32_633 : BitVec 32 := 32#32
  let v885 : BitVec 32 := Scalar.remsi v884 c32_i32_633
  let c1_i32_1453 : BitVec 32 := 1#32
  let v1681 : BitVec 32 := Scalar.subi v885 c1_i32_1453
  ![v1681.toNat]
def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off155 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_628 : BitVec 32 := 8#32
  let v878 : BitVec 32 := Scalar.muli v165 c8_i32_628
  let c1_i32_629 : BitVec 32 := 1#32
  let v879 : BitVec 32 := Scalar.addi v2 c1_i32_629
  let c6_i32_630 : BitVec 32 := 6#32
  let v880 : BitVec 32 := Scalar.addi v879 c6_i32_630
  let c8_i32_631 : BitVec 32 := 8#32
  let v881 : BitVec 32 := Scalar.remsi v880 c8_i32_631
  let v882 : BitVec 32 := Scalar.addi v878 v881
  let c0_i32_1459 : BitVec 32 := 0#32
  let c0_i32_1460 : BitVec 32 := 0#32
  ![v882.toNat, 0, 0]
def k0_dev63 (d0 : Dev nD) : Nat :=
  let c0_i32_1456 : BitVec 32 := 0#32
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_628 : BitVec 32 := 8#32
  let v878 : BitVec 32 := Scalar.muli v165 c8_i32_628
  let c1_i32_629 : BitVec 32 := 1#32
  let v879 : BitVec 32 := Scalar.addi v2 c1_i32_629
  let c6_i32_630 : BitVec 32 := 6#32
  let v880 : BitVec 32 := Scalar.addi v879 c6_i32_630
  let c8_i32_631 : BitVec 32 := 8#32
  let v881 : BitVec 32 := Scalar.remsi v880 c8_i32_631
  let v882 : BitVec 32 := Scalar.addi v878 v881
  let c1_i32_1455 : BitVec 32 := 1#32
  let v1683 : BitVec 32 := Scalar.muli v882 c1_i32_1455
  let v1684 : BitVec 32 := Scalar.addi c0_i32_1456 v1683
  v1684.toNat
def k0_cond62 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_628 : BitVec 32 := 8#32
  let v878 : BitVec 32 := Scalar.muli v165 c8_i32_628
  let c1_i32_629 : BitVec 32 := 1#32
  let v879 : BitVec 32 := Scalar.addi v2 c1_i32_629
  let c6_i32_630 : BitVec 32 := 6#32
  let v880 : BitVec 32 := Scalar.addi v879 c6_i32_630
  let c8_i32_631 : BitVec 32 := 8#32
  let v881 : BitVec 32 := Scalar.remsi v880 c8_i32_631
  let v882 : BitVec 32 := Scalar.addi v878 v881
  let v883 : BitVec 32 := Scalar.subi v882 v2
  let c32_i32_632 : BitVec 32 := 32#32
  let v884 : BitVec 32 := Scalar.addi v883 c32_i32_632
  let c32_i32_633 : BitVec 32 := 32#32
  let v885 : BitVec 32 := Scalar.remsi v884 c32_i32_633
  let c0_i32_636 : BitVec 32 := 0#32
  let v889 : BitVec 1 := Scalar.cmpi .eq v885 c0_i32_636
  let v890 : BitVec 32 := Scalar.extui v889
  let c0_i32_637 : BitVec 32 := 0#32
  let v891 : BitVec 1 := Scalar.cmpi .ne v890 c0_i32_637
  v891

def k0_off156 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_628 : BitVec 32 := 8#32
  let v878 : BitVec 32 := Scalar.muli v165 c8_i32_628
  let c1_i32_629 : BitVec 32 := 1#32
  let v879 : BitVec 32 := Scalar.addi v2 c1_i32_629
  let c6_i32_630 : BitVec 32 := 6#32
  let v880 : BitVec 32 := Scalar.addi v879 c6_i32_630
  let c8_i32_631 : BitVec 32 := 8#32
  let v881 : BitVec 32 := Scalar.remsi v880 c8_i32_631
  let v882 : BitVec 32 := Scalar.addi v878 v881
  let v1681 : Index := Scalar.indexCast v882
  let c0_1453 : Index := 0#32
  let c0_1454 : Index := 0#32
  ![v1681.toNat, 0, 0]
def k0_off157 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_cond63 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_638 : BitVec 32 := 8#32
  let v892 : BitVec 32 := Scalar.muli v165 c8_i32_638
  let c1_i32_639 : BitVec 32 := 1#32
  let v893 : BitVec 32 := Scalar.addi v2 c1_i32_639
  let c7_i32_640 : BitVec 32 := 7#32
  let v894 : BitVec 32 := Scalar.addi v893 c7_i32_640
  let c8_i32_641 : BitVec 32 := 8#32
  let v895 : BitVec 32 := Scalar.remsi v894 c8_i32_641
  let v896 : BitVec 32 := Scalar.addi v892 v895
  let v897 : BitVec 32 := Scalar.subi v896 v2
  let c32_i32_642 : BitVec 32 := 32#32
  let v898 : BitVec 32 := Scalar.addi v897 c32_i32_642
  let c32_i32_643 : BitVec 32 := 32#32
  let v899 : BitVec 32 := Scalar.remsi v898 c32_i32_643
  let c0_i32_644 : BitVec 32 := 0#32
  let v900 : BitVec 1 := Scalar.cmpi .ne v899 c0_i32_644
  let v901 : BitVec 32 := Scalar.extui v900
  let c0_i32_645 : BitVec 32 := 0#32
  let v902 : BitVec 1 := Scalar.cmpi .ne v901 c0_i32_645
  v902

def k0_off158 (d0 : Dev nD) : Fin 1 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_638 : BitVec 32 := 8#32
  let v892 : BitVec 32 := Scalar.muli v165 c8_i32_638
  let c1_i32_639 : BitVec 32 := 1#32
  let v893 : BitVec 32 := Scalar.addi v2 c1_i32_639
  let c7_i32_640 : BitVec 32 := 7#32
  let v894 : BitVec 32 := Scalar.addi v893 c7_i32_640
  let c8_i32_641 : BitVec 32 := 8#32
  let v895 : BitVec 32 := Scalar.remsi v894 c8_i32_641
  let v896 : BitVec 32 := Scalar.addi v892 v895
  let v897 : BitVec 32 := Scalar.subi v896 v2
  let c32_i32_642 : BitVec 32 := 32#32
  let v898 : BitVec 32 := Scalar.addi v897 c32_i32_642
  let c32_i32_643 : BitVec 32 := 32#32
  let v899 : BitVec 32 := Scalar.remsi v898 c32_i32_643
  let c1_i32_1453 : BitVec 32 := 1#32
  let v1681 : BitVec 32 := Scalar.subi v899 c1_i32_1453
  ![v1681.toNat]
def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1457 : BitVec 32 := 0#32
  let c0_i32_1458 : BitVec 32 := 0#32
  ![v2.toNat, 0, 0]
def k0_off160 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_638 : BitVec 32 := 8#32
  let v892 : BitVec 32 := Scalar.muli v165 c8_i32_638
  let c1_i32_639 : BitVec 32 := 1#32
  let v893 : BitVec 32 := Scalar.addi v2 c1_i32_639
  let c7_i32_640 : BitVec 32 := 7#32
  let v894 : BitVec 32 := Scalar.addi v893 c7_i32_640
  let c8_i32_641 : BitVec 32 := 8#32
  let v895 : BitVec 32 := Scalar.remsi v894 c8_i32_641
  let v896 : BitVec 32 := Scalar.addi v892 v895
  let c0_i32_1459 : BitVec 32 := 0#32
  let c0_i32_1460 : BitVec 32 := 0#32
  ![v896.toNat, 0, 0]
def k0_dev64 (d0 : Dev nD) : Nat :=
  let c0_i32_1456 : BitVec 32 := 0#32
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_638 : BitVec 32 := 8#32
  let v892 : BitVec 32 := Scalar.muli v165 c8_i32_638
  let c1_i32_639 : BitVec 32 := 1#32
  let v893 : BitVec 32 := Scalar.addi v2 c1_i32_639
  let c7_i32_640 : BitVec 32 := 7#32
  let v894 : BitVec 32 := Scalar.addi v893 c7_i32_640
  let c8_i32_641 : BitVec 32 := 8#32
  let v895 : BitVec 32 := Scalar.remsi v894 c8_i32_641
  let v896 : BitVec 32 := Scalar.addi v892 v895
  let c1_i32_1455 : BitVec 32 := 1#32
  let v1683 : BitVec 32 := Scalar.muli v896 c1_i32_1455
  let v1684 : BitVec 32 := Scalar.addi c0_i32_1456 v1683
  v1684.toNat
def k0_cond64 (d0 : Dev nD) : BitVec 1 :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_638 : BitVec 32 := 8#32
  let v892 : BitVec 32 := Scalar.muli v165 c8_i32_638
  let c1_i32_639 : BitVec 32 := 1#32
  let v893 : BitVec 32 := Scalar.addi v2 c1_i32_639
  let c7_i32_640 : BitVec 32 := 7#32
  let v894 : BitVec 32 := Scalar.addi v893 c7_i32_640
  let c8_i32_641 : BitVec 32 := 8#32
  let v895 : BitVec 32 := Scalar.remsi v894 c8_i32_641
  let v896 : BitVec 32 := Scalar.addi v892 v895
  let v897 : BitVec 32 := Scalar.subi v896 v2
  let c32_i32_642 : BitVec 32 := 32#32
  let v898 : BitVec 32 := Scalar.addi v897 c32_i32_642
  let c32_i32_643 : BitVec 32 := 32#32
  let v899 : BitVec 32 := Scalar.remsi v898 c32_i32_643
  let c0_i32_646 : BitVec 32 := 0#32
  let v903 : BitVec 1 := Scalar.cmpi .eq v899 c0_i32_646
  let v904 : BitVec 32 := Scalar.extui v903
  let c0_i32_647 : BitVec 32 := 0#32
  let v905 : BitVec 1 := Scalar.cmpi .ne v904 c0_i32_647
  v905

def k0_off161 (d0 : Dev nD) : Fin 3 → Nat :=
  let c3_i32_151 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_145 : BitVec 32 := 0#32
  let v147 : BitVec 1 := Scalar.cmpi .sgt v2 c0_i32_145
  let v148 : BitVec 32 := Scalar.extui v147
  let c0_i32_146 : BitVec 32 := 0#32
  let v149 : BitVec 1 := Scalar.cmpi .slt v2 c0_i32_146
  let v150 : BitVec 32 := Scalar.extui v149
  let v151 : BitVec 32 := Scalar.subi v148 v150
  let c8_i32_144 : BitVec 32 := 8#32
  let c0_i32_147 : BitVec 32 := 0#32
  let v152 : BitVec 1 := Scalar.cmpi .sgt c8_i32_144 c0_i32_147
  let v153 : BitVec 32 := Scalar.extui v152
  let c0_i32_148 : BitVec 32 := 0#32
  let v154 : BitVec 1 := Scalar.cmpi .slt c8_i32_144 c0_i32_148
  let v155 : BitVec 32 := Scalar.extui v154
  let v156 : BitVec 32 := Scalar.subi v153 v155
  let v157 : BitVec 1 := Scalar.cmpi .ne v151 v156
  let v158 : BitVec 32 := Scalar.remsi v2 c8_i32_144
  let c0_i32_149 : BitVec 32 := 0#32
  let v159 : BitVec 1 := Scalar.cmpi .ne v158 c0_i32_149
  let v160 : BitVec 1 := Scalar.andi v157 v159
  let v146 : BitVec 32 := Scalar.divsi v2 c8_i32_144
  let c1_i32_150 : BitVec 32 := 1#32
  let v161 : BitVec 32 := Scalar.subi v146 c1_i32_150
  let v162 : BitVec 32 := Scalar.select v160 v161 v146
  let v163 : BitVec 32 := Scalar.addi c3_i32_151 v162
  let c1_i32_152 : BitVec 32 := 1#32
  let v164 : BitVec 32 := Scalar.addi v163 c1_i32_152
  let c4_i32_153 : BitVec 32 := 4#32
  let v165 : BitVec 32 := Scalar.remsi v164 c4_i32_153
  let c8_i32_638 : BitVec 32 := 8#32
  let v892 : BitVec 32 := Scalar.muli v165 c8_i32_638
  let c1_i32_639 : BitVec 32 := 1#32
  let v893 : BitVec 32 := Scalar.addi v2 c1_i32_639
  let c7_i32_640 : BitVec 32 := 7#32
  let v894 : BitVec 32 := Scalar.addi v893 c7_i32_640
  let c8_i32_641 : BitVec 32 := 8#32
  let v895 : BitVec 32 := Scalar.remsi v894 c8_i32_641
  let v896 : BitVec 32 := Scalar.addi v892 v895
  let v1681 : Index := Scalar.indexCast v896
  let c0_1453 : Index := 0#32
  let c0_1454 : Index := 0#32
  ![v1681.toNat, 0, 0]
def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1455 : BitVec 32 := 128#32
  let v1685 : BitVec 32 := Scalar.muli v2 c128_i32_1455
  let v1686 : Index := Scalar.indexCast v1685
  let c0_1456 : Index := 0#32
  ![v1686.toNat, 0]
def k0_off163 (d0 : Dev nD) (c0_i32_648 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v906 : BitVec 32 := Scalar.subi v2 c0_i32_648
  let c1_i32_649 : BitVec 32 := 1#32
  let v907 : BitVec 32 := Scalar.subi v906 c1_i32_649
  let c32_i32_650 : BitVec 32 := 32#32
  let v908 : BitVec 32 := Scalar.addi v907 c32_i32_650
  let c32_i32_651 : BitVec 32 := 32#32
  let v909 : BitVec 32 := Scalar.remsi v908 c32_i32_651
  let c0_i32_657 : BitVec 32 := 0#32
  let c0_i32_658 : BitVec 32 := 0#32
  ![v909.toNat, 0, 0]
def k0_off164 (d0 : Dev nD) (c0_i32_648 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v906 : BitVec 32 := Scalar.subi v2 c0_i32_648
  let c1_i32_649 : BitVec 32 := 1#32
  let v907 : BitVec 32 := Scalar.subi v906 c1_i32_649
  let c32_i32_650 : BitVec 32 := 32#32
  let v908 : BitVec 32 := Scalar.addi v907 c32_i32_650
  let c32_i32_651 : BitVec 32 := 32#32
  let v909 : BitVec 32 := Scalar.remsi v908 c32_i32_651
  let v918 : Index := Scalar.indexCast v909
  let c0_661 : Index := 0#32
  let c0_662 : Index := 0#32
  ![v918.toNat, 0, 0]
def k0_off165 (d0 : Dev nD) (c0_i32_648 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v906 : BitVec 32 := Scalar.subi v2 c0_i32_648
  let c1_i32_649 : BitVec 32 := 1#32
  let v907 : BitVec 32 := Scalar.subi v906 c1_i32_649
  let c32_i32_650 : BitVec 32 := 32#32
  let v908 : BitVec 32 := Scalar.addi v907 c32_i32_650
  let c32_i32_651 : BitVec 32 := 32#32
  let v909 : BitVec 32 := Scalar.remsi v908 c32_i32_651
  let c128_i32 : BitVec 32 := 128#32
  let v922 : BitVec 32 := Scalar.muli v909 c128_i32
  let v923 : Index := Scalar.indexCast v922
  let c0_663 : Index := 0#32
  ![v923.toNat, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Common.lean ====
/-
  The shared part: the resource algebra (the pipeline's rounds, the exchange's rounds, and plain counters for the local
  copies), the arithmetic of who sends what to whom and when, the contents every buffer ends with, the buffers cut into
  slots, the schedule of the barrier, send and receive cells, what each core owes at launch and the levels of its waits.
-/
module

public import proofs.«01_k».proof.Defs
public import Idealize.ShloMosaic.Lib.Pipeline.Launch
public import Idealize.ShloMosaic.Lib.Pipeline.Value
public import Idealize.ShloMosaic.Lib.Pointwise.Index
public import Idealize.ShloMosaic.Lib.Transfers
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-! ## The resource algebra -/

/-- The pipeline's rounds, duties named by `Unit`. -/
abbrev UP : Type := URounds (GSem nD τ sig) Unit
/-- The exchange's rounds, duties named by the device that discharges them. -/
abbrev UX : Type := URounds (GSem nD τ sig) (Dev nD)
/-- All of it: the two and the local copies' counters. -/
abbrev UU : Type := UP × (UX × Counters)

local notation "𝕄" => MT nD τ sig Unit (Elt F) ℕ UU ℕ

/-- The pipeline's component, -/
def EP : Emb UP (MT nD τ sig Unit (Elt F) ℕ UU ℕ) :=
  (Emb.inl : Emb UP UU).trans (uEmb (nD := nD) (sig := sig) (Ix := Unit) (Val := Elt F) (Name := ℕ) (U := UU) (Lvl := ℕ)).toEmb
/-- the exchange's, -/
def ER : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
/-- the counters'. -/
abbrev EC : UEmb Counters (MT nD τ sig Unit (Elt F) ℕ UU ℕ) := countersEmb

instance EP_landsIn : (EP : Emb UP 𝕄).LandsIn (upEmb : UEmb _ 𝕄) := by unfold EP; infer_instance
instance ER_landsIn : (ER : Emb UX 𝕄).LandsIn (upEmb : UEmb _ 𝕄) := by unfold ER; infer_instance

/-! ## Who sends what to whom, and when -/

/-- The column chunk a device computes `i`-th. -/
def cix (c : Dev nD) (i : ℕ) : ℕ := (i + c.val / 8 + 1) % 4
/-- The place of the slot for device `d` in the order `c` sends, -/
def pos (c d : Dev nD) : ℕ := 8 * ((d.val / 8 + 7 - c.val / 8) % 4) + (d.val % 8 + 39 - c.val) % 8
/-- and in the order `c` fills its slots. -/
def spos (c d : Dev nD) : ℕ := 8 * ((d.val / 8 + 7 - c.val / 8) % 4) + d.val % 8
/-- The semaphore (of the 31 send, of the 31 receive ones) the copy from `c` to `d` uses, less one step. -/
def dist (c d : Dev nD) : ℕ := (d.val + 31 - c.val) % 32
set_option backward.proofsInPublic true in
/-- The same, as an index. -/
def sIdx (c d : Dev nD) : Fin 31 := ⟨dist c d % 31, Nat.mod_lt _ (by decide)⟩
set_option backward.proofsInPublic true in
/-- Whom `c` sends to with semaphore `s`, -/
def dstOf (c : Dev nD) (s : ℕ) : Dev nD := ⟨(c.val + s + 1) % 32, Nat.mod_lt _ (by decide)⟩
set_option backward.proofsInPublic true in
/-- and from whom it receives with it. -/
def srcOf (c : Dev nD) (s : ℕ) : Dev nD := ⟨(c.val + 31 + 32 - s % 32) % 32, Nat.mod_lt _ (by decide)⟩
set_option backward.proofsInPublic true in
/-- The `n`-th to be sent, -/
def ord (c : Dev nD) (n : ℕ) : Dev nD := ⟨8 * ((n / 8 + c.val / 8 + 1) % 4) + (c.val + 1 + n % 8) % 8, by have : nD = 32 := rfl; omega⟩
set_option backward.proofsInPublic true in
/-- the `n`-th to be filled. -/
def sord (c : Dev nD) (n : ℕ) : Dev nD := ⟨8 * ((n / 8 + c.val / 8 + 1) % 4) + n % 8, by have : nD = 32 := rfl; omega⟩

theorem dev_lt (c : Dev nD) : c.val < 32 := c.isLt
theorem dev_ext {c d : Dev nD} (h : c.val = d.val) : c = d := Fin.ext h
theorem dev_ne {c d : Dev nD} (h : c ≠ d) : c.val ≠ d.val := fun h' => h (Fin.ext h')

theorem dist_lt {c d : Dev nD} (h : d ≠ c) : dist c d < 31 := by
  have := dev_ne h; have := dev_lt c; have := dev_lt d; unfold dist; omega
theorem sIdx_val {c d : Dev nD} (h : d ≠ c) : (sIdx c d).val = dist c d := Nat.mod_eq_of_lt (dist_lt h)
theorem dstOf_dist {c d : Dev nD} : dstOf c (dist c d) = d := by
  have := dev_lt c; have := dev_lt d; apply dev_ext; simp only [dstOf, dist]; omega
theorem srcOf_dist {c d : Dev nD} : srcOf d (dist c d) = c := by
  have := dev_lt c; have := dev_lt d; apply dev_ext; simp only [srcOf, dist]; omega
theorem dist_dstOf (c : Dev nD) {s : ℕ} (h : s < 31) : dist c (dstOf c s) = s := by
  have := dev_lt c; simp only [dstOf, dist]; omega
theorem dist_srcOf (c : Dev nD) {s : ℕ} (h : s < 31) : dist (srcOf c s) c = s := by
  have := dev_lt c; simp only [srcOf, dist]; omega
theorem dstOf_ne (c : Dev nD) {s : ℕ} (h : s < 31) : dstOf c s ≠ c := by
  intro e; have := dev_lt c; have := congrArg Fin.val e; simp only [dstOf] at this; omega
theorem srcOf_ne (c : Dev nD) {s : ℕ} (h : s < 31) : srcOf c s ≠ c := by
  intro e; have := dev_lt c; have := congrArg Fin.val e; simp only [srcOf] at this; omega
theorem dist_inj {c d e : Dev nD} (h : dist c d = dist c e) : d = e := by
  rw [← dstOf_dist (c := c) (d := d), h, dstOf_dist]
theorem dist_inj' {c d e : Dev nD} (h : dist d c = dist e c) : d = e := by
  rw [← srcOf_dist (c := d) (d := c), h, srcOf_dist]

theorem pos_lt (c d : Dev nD) : pos c d < 32 := by have := dev_lt c; have := dev_lt d; unfold pos; omega
theorem spos_lt (c d : Dev nD) : spos c d < 32 := by have := dev_lt c; have := dev_lt d; unfold spos; omega
theorem pos_inj {c d e : Dev nD} (h : pos c d = pos c e) : d = e := by
  have := dev_lt c; have := dev_lt d; have := dev_lt e; apply dev_ext; unfold pos at h; omega
theorem spos_inj {c d e : Dev nD} (h : spos c d = spos c e) : d = e := by
  have := dev_lt c; have := dev_lt d; have := dev_lt e; apply dev_ext; unfold spos at h; omega
theorem pos_ord (c : Dev nD) {n : ℕ} (h : n < 32) : pos c (ord c n) = n := by
  have := dev_lt c; simp only [pos, ord]; omega
theorem spos_sord (c : Dev nD) {n : ℕ} (h : n < 32) : spos c (sord c n) = n := by
  have := dev_lt c; simp only [spos, sord]; omega
theorem pos_self (c : Dev nD) : pos c c = 31 := by have := dev_lt c; unfold pos; omega
theorem pos_ne {c d : Dev nD} (h : d ≠ c) : pos c d < 31 := by
  have := pos_lt c d
  have : pos c d ≠ 31 := fun e => h (pos_inj (e.trans (pos_self c).symm))
  omega
/-- A slot is filled by the end of the chunk it is sent in. -/
theorem spos_pos (c d : Dev nD) {n : ℕ} (h : pos c d < 8 * n) : spos c d < 8 * n := by
  have := dev_lt c; have := dev_lt d; unfold pos at h; unfold spos; omega

/-! ## The cells -/

/-- A local copy's semaphore, -/
abbrev wSem (i : Fin 4) : DmaSem sig := ⟨4 + i.val, by have := i.isLt; show _ < 70; omega⟩
/-- a send semaphore, -/
abbrev sSem (s : Fin 31) : DmaSem sig := ⟨8 + s.val, by have := s.isLt; show _ < 70; omega⟩
/-- a receive semaphore. -/
abbrev rSem (s : Fin 31) : DmaSem sig := ⟨39 + s.val, by have := s.isLt; show _ < 70; omega⟩

/-- The barrier cell of a device, -/
abbrev barC (c : Dev nD) : GSem nD τ sig := ((c : Thread nD τ), .reg barrier0)
/-- the cell `c` is told by that its copy to `d` has been read out, -/
abbrev sendC (c d : Dev nD) : GSem nD τ sig := ((c : Thread nD τ), .dma (sSem (sIdx c d)))
/-- and the cell `d` is told by that `c`'s copy has landed. -/
abbrev recvC (c d : Dev nD) : GSem nD τ sig := ((d : Thread nD τ), .dma (rSem (sIdx c d)))

/-- The kernel's buffers, whole. -/
abbrev xM : Memref sig .tc .vmem S128x4096 .f32 := Memref.whole cc0_stg0_0
abbrev wM : Memref sig .tc .hbm S4096x2048 .f32 := Memref.whole main_arg1
abbrev sxM : Memref sig .tc .smem S1 .f32 := Memref.whole cc0_stg1_0
abbrev swM : Memref sig .tc .smem S1 .f32 := Memref.whole cc0_stg2_0
abbrev oM : Memref sig .tc .vmem S4096x64 .f32 := Memref.whole cc0_stg3_0
abbrev vM : Memref sig .tc .vmem S4x4096x512 .f32 := Memref.whole cc0_scratch0
abbrev yM : Memref sig .tc .vmem S32x128x64 .bf16 := Memref.whole cc0_scratch1
abbrev rM : Memref sig .tc .vmem S32x128x64 .bf16 := Memref.whole cc0_scratch2

/-- One slot of a buffer of slots, as the copies name it. -/
abbrev slotM (M : Memref sig .tc .vmem S32x128x64 .bf16) (off : Fin 3 → ℕ) (inb : ∀ a, off a + S1x128x64.size a ≤ S32x128x64.size a) :
    Memref sig .tc .vmem S128x64 .bf16 :=
  (M.slice (Rect.unit (s := S32x128x64) off S1x128x64.size inb) (fun _ => rfl)).squeeze S128x64 squeezes_S1x128x64_S128x64

/-- What a copy of one slot credits. -/
abbrev N : ℕ := (slotM rM ![0, 0, 0] (by decide)).view.dmaCredit

theorem N_pos : 0 < N := View.dmaCredit_pos _ (by decide)

variable (m : (ℓ : Loc nD τ sig) → Buf (Elt F) ℓ)

/-! ## Contents -/

/-- The weight matrix, the same on every device as far as a device can tell: its own copy. -/
def Wm (c : Dev nD) : S4096x2048.Idx → Elt F .f32 := m ((c : Thread nD τ).loc main_arg1)
/-- The device's rows of `x` as staged, -/
def xv (c : Dev nD) : (cc0_stg0_0 : Ref sig .tc).ty.Contents (Elt F) :=
  (win0_0.blk (0 : Fin 1)).view.read (Elt F) (m ((c : Thread nD τ).loc main_arg0))
/-- the two scales as staged. -/
def sxv (c : Dev nD) : (cc0_stg1_0 : Ref sig .tc).ty.Contents (Elt F) :=
  (win0_1.blk (0 : Fin 1)).view.read (Elt F) (m ((c : Thread nD τ).loc main_arg2))
def swv (c : Dev nD) : (cc0_stg2_0 : Ref sig .tc).ty.Contents (Elt F) :=
  (win0_2.blk (0 : Fin 1)).view.read (Elt F) (m ((c : Thread nD τ).loc main_arg3))

set_option backward.proofsInPublic true in
/-- The one index of a one-element shape. -/
def i0 : S1.Idx := fun _ => ⟨0, by decide +revert⟩

/-- The product of the scales, -/
def scale (c : Dev nD) : F .f32 := k0_pay1 (sxv m c i0) (swv m c i0)
/-- the device's rows in the narrow format. -/
def x8 (c : Dev nD) : FVec F S128x4096 .fp8e4m3 := k0_pay2 (xv m c)

set_option backward.proofsInPublic true in
/-- Column chunk `k` of the weights, -/
def wch (c : Dev nD) (k : ℕ) : Vec F S1x4096x512 .f32 :=
  fun j => Wm m c (ix2 (j 1) ⟨(k % 4) * 512 + (j 2).val, by have : (j 2).val < 512 := (j 2).isLt; omega⟩)
/-- the device's rows times it, scaled and clipped below at zero, -/
def ych (c : Dev nD) (k : ℕ) : FVec F S128x512 .bf16 := k0_pay3 (scale m c) (x8 m c) (wch m c k)

set_option backward.proofsInPublic true in
/-- The weight buffer when the local copies have landed, -/
def Wv (c : Dev nD) : (cc0_scratch0 : Ref sig .tc).ty.Contents (Elt F) :=
  fun (i : S4x4096x512.Idx) => wch m c (cix c (i 0).val) (ix3 0 (i 1) (i 2))
set_option backward.proofsInPublic true in
/-- the slots to be sent, each device's in its own slot, -/
def Yv (c : Dev nD) : (cc0_scratch1 : Ref sig .tc).ty.Contents (Elt F) :=
  fun (i : S32x128x64.Idx) => ych m c ((i 0).val / 8) (ix2 (i 1) ⟨(i 0).val % 8 * 64 + (i 2).val, by have : (i 2).val < 64 := (i 2).isLt; omega⟩)
/-- the slots received, each from the device it names, -/
def Rv (c : Dev nD) : (cc0_scratch2 : Ref sig .tc).ty.Contents (Elt F) :=
  fun (i : S32x128x64.Idx) => Yv m (i 0) (ix3 c (i 1) (i 2))
set_option backward.proofsInPublic true in
/-- and the result's block, widened row block by row block. -/
def Ov (c : Dev nD) : (cc0_stg3_0 : Ref sig .tc).ty.Contents (Elt F) :=
  fun (i : S4096x64.Idx) =>
    k0_pay13 (F := F) (fun j => Rv m c (ix3 ⟨(i 0).val / 128, by have : (i 0).val < 4096 := (i 0).isLt; omega⟩ (j 1) (j 2)))
      (ix2 ⟨(i 0).val % 128, by omega⟩ (i 1))

end Cert.Proof
-- ==== Proof.Cells.lean ====
/-
  The buffers cut into slots, and the barrier, send and receive cells: their schedule (one round each), what every core owes
  them at launch, and the levels under which each wait is below what its core then owes.
-/
module

public import proofs.«01_k».proof.Proof.Common

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ)

/-! ## Slots -/

/-- Slot `d` of a buffer of slots, -/
def slotS (d : Dev nD) : Finset S32x128x64.Idx := Finset.univ.filter fun i => (i 0).val = d.val
/-- plane `i` of the weight buffer, -/
def planeS (i : Fin 4) : Finset S4x4096x512.Idx := Finset.univ.filter fun j => (j 0).val = i.val
/-- and the columns of the weight matrix copied to it. -/
def colS (c : Dev nD) (i : Fin 4) : Finset S4096x2048.Idx := Finset.univ.filter fun j => (j 1).val / 512 = cix c i.val

theorem mem_slotS {d : Dev nD} {i : S32x128x64.Idx} : i ∈ slotS d ↔ (i 0).val = d.val := by simp [slotS]
theorem mem_planeS {k : Fin 4} {i : S4x4096x512.Idx} : i ∈ planeS k ↔ (i 0).val = k.val := by simp [planeS]
theorem mem_colS {c : Dev nD} {k : Fin 4} {i : S4096x2048.Idx} : i ∈ colS c k ↔ (i 1).val / 512 = cix c k.val := by simp [colS]

/-- Slot `d` of the buffer of device `c` to be sent from, -/
def yP (c d : Dev nD) (f : Buf (Elt F) ((c : Thread nD τ).loc cc0_scratch1)) : sProp 𝕄 := (c : Thread nD τ).loc cc0_scratch1 ↦[slotS d]{fullShare} f
/-- of the buffer received into, -/
def rP (c d : Dev nD) (f : Buf (Elt F) ((c : Thread nD τ).loc cc0_scratch2)) : sProp 𝕄 := (c : Thread nD τ).loc cc0_scratch2 ↦[slotS d]{fullShare} f
/-- a plane of the weight buffer, -/
def vP (c : Dev nD) (i : Fin 4) (f : Buf (Elt F) ((c : Thread nD τ).loc cc0_scratch0)) : sProp 𝕄 := (c : Thread nD τ).loc cc0_scratch0 ↦[planeS i]{fullShare} f
/-- and the columns of the weight matrix copied to it. -/
def wP (c : Dev nD) (i : Fin 4) : sProp 𝕄 := (c : Thread nD τ).loc main_arg1 ↦[colS c i]{fullShare} m ((c : Thread nD τ).loc main_arg1)

instance yP_storable (c d : Dev nD) (f : Buf (Elt F) ((c : Thread nD τ).loc cc0_scratch1)) : BI.Storable (upEmb : UEmb _ 𝕄) (yP (F := F) c d f) := by
  unfold yP; infer_instance
instance rP_storable (c d : Dev nD) (f : Buf (Elt F) ((c : Thread nD τ).loc cc0_scratch2)) : BI.Storable (upEmb : UEmb _ 𝕄) (rP (F := F) c d f) := by
  unfold rP; infer_instance

/-! ## The schedule -/

/-- Who discharges a cell's round 0: every device a barrier cell's, one a send or receive cell's. -/
def dutyOf : SemLoc sig → Finset (Dev nD)
  | .reg _ => Finset.univ
  | .dma q => if 8 ≤ q.val then {0} else ∅

/-- What is handed over with it: with a barrier signal from `d`, the slot of `d`'s landing buffer the signalled device
    writes; with a send credit the slot read; with a receive credit the slot written. -/
def payOf (g : GSem nD τ sig) (d : Dev nD) : sProp 𝕄 :=
  match g.2 with
  | .reg _ => iprop(∃ f, rP d g.1.1 f)
  | .dma q => if 39 ≤ q.val then rP g.1.1 (srcOf g.1.1 (q.val - 39)) (Rv m g.1.1) else yP g.1.1 (dstOf g.1.1 (q.val - 8)) (Yv m g.1.1)

instance payOf_storable (g : GSem nD τ sig) (d : Dev nD) : BI.Storable (upEmb : UEmb _ 𝕄) (payOf (F := F) m g d) := by
  obtain ⟨⟨a, b⟩, (s | q)⟩ := g
  · show BI.Storable upEmb (iprop(∃ f, rP d a f)); infer_instance
  · show BI.Storable upEmb (if 39 ≤ q.val then rP a (srcOf a (q.val - 39)) (Rv m a) else yP a (dstOf a (q.val - 8)) (Yv m a))
    split <;> infer_instance

/-- One round per barrier, send and receive cell. -/
def Rd : Rounds.Schedule (GSem nD τ sig) (Dev nD) 𝕄 where
  duties g r := if r = 0 ∧ g.1.2 = .tc then dutyOf g.2 else ∅
  unitless _ := False
  amount g _ _ := match g.2 with | .reg _ => 1 | .dma _ => N
  payload g _ d := payOf m g d
  amount_pos g _ _ _ := by
    obtain ⟨_, (s | q)⟩ := g
    · exact Nat.one_pos
    · exact N_pos

instance Rd_payload_storable (g : GSem nD τ sig) (r : ℕ) (d : Dev nD) :
    BI.Storable (upEmb : UEmb _ 𝕄) ((Rd (F := F) m).payload g r d) := payOf_storable m g d

theorem duties_bar (c : Dev nD) : (Rd m).duties (barC c) 0 = Finset.univ := by dsimp only [Rd]; exact if_pos ⟨rfl, rfl⟩
theorem duties_send (c d : Dev nD) : (Rd m).duties (sendC c d) 0 = {0} := by
  dsimp only [Rd]; rw [if_pos ⟨rfl, rfl⟩]; exact if_pos (by dsimp; omega)
theorem duties_recv (c d : Dev nD) : (Rd m).duties (recvC c d) 0 = {0} := by
  dsimp only [Rd]; rw [if_pos ⟨rfl, rfl⟩]; exact if_pos (by dsimp; omega)
theorem duties_later (g : GSem nD τ sig) : ∀ r, 1 ≤ r → (Rd (F := F) m).duties g r = ∅ :=
  fun r hr => by dsimp only [Rd]; exact if_neg fun h => by omega

theorem amount_bar (c d : Dev nD) : (Rd m).amount (barC c) 0 d = 1 := rfl
theorem amount_dma (c d : Dev nD) (q : DmaSem sig) : (Rd m).amount ((c : Thread nD τ), .dma q) 0 d = N := rfl

theorem expect_bar (c : Dev nD) : (Rd m).expect (barC c) 0 = 32 := by
  unfold Schedule.expect Schedule.amountOf
  rw [duties_bar, Finset.sum_congr rfl fun d _ => amount_bar m c d]; rfl
theorem expect_send (c d : Dev nD) : (Rd m).expect (sendC c d) 0 = N := by
  unfold Schedule.expect Schedule.amountOf; rw [duties_send, Finset.sum_singleton]; exact amount_dma m c 0 _
theorem expect_recv (c d : Dev nD) : (Rd m).expect (recvC c d) 0 = N := by
  unfold Schedule.expect Schedule.amountOf; rw [duties_recv, Finset.sum_singleton]; exact amount_dma m d 0 _

theorem payload_bar (c d : Dev nD) : (Rd m).payload (barC c) 0 d = iprop(∃ f, rP d c f) := rfl
theorem payload_send {c d : Dev nD} (h : d ≠ c) (u : Dev nD) : (Rd m).payload (sendC c d) 0 u = yP c d (Yv m c) := by
  show (if 39 ≤ 8 + (sIdx c d).val then _ else yP c (dstOf c (8 + (sIdx c d).val - 8)) (Yv m c)) = _
  have := dist_lt h
  rw [if_neg (by rw [sIdx_val h]; omega), sIdx_val h, show 8 + dist c d - 8 = dist c d by omega, dstOf_dist]
theorem payload_recv {c d : Dev nD} (h : d ≠ c) (u : Dev nD) : (Rd m).payload (recvC c d) 0 u = rP d c (Rv m d) := by
  show (if 39 ≤ 39 + (sIdx c d).val then rP d (srcOf d (39 + (sIdx c d).val - 39)) (Rv m d) else _) = _
  rw [if_pos (by omega), sIdx_val h, show 39 + dist c d - 39 = dist c d by omega, srcOf_dist]

theorem rest_bar (c : Dev nD) : bigSep ((Rd m).duties (barC c) 0 \ ∅) (fun u => (Rd m).payload (barC c) 0 u) = bigSep Finset.univ fun d => iprop(∃ f, rP (F := F) d c f) := by
  rw [Finset.sdiff_empty, duties_bar]; rfl
theorem rest_send {c d : Dev nD} (h : d ≠ c) : bigSep ((Rd m).duties (sendC c d) 0 \ ∅) (fun u => (Rd m).payload (sendC c d) 0 u) = yP c d (Yv m c) := by
  rw [Finset.sdiff_empty, duties_send, bigSep_singleton, payload_send m h]
theorem rest_recv {c d : Dev nD} (h : d ≠ c) : bigSep ((Rd m).duties (recvC c d) 0 \ ∅) (fun u => (Rd m).payload (recvC c d) 0 u) = rP d c (Rv m d) := by
  rw [Finset.sdiff_empty, duties_recv, bigSep_singleton, payload_recv m h]

/-! ## What each core owes -/

/-- The barrier units owed to devices `a` and later, -/
def oweB (a : ℕ) : CellTallies nD τ sig Unit := ∑ d : Dev nD, if d.val < a then 0 else tallyAt (barC d) () 1
/-- the receive credits owed from the `b`-th copy on, -/
def oweR (c : Dev nD) (b : ℕ) : CellTallies nD τ sig Unit := ∑ d : Dev nD, if d = c ∨ pos c d < b then 0 else tallyAt (recvC c d) () N
/-- and both. -/
def owe (c : Dev nD) (a b : ℕ) : CellTallies nD τ sig Unit := oweB a + oweR c b

theorem sum_take {ι M : Type*} [Fintype ι] [DecidableEq ι] [AddCommMonoid M] (p : ι) {f f' : ι → M} (h0 : f' p = 0) (h : ∀ i, i ≠ p → f i = f' i) :
    ∑ i, f i = ∑ i, f' i + f p := by
  rw [← Finset.add_sum_erase _ f (Finset.mem_univ p), ← Finset.add_sum_erase _ f' (Finset.mem_univ p), h0, zero_add, add_comm]
  exact congrArg (· + f p) (Finset.sum_congr rfl fun i hi => h i (Finset.ne_of_mem_erase hi))

theorem owe_sig (c d : Dev nD) (b : ℕ) : owe c d.val b = owe c (d.val + 1) b + tallyAt (barC d) () 1 := by
  unfold owe oweB
  rw [sum_take d (f' := fun e : Dev nD => if e.val < d.val + 1 then 0 else tallyAt (barC e) () 1) (if_pos (Nat.lt_succ_self _)) fun e he => by
    have := dev_ne he
    by_cases h : e.val < d.val
    · rw [if_pos h, if_pos (by omega)]
    · rw [if_neg h, if_neg (by omega)], if_neg (Nat.lt_irrefl _)]
  ac_rfl
theorem owe_send {c d : Dev nD} (a : ℕ) (h : d ≠ c) : owe c a (pos c d) = owe c a (pos c d + 1) + tallyAt (recvC c d) () N := by
  unfold owe oweR
  rw [sum_take d (f' := fun e : Dev nD => if e = c ∨ pos c e < pos c d + 1 then 0 else tallyAt (recvC c e) () N) (if_pos (.inr (Nat.lt_succ_self _))) fun e he => by
    have : pos c e ≠ pos c d := fun h => he (pos_inj h)
    by_cases hc : e = c
    · rw [if_pos (.inl hc), if_pos (.inl hc)]
    by_cases h : pos c e < pos c d
    · rw [if_pos (.inr h), if_pos (.inr (by omega))]
    · rw [if_neg fun h' => h'.elim hc h, if_neg fun h' => h'.elim hc (by omega)], if_neg (by simp [h])]
  ac_rfl
theorem owe_self (c : Dev nD) (a : ℕ) : owe c a 31 = owe c a 32 := by
  unfold owe oweR
  refine congrArg _ (Finset.sum_congr rfl fun d _ => ?_)
  by_cases h : d = c
  · rw [if_pos (.inl h), if_pos (.inl h)]
  · have := pos_ne h; rw [if_pos (.inr this), if_pos (.inr (by omega))]
theorem owe_end (c : Dev nD) : owe c 32 32 = 0 := by
  unfold owe oweB oweR
  rw [Finset.sum_eq_zero fun d _ => if_pos (dev_lt d), Finset.sum_eq_zero fun d _ => if_pos (.inr (pos_lt c d)), add_zero]

theorem owe_pos {c : Dev nD} {a b : ℕ} {g : GSem nD τ sig} {u : Unit} (h : 0 < owe c a b g u) :
    (∃ d : Dev nD, a ≤ d.val ∧ g = barC d) ∨ ∃ d, d ≠ c ∧ g = recvC c d := by
  by_contra hn
  rw [not_or] at hn
  obtain ⟨h1, h2⟩ := hn
  have z1 : oweB a g u = 0 := by
    unfold oweB
    rw [Finset.sum_apply, Finsupp.finset_sum_apply]
    refine Finset.sum_eq_zero fun d _ => ?_
    by_cases hd : d.val < a
    · rw [if_pos hd]; rfl
    · rw [if_neg hd, tallyAt_apply, if_neg fun hh => h1 ⟨d, by omega, hh.1⟩]
  have z2 : oweR c b g u = 0 := by
    unfold oweR
    rw [Finset.sum_apply, Finsupp.finset_sum_apply]
    refine Finset.sum_eq_zero fun d _ => ?_
    by_cases hd : d = c ∨ pos c d < b
    · rw [if_pos hd]; rfl
    · rw [if_neg hd, tallyAt_apply, if_neg fun hh => h2 ⟨d, fun e => hd (.inl e), hh.1⟩]
  rw [show owe c a b g u = oweB a g u + oweR c b g u from rfl, z1, z2] at h
  exact Nat.lt_irrefl 0 h

/-! ## Levels -/

/-- Every TensorCore cell has one index, levelled: -/
def L (g : GSem nD τ sig) : Finset Unit := if g.1.2 = .tc then {()} else ∅
/-- the barrier at 1, the receive cells at 2, all others at 0. -/
def lv (g : GSem nD τ sig) (_ : Unit) : ℕ := match g.2 with | .reg _ => 1 | .dma q => if 39 ≤ q.val then 2 else 0

theorem L_tc (c : Dev nD) (sm : SemLoc sig) : L ((c : Thread nD τ), sm) = {()} := if_pos rfl
theorem L_of_ne (g : GSem nD τ sig) (h : g.1.2 ≠ .tc) : L g = ∅ := if_neg h
theorem lv_recv (c d : Dev nD) : lv (recvC c d) () = 2 := if_pos (by dsimp; omega)

/-- A core may wait on a staging, local-copy or send cell whatever it owes, -/
theorem mayWait_low (c : Dev nD) (q : DmaSem sig) (hq : q.val < 39) (a b : ℕ) :
    (levAts L lv : sProp 𝕄) ⊢ MayWait (c : Thread nD τ) (.dma q) () (owe c a b) :=
  MayOwe.of_cut (L := L) (lev := lv) 0 (fun p hp => by rw [Finset.mem_singleton.mp hp, L_tc]; exact Finset.mem_singleton_self _)
    (fun g u hg => by rcases owe_pos hg with ⟨d, _, rfl⟩ | ⟨d, _, rfl⟩ <;> exact Finset.mem_singleton_self _)
    (fun p hp => by rw [Finset.mem_singleton.mp hp]; exact (if_neg (by omega)).le)
    (fun g u hg => by
      rcases owe_pos hg with ⟨d, _, rfl⟩ | ⟨d, _, rfl⟩
      · exact Nat.one_pos
      · show 0 < lv (recvC c d) (); rw [lv_recv]; decide)

/-- and on its barrier cell owing receive credits only. -/
theorem mayWait_bar (c : Dev nD) (b : ℕ) :
    (levAts L lv : sProp 𝕄) ⊢ MayWait (c : Thread nD τ) (.reg barrier0) () (owe c 32 b) :=
  MayOwe.of_cut (L := L) (lev := lv) 1 (fun p hp => by rw [Finset.mem_singleton.mp hp, L_tc]; exact Finset.mem_singleton_self _)
    (fun g u hg => by rcases owe_pos hg with ⟨d, _, rfl⟩ | ⟨d, _, rfl⟩ <;> exact Finset.mem_singleton_self _)
    (fun p hp => by rw [Finset.mem_singleton.mp hp]; exact Nat.le_refl 1)
    (fun g u hg => by
      rcases owe_pos hg with ⟨d, h, rfl⟩ | ⟨d, _, rfl⟩
      · exact absurd (dev_lt d) (by omega)
      · show 1 < lv (recvC c d) (); rw [lv_recv]; decide)

end Cert.Proof
-- ==== Proof.Views.lean ====
/-
  What the kernel's views of its buffers reach and what they read and write: the slots through which the copies, the loads
  and the stores go, and the pieces of the weight matrix the local copies move.
-/
module

public import proofs.«01_k».proof.Proof.Cells

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ)

/-! ## Where the views lie -/

/-- The rectangle of one slot, -/
abbrev slotR (off : Fin 3 → ℕ) (inb : ∀ a, off a + S1x128x64.size a ≤ S32x128x64.size a) : Rect S32x128x64 :=
  Rect.unit (s := S32x128x64) off S1x128x64.size inb
/-- of one row block of the result, -/
abbrev rowsR (off : Fin 2 → ℕ) (inb : ∀ a, off a + S128x64.size a ≤ S4096x64.size a) : Rect S4096x64 :=
  Rect.unit (s := S4096x64) off S128x64.size inb
/-- of one plane of the weight buffer, -/
abbrev planeR (off : Fin 3 → ℕ) (inb : ∀ a, off a + S1x4096x512.size a ≤ S4x4096x512.size a) : Rect S4x4096x512 :=
  Rect.unit (s := S4x4096x512) off S1x4096x512.size inb
/-- and of one column chunk of the weight matrix. -/
abbrev colsR (off : Fin 2 → ℕ) (inb : ∀ a, off a + S4096x512.size a ≤ S4096x2048.size a) : Rect S4096x2048 :=
  Rect.unit (s := S4096x2048) off S4096x512.size inb
/-- One plane of the weight buffer, as the local copies name it, -/
abbrev planeM (off : Fin 3 → ℕ) (inb : ∀ a, off a + S1x4096x512.size a ≤ S4x4096x512.size a) : Memref sig .tc .vmem S4096x512 .f32 :=
  (vM.slice (planeR off inb) (fun _ => rfl)).squeeze S4096x512 squeezes_S1x4096x512_S4096x512
/-- and one column chunk of the weight matrix. -/
abbrev colsM (off : Fin 2 → ℕ) (inb : ∀ a, off a + S4096x512.size a ≤ S4096x2048.size a) : Memref sig .tc .hbm S4096x512 .f32 :=
  wM.slice (colsR off inb) (fun _ => rfl)

theorem set_slotR {off : Fin 3 → ℕ} {inb} {d : Dev nD} (h : off = ![d.val, 0, 0]) : (slotR off inb).set = slotS d := by
  subst h
  ext i
  have h1 : (i 1).val < 128 := (i 1).isLt
  have h2 : (i 2).val < 64 := (i 2).isLt
  rw [Rect.mem_set_unit, mem_slotS]
  constructor
  · intro h; have := h 0; simp only [Matrix.cons_val_zero] at this; change _ ∧ _ < _ + 1 at this; omega
  · intro h a
    fin_cases a
    · exact ⟨h.ge, by show (i 0).val < d.val + 1; omega⟩
    · exact ⟨Nat.zero_le _, by show (i 1).val < 0 + 128; omega⟩
    · exact ⟨Nat.zero_le _, by show (i 2).val < 0 + 64; omega⟩

theorem set_slotY {off : Fin 3 → ℕ} {inb} {d : Dev nD} (h : off = ![d.val, 0, 0]) : (slotM yM off inb).view.set = slotS d := by
  show (((View.whole cc0_scratch1).slice (slotR off inb)).reshape S128x64 _).set = _
  rw [View.set_reshape, View.set_slice_whole]; exact set_slotR h
theorem set_slotRM {off : Fin 3 → ℕ} {inb} {d : Dev nD} (h : off = ![d.val, 0, 0]) : (slotM rM off inb).view.set = slotS d := by
  show (((View.whole cc0_scratch2).slice (slotR off inb)).reshape S128x64 _).set = _
  rw [View.set_reshape, View.set_slice_whole]; exact set_slotR h

theorem set_planeR {off : Fin 3 → ℕ} {inb} {k : Fin 4} (h : off = ![k.val, 0, 0]) : (planeR off inb).set = planeS k := by
  subst h
  ext i
  have h1 : (i 1).val < 4096 := (i 1).isLt
  have h2 : (i 2).val < 512 := (i 2).isLt
  rw [Rect.mem_set_unit, mem_planeS]
  constructor
  · intro h; have := h 0; simp only [Matrix.cons_val_zero] at this; change _ ∧ _ < _ + 1 at this; omega
  · intro h a
    fin_cases a
    · exact ⟨h.ge, by show (i 0).val < k.val + 1; omega⟩
    · exact ⟨Nat.zero_le _, by show (i 1).val < 0 + 4096; omega⟩
    · exact ⟨Nat.zero_le _, by show (i 2).val < 0 + 512; omega⟩

theorem set_planeM {off : Fin 3 → ℕ} {inb} {k : Fin 4} (h : off = ![k.val, 0, 0]) : (planeM off inb).view.set = planeS k := by
  show (((View.whole cc0_scratch0).slice (planeR off inb)).reshape S4096x512 _).set = _
  rw [View.set_reshape, View.set_slice_whole]; exact set_planeR h

theorem set_colsM {off : Fin 2 → ℕ} {inb} {c : Dev nD} {k : Fin 4} (h : off = ![0, cix c k.val * 512]) : (colsM off inb).view.set = colS c k := by
  show ((View.whole main_arg1).slice (colsR off inb)).set = _
  rw [View.set_slice_whole]
  subst h
  ext i
  have h0 : (i 0).val < 4096 := (i 0).isLt
  rw [Rect.mem_set_unit, mem_colS]
  constructor
  · intro h; have := h 1; change cix c k.val * 512 ≤ _ ∧ _ < cix c k.val * 512 + 512 at this; omega
  · intro h a
    fin_cases a
    · exact ⟨Nat.zero_le _, by show (i 0).val < 0 + 4096; omega⟩
    · exact ⟨by show cix c k.val * 512 ≤ (i 1).val; omega, by show (i 1).val < cix c k.val * 512 + 512; omega⟩

/-! ## What they index -/

theorem idx_slotR {d : Dev nD} {inb} (j : S1x128x64.Idx) : (slotR ![d.val, 0, 0] inb).emb j = ix3 d (j 1) (j 2) := by
  have h0 : (j 0).val < 1 := (j 0).isLt
  funext a
  apply Fin.ext
  fin_cases a
  · show d.val + 1 * (j 0).val = d.val; omega
  · show 0 + 1 * (j 1).val = (j 1).val; omega
  · show 0 + 1 * (j 2).val = (j 2).val; omega

theorem idx_planeR {k : Fin 4} {inb} (j : S1x4096x512.Idx) : (planeR ![k.val, 0, 0] inb).emb j = ix3 k (j 1) (j 2) := by
  have h0 : (j 0).val < 1 := (j 0).isLt
  funext a
  apply Fin.ext
  fin_cases a
  · show k.val + 1 * (j 0).val = k.val; omega
  · show 0 + 1 * (j 1).val = (j 1).val; omega
  · show 0 + 1 * (j 2).val = (j 2).val; omega

theorem emb_slotY {d : Dev nD} {inb} (j : S128x64.Idx) : (slotM yM ![d.val, 0, 0] inb).view.emb j = ix3 d (j 0) (j 1) := by
  show (slotR ![d.val, 0, 0] inb).emb (Shape.reshapeEquiv _ j) = _
  erw [Shape.reshapeEquiv_cons_one]
  exact idx_slotR _
theorem emb_slotRM {d : Dev nD} {inb} (j : S128x64.Idx) : (slotM rM ![d.val, 0, 0] inb).view.emb j = ix3 d (j 0) (j 1) := by
  show (slotR ![d.val, 0, 0] inb).emb (Shape.reshapeEquiv _ j) = _
  erw [Shape.reshapeEquiv_cons_one]
  exact idx_slotR _
theorem emb_planeM {k : Fin 4} {inb} (j : S4096x512.Idx) : (planeM ![k.val, 0, 0] inb).view.emb j = ix3 k (j 0) (j 1) := by
  show (planeR ![k.val, 0, 0] inb).emb (Shape.reshapeEquiv _ j) = _
  erw [Shape.reshapeEquiv_cons_one]
  exact idx_planeR _

theorem slot_ix {d : Dev nD} {i : S32x128x64.Idx} (h : i ∈ slotS d) : i = ix3 d (i 1) (i 2) := by
  rw [mem_slotS] at h
  rw [show d = i 0 from Fin.ext h.symm]; exact eq_ix3 i

/-! ## What the copies write -/

/-- A landed copy: slot `c` of `d`'s landing buffer, from slot `d` of `c`'s buffer. -/
theorem landed_eq {c d : Dev nD} {os od : Fin 3 → ℕ} {is id} (hs : os = ![d.val, 0, 0]) (hd : od = ![c.val, 0, 0])
    (fd : (cc0_scratch2 : Ref sig .tc).ty.Contents (Elt F)) :
    ∀ i ∈ slotS c, (slotM rM od id).view.write (Elt F) fd ((slotM yM os is).view.read (Elt F) (Yv m c)) Finset.univ i = Rv m d i := by
  subst hs hd
  intro i hi
  obtain ⟨a, b, rfl⟩ : ∃ a b, i = ix3 c a b := ⟨i 1, i 2, slot_ix hi⟩
  have e : (ix3 c a b : S32x128x64.Idx) = (slotM rM ![c.val, 0, 0] id).view.emb (ix2 a b) := by rw [emb_slotRM]; rfl
  refine (congrArg _ e).trans ((View.write_emb_of_mem _ _ (Finset.mem_univ _)).trans ?_)
  show Yv m c ((slotM yM ![d.val, 0, 0] is).view.emb (ix2 a b)) = Rv m d (ix3 c a b)
  rw [emb_slotY]; rfl

/-- A local copy: plane `k` of the weight buffer, from its columns of the weight matrix. -/
theorem copied_eq {c : Dev nD} {k : Fin 4} {os : Fin 2 → ℕ} {od : Fin 3 → ℕ} {is id} (hs : os = ![0, cix c k.val * 512]) (hd : od = ![k.val, 0, 0])
    (fd : (cc0_scratch0 : Ref sig .tc).ty.Contents (Elt F)) :
    ∀ i ∈ planeS k, (planeM od id).view.write (Elt F) fd ((colsM os is).view.read (Elt F) (m ((c : Thread nD τ).loc main_arg1))) Finset.univ i = Wv m c i := by
  subst hs hd
  intro i hi
  obtain ⟨a, b, rfl⟩ : ∃ a b, i = ix3 k a b := ⟨i 1, i 2, by
    rw [mem_planeS] at hi; rw [show k = i 0 from Fin.ext hi.symm]; exact eq_ix3 i⟩
  have e : (ix3 k a b : S4x4096x512.Idx) = (planeM ![k.val, 0, 0] id).view.emb (ix2 a b) := by rw [emb_planeM]; rfl
  refine (congrArg _ e).trans ((View.write_emb_of_mem _ _ (Finset.mem_univ _)).trans ?_)
  show Wm m c ((colsR ![0, cix c k.val * 512] is).emb (ix2 a b)) = Wm m c (ix2 a _)
  refine congrArg _ (funext fun x => Fin.ext ?_)
  have : cix c k.val < 4 := Nat.mod_lt _ (by decide)
  fin_cases x
  · show 0 + 1 * a.val = a.val; omega
  · show cix c k.val * 512 + 1 * b.val = cix c k.val % 4 * 512 + b.val; omega

/-! ## What the loads read -/

theorem read_slotY {c d : Dev nD} {off : Fin 3 → ℕ} {inb} (h : off = ![d.val, 0, 0]) (f : (cc0_scratch1 : Ref sig .tc).ty.Contents (Elt F)) :
    yM.view.readAt (Elt F) (slotR off inb).toLoadRect f = fun j : S1x128x64.Idx => f (ix3 d (j 1) (j 2)) := by
  subst h; funext j; exact congrArg f (idx_slotR j)
theorem read_slotR {d : Dev nD} {off : Fin 3 → ℕ} {inb} (h : off = ![d.val, 0, 0]) (f : (cc0_scratch2 : Ref sig .tc).ty.Contents (Elt F)) :
    rM.view.readAt (Elt F) (slotR off inb).toLoadRect f = fun j : S1x128x64.Idx => f (ix3 d (j 1) (j 2)) := by
  subst h; funext j; exact congrArg f (idx_slotR j)
theorem read_plane {c : Dev nD} {k : Fin 4} {off : Fin 3 → ℕ} {inb} (h : off = ![k.val, 0, 0]) :
    vM.view.readAt (Elt F) (planeR off inb).toLoadRect (Wv m c) = wch m c (cix c k.val) := by
  subst h; funext j
  refine (congrArg (Wv m c) (idx_planeR j)).trans ?_
  show wch m c (cix c k.val) (ix3 0 (j 1) (j 2)) = _
  rfl

/-! ## What the stores write -/

theorem stored_slot {c d : Dev nD} {off : Fin 3 → ℕ} {inb} (h : off = ![d.val, 0, 0]) (f : (cc0_scratch1 : Ref sig .tc).ty.Contents (Elt F))
    {w : S1x128x64.Idx → Elt F .bf16} (hw : w = fun j => Yv m c (ix3 d (j 1) (j 2))) :
    ∀ i ∈ slotS d, (yM.access (slotR off inb)).write (Elt F) f w Finset.univ i = Yv m c i := by
  subst h hw
  intro i hi
  obtain ⟨a, b, rfl⟩ : ∃ a b, i = ix3 d a b := ⟨i 1, i 2, slot_ix hi⟩
  have e : (ix3 d a b : S32x128x64.Idx) = (yM.access (slotR ![d.val, 0, 0] inb)).emb (ix3 0 a b) := (idx_slotR (ix3 0 a b)).symm
  refine (congrArg _ e).trans ((View.write_emb_of_mem _ _ (Finset.mem_univ _)).trans ?_)
  rfl

/-- Row `r` of the result lies in the row block of device `r / 128`. -/
theorem mem_rowsR {off : Fin 2 → ℕ} {inb} {d : Dev nD} (h : off = ![d.val * 128, 0]) (i : S4096x64.Idx) :
    i ∈ (rowsR off inb).set ↔ (i 0).val / 128 = d.val := by
  subst h
  have h1 : (i 1).val < 64 := (i 1).isLt
  rw [Rect.mem_set_unit]
  constructor
  · intro h; have := h 0; change d.val * 128 ≤ _ ∧ _ < d.val * 128 + 128 at this; omega
  · intro h a
    fin_cases a
    · exact ⟨by show d.val * 128 ≤ (i 0).val; omega, by show (i 0).val < d.val * 128 + 128; omega⟩
    · exact ⟨Nat.zero_le _, by show (i 1).val < 0 + 64; omega⟩

theorem stored_rows {c d : Dev nD} {off : Fin 2 → ℕ} {inb} (h : off = ![d.val * 128, 0]) (f : (cc0_stg3_0 : Ref sig .tc).ty.Contents (Elt F))
    {v : Vec F S1x128x64 .bf16} (hv : v = fun j => Rv m c (ix3 d (j 1) (j 2))) (i : S4096x64.Idx) :
    (oM.access (rowsR off inb)).write (Elt F) f (k0_pay13 (F := F) v) Finset.univ i = if (i 0).val / 128 = d.val then Ov m c i else f i := by
  by_cases hi : (i 0).val / 128 = d.val
  · rw [if_pos hi]
    subst h hv
    have h0 : (i 0).val < 4096 := (i 0).isLt
    have e : i = (oM.access (rowsR ![d.val * 128, 0] inb)).emb (ix2 ⟨(i 0).val % 128, by omega⟩ (i 1)) := by
      funext x; apply Fin.ext
      fin_cases x
      · show (i 0).val = d.val * 128 + 1 * ((i 0).val % 128); omega
      · show (i 1).val = 0 + 1 * (i 1).val; omega
    refine (congrArg _ e).trans ((View.write_emb_of_mem _ _ (Finset.mem_univ _)).trans ?_)
    unfold Ov
    rw [show (⟨(i 0).val / 128, by omega⟩ : Fin 32) = d from Fin.ext hi]
    rfl
  · rw [if_neg hi]
    refine View.write_of_not_mem _ _ _ fun hm => hi ((mem_rowsR (inb := inb) h i).mp ?_)
    rwa [View.setOn_univ, show (oM.access (rowsR off inb)).set = (rowsR off inb).set from View.set_slice_whole _ _] at hm

end Cert.Proof
-- ==== Proof.State.lean ====
/-
  What a core holds at each point of its program, as a handful of families over the devices (or over the four local
  copies), each counted by how far the program has come, and how one step of the program moves each family on.
-/
module

public import proofs.«01_k».proof.Proof.Views

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ)

variable (K : Dev nD × Fin 63 → ℕ)

/-! ## The cells, numbered, and the facts every core keeps -/

/-- The 63 cells of a device: the barrier, the send cells and the receive cells. -/
def semNo (i : Fin 63) : SemLoc sig := if i.val = 0 then .reg barrier0 else .dma ⟨7 + i.val, by have := i.isLt; show _ < 70; omega⟩
/-- Cell `p.2` of device `p.1`. -/
def cellNo (p : Dev nD × Fin 63) : GSem nD τ sig := ((p.1 : Thread nD τ), semNo p.2)

set_option backward.proofsInPublic true in
/-- The number of a send cell, -/
def sendNo (s : Fin 31) : Fin 63 := ⟨1 + s.val, by omega⟩
set_option backward.proofsInPublic true in
/-- of a receive cell. -/
def recvNo (s : Fin 31) : Fin 63 := ⟨32 + s.val, by omega⟩

theorem semNo_zero : semNo 0 = .reg barrier0 := rfl
theorem semNo_send (s : Fin 31) : semNo (sendNo s) = .dma (sSem s) := by
  unfold semNo
  rw [if_neg (by show 1 + s.val ≠ 0; omega)]
  exact congrArg SemLoc.dma (Fin.ext (by show 7 + (1 + s.val) = 8 + s.val; omega))
theorem semNo_recv (s : Fin 31) : semNo (recvNo s) = .dma (rSem s) := by
  unfold semNo
  rw [if_neg (by show 32 + s.val ≠ 0; omega)]
  exact congrArg SemLoc.dma (Fin.ext (by show 7 + (32 + s.val) = 39 + s.val; omega))

/-- Every cell's invariant, every cell's first round, and the levels. -/
def Env : sProp 𝕄 :=
  iprop((bigSep Finset.univ fun p : Dev nD × Fin 63 => iprop(cellInv ER (Rd m) (K p) (cellNo p) ∗ reached ER (cellNo p) 0)) ∗ levAts L lv)

instance Env_persistent : Persistent (Env m K) := by unfold Env; infer_instance

theorem env_cell (p : Dev nD × Fin 63) : Env m K ⊢ iprop(cellInv ER (Rd m) (K p) (cellNo p) ∗ reached ER (cellNo p) 0) := by
  have h : (bigSep Finset.univ fun p : Dev nD × Fin 63 => iprop(cellInv ER (Rd m) (K p) (cellNo p) ∗ reached ER (cellNo p) 0))
      ⊢ iprop(cellInv ER (Rd m) (K p) (cellNo p) ∗ reached ER (cellNo p) 0) := bigSep_elim (Finset.mem_univ p)
  unfold Env; iintro ⟨#H, -⟩; iapply h $$ H
theorem env_lev : Env m K ⊢ (levAts L lv : sProp 𝕄) := by unfold Env; iintro ⟨-, H⟩; iexact H
theorem env_bar (d : Dev nD) : Env m K ⊢ iprop(cellInv ER (Rd m) (K (d, 0)) (barC d) ∗ reached ER (barC d) 0) := env_cell m K (d, 0)
theorem env_send (c d : Dev nD) : Env m K ⊢ iprop(cellInv ER (Rd m) (K (c, sendNo (sIdx c d))) (sendC c d) ∗ reached ER (sendC c d) 0) := by
  have h := env_cell m K (c, sendNo (sIdx c d))
  rwa [show cellNo (c, sendNo (sIdx c d)) = sendC c d from congrArg (Prod.mk _) (semNo_send _)] at h
theorem env_recv (c d : Dev nD) : Env m K ⊢ iprop(cellInv ER (Rd m) (K (d, recvNo (sIdx c d))) (recvC c d) ∗ reached ER (recvC c d) 0) := by
  have h := env_cell m K (d, recvNo (sIdx c d))
  rwa [show cellNo (d, recvNo (sIdx c d)) = recvC c d from congrArg (Prod.mk _) (semNo_recv _)] at h

/-! ## A family moved on at one member -/

theorem fam_step {I : Type} [Fintype I] [DecidableEq I] (p : I) {Φ Ψ : I → sProp 𝕄} (h : ∀ i, i ≠ p → Φ i = Ψ i) :
    bigSep Finset.univ Φ ⊢ iprop(Φ p ∗ (Ψ p -∗ bigSep Finset.univ Ψ)) := by
  rw [bigSep_univ_split p (Φ := Φ), bigSep_univ_split p (Φ := Ψ), bigSep_congr fun i hi => h i (Finset.ne_of_mem_erase hi)]
  show iprop(Φ p ∗ bigSep (Finset.univ.erase p) Ψ) ⊢ iprop(Φ p ∗ (Ψ p -∗ iprop(Ψ p ∗ bigSep (Finset.univ.erase p) Ψ)))
  iintro ⟨H1, H2⟩
  isplitl [H1]; · iexact H1
  iintro H; isplitl [H] <;> iassumption

/-- The same, its member and what it becomes named. -/
theorem fam_move {I : Type} [Fintype I] [DecidableEq I] (p : I) {Φ Ψ : I → sProp 𝕄} {A B : sProp 𝕄} (hA : Φ p = A) (hB : Ψ p = B)
    (h : ∀ i, i ≠ p → Φ i = Ψ i) : bigSep Finset.univ Φ ⊢ iprop(A ∗ (B -∗ bigSep Finset.univ Ψ)) := hA ▸ hB ▸ fam_step p h
/-- The same, its member used up. -/
theorem fam_drop {I : Type} [Fintype I] [DecidableEq I] (p : I) {Φ Ψ : I → sProp 𝕄} {A : sProp 𝕄} (hA : Φ p = A) (hB : Ψ p = iprop(emp))
    (h : ∀ i, i ≠ p → Φ i = Ψ i) : bigSep Finset.univ Φ ⊢ iprop(A ∗ bigSep Finset.univ Ψ) := by
  refine (fam_move p hA hB h).trans ?_
  iintro ⟨H1, H2⟩
  isplitl [H1]; · iexact H1
  iapply H2; iempintro

/-! ## The families -/

/-- The barrier signals still to make, each with the slot it gives away, -/
def FSig (c : Dev nD) (n : ℕ) : sProp 𝕄 :=
  bigSep Finset.univ fun d : Dev nD => if d.val < n then iprop(emp) else iprop(dutyTok ER (barC d) 0 c ∗ ∃ f, rP (F := F) c d f)
/-- the core's own barrier cell, before and after its wait, -/
def FBar (c : Dev nD) (b : Prop) [Decidable b] : sProp 𝕄 :=
  if b then atPos ER (barC c) 1 ∅ 0 else iprop(atPos ER (barC c) 0 ∅ 0 ∗ cred (tallyAt (barC c) () 32))
/-- the slots on the other devices the core may write (and its own), -/
def FLand (c : Dev nD) (b : Prop) [Decidable b] (n : ℕ) : sProp 𝕄 :=
  bigSep Finset.univ fun d : Dev nD => if b ∧ (n ≤ pos c d ∨ d = c) then iprop(∃ f, rP (F := F) d c f) else iprop(emp)
/-- its send cells: what is needed to send, the credit of the copies under way, the slots back from those awaited, -/
def FTok (c : Dev nD) (n w : ℕ) : sProp 𝕄 :=
  bigSep Finset.univ fun d : Dev nD =>
    if d = c then iprop(emp)
    else if pos c d < n then
      (if dist c d < w then iprop(atPos ER (sendC c d) 1 ∅ 0 ∗ yP c d (Yv m c)) else iprop(atPos ER (sendC c d) 0 ∅ 0 ∗ cred (tallyAt (sendC c d) () N)))
    else iprop(atPos ER (sendC c d) 0 ∅ 0 ∗ dutyTok ER (sendC c d) 0 0 ∗ dutyTok ER (recvC c d) 0 0)
/-- its slots not sent: filled or not, -/
def FY (c : Dev nD) (st n : ℕ) : sProp 𝕄 :=
  bigSep Finset.univ fun d : Dev nD =>
    if d ≠ c ∧ pos c d < n then iprop(emp) else if spos c d < st then yP c d (Yv m c) else iprop(∃ f, yP (F := F) c d f)
/-- its receive cells: the credit due, the slots landed, -/
def FRcv (c : Dev nD) (r : ℕ) : sProp 𝕄 :=
  bigSep Finset.univ fun s : Dev nD =>
    if s = c then iprop(emp)
    else if dist s c < r then iprop(atPos ER (recvC s c) 1 ∅ 0 ∗ rP c s (Rv m c)) else iprop(atPos ER (recvC s c) 0 ∅ 0 ∗ cred (tallyAt (recvC s c) () N))
/-- What a local copy credits. -/
abbrev NW : ℕ := (planeM ![0, 0, 0] (by decide)).view.dmaCredit
theorem NW_pos : 0 < NW := View.dmaCredit_pos _ (by decide)
/-- its local copies: to start, under way, done, -/
def FW (c : Dev nD) (ws ww : ℕ) : sProp 𝕄 :=
  bigSep Finset.univ fun i : Fin 4 =>
    if i.val < ww then iprop(semVal ((c : Thread nD τ), .dma (wSem i)) 0 ∗ vP c i (Wv m c) ∗ wP m c i)
    else if i.val < ws then Transfers.Flight EC (c : Thread nD τ) (.dma (wSem i)) () NW iprop(vP c i (Wv m c) ∗ wP m c i)
    else iprop(semVal ((c : Thread nD τ), .dma (wSem i)) 0 ∗ (∃ f, vP (F := F) c i f) ∗ wP m c i)
/-- The place of a row block in the order the result's are stored. -/
def opos (c s : ℕ) : ℕ := (c + 32 - s) % 32
/-- the result's block, the first `n` row blocks stored, -/
def FOut (c : Dev nD) (n : ℕ) : sProp 𝕄 :=
  iprop(∃ f : Buf (Elt F) ((c : Thread nD τ).loc cc0_stg3_0), ⌜∀ i : S4096x64.Idx, opos c.val ((i 0).val / 128) < n → f i = Ov m c i⌝ ∗ ((c : Thread nD τ).loc cc0_stg3_0 ↦{fullShare} f))
/-- the staged arguments, -/
def FX (c : Dev nD) : sProp 𝕄 :=
  iprop(((c : Thread nD τ).loc cc0_stg0_0 ↦{fullShare} xv m c) ∗ ((c : Thread nD τ).loc cc0_stg1_0 ↦{fullShare} sxv m c) ∗ ((c : Thread nD τ).loc cc0_stg2_0 ↦{fullShare} swv m c))
/-- and what it owes. -/
def FO (c : Dev nD) (a b : ℕ) : sProp 𝕄 := iprop(∃ W, owes (c : Thread nD τ) (owe c a b) W)

/-- All a core holds, `a` signals made, the barrier passed or not, `ws` local copies started and `ww` awaited, `st` slots
    filled, `n` places of the sending order passed, `o` row blocks of the result stored, `r` landings and `w` read-outs awaited. -/
def St (c : Dev nD) (a : ℕ) (b : Prop) [Decidable b] (ws ww st n o r w : ℕ) : sProp 𝕄 :=
  iprop(Env m K ∗ FSig c a ∗ FBar c b ∗ FLand c b n ∗ FTok m c n w ∗ FY m c st n ∗ FRcv m c r ∗ FW m c ws ww ∗ FOut m c o ∗ FX m c ∗ FO c a n)

/-! ## One step of each -/

theorem FSig_step (c d : Dev nD) : FSig (F := F) c d.val ⊢ iprop((dutyTok ER (barC d) 0 c ∗ ∃ f, rP (F := F) c d f) ∗ FSig c (d.val + 1)) :=
  fam_drop d (if_neg (Nat.lt_irrefl _)) (if_pos (Nat.lt_succ_self _)) fun e he => by
    have := dev_ne he
    by_cases h : e.val < d.val
    · rw [if_pos h, if_pos (by omega)]
    · rw [if_neg h, if_neg (by omega)]

theorem FLand_step {c d : Dev nD} (h : d ≠ c) : FLand (F := F) c True (pos c d) ⊢ iprop((∃ f, rP (F := F) d c f) ∗ FLand c True (pos c d + 1)) :=
  fam_drop d (if_pos ⟨trivial, .inl (Nat.le_refl _)⟩) (if_neg fun h' => h'.2.elim (fun h' => by omega) h) fun e he => by
    have : pos c e ≠ pos c d := fun h => he (pos_inj h)
    by_cases hc : e = c
    · rw [if_pos ⟨trivial, .inr hc⟩, if_pos ⟨trivial, .inr hc⟩]
    by_cases h : pos c d ≤ pos c e
    · rw [if_pos ⟨trivial, .inl h⟩, if_pos ⟨trivial, .inl (by omega)⟩]
    · rw [if_neg fun h' => h'.2.elim h hc, if_neg fun h' => h'.2.elim (fun h' => h (by omega)) hc]
theorem FLand_self (c : Dev nD) : FLand (F := F) c True 31 = FLand c True 32 := by
  refine bigSep_congr fun e _ => ?_
  by_cases hc : e = c
  · rw [if_pos ⟨trivial, .inr hc⟩, if_pos ⟨trivial, .inr hc⟩]
  · have := pos_ne hc
    rw [if_neg fun h' => h'.2.elim (fun h' => by omega) hc, if_neg fun h' => h'.2.elim (fun h' => by omega) hc]
theorem FLand_open (c : Dev nD) : (bigSep Finset.univ fun d : Dev nD => iprop(∃ f, rP (F := F) d c f)) ⊢ FLand c True 0 :=
  Entails.of_eq (bigSep_congr fun e _ => (if_pos ⟨trivial, .inl (Nat.zero_le _)⟩).symm)
theorem FLand_shut (c : Dev nD) (n : ℕ) : (iprop(emp) : sProp 𝕄) ⊢ FLand c False n := by
  unfold FLand
  rw [bigSep_congr (Ψ := fun _ => iprop(emp)) fun e _ => if_neg fun h => h.1]
  exact Entails.of_eq (bigSep_emp_const _).symm

theorem FTok_send {c d : Dev nD} (h : d ≠ c) :
    FTok m c (pos c d) 0 ⊢ iprop((dutyTok ER (sendC c d) 0 0 ∗ dutyTok ER (recvC c d) 0 0) ∗ (cred (tallyAt (sendC c d) () N) -∗ FTok m c (pos c d + 1) 0)) := by
  refine (fam_move d (A := iprop(atPos ER (sendC c d) 0 ∅ 0 ∗ dutyTok ER (sendC c d) 0 0 ∗ dutyTok ER (recvC c d) 0 0))
    (B := iprop(atPos ER (sendC c d) 0 ∅ 0 ∗ cred (tallyAt (sendC c d) () N)))
    (Ψ := fun e => if e = c then iprop(emp)
      else if pos c e < pos c d + 1 then
        (if dist c e < 0 then iprop(atPos ER (sendC c e) 1 ∅ 0 ∗ yP c e (Yv m c)) else iprop(atPos ER (sendC c e) 0 ∅ 0 ∗ cred (tallyAt (sendC c e) () N)))
      else iprop(atPos ER (sendC c e) 0 ∅ 0 ∗ dutyTok ER (sendC c e) 0 0 ∗ dutyTok ER (recvC c e) 0 0))
    (by rw [if_neg h, if_neg (Nat.lt_irrefl _)]) (by rw [if_neg h, if_pos (Nat.lt_succ_self _), if_neg (Nat.not_lt_zero _)]) fun e he => ?_).trans ?_
  · have : pos c e ≠ pos c d := fun h => he (pos_inj h)
    have e1 : pos c e < pos c d + 1 ↔ pos c e < pos c d := by omega
    simp only [e1]
  · iintro ⟨⟨Ha, H1, H2⟩, Hb⟩
    isplitl [H1 H2]; · isplitl [H1] <;> iassumption
    iintro Hc; unfold FTok; iapply Hb
    isplitl [Ha] <;> iassumption
theorem FTok_self (c : Dev nD) (w : ℕ) : FTok m c 31 w = FTok m c 32 w := by
  refine bigSep_congr fun e _ => ?_
  by_cases hc : e = c
  · rw [if_pos hc, if_pos hc]
  · have e1 : pos c e < 31 ↔ pos c e < 32 := ⟨fun h => by omega, fun _ => pos_ne hc⟩
    simp only [e1]
theorem FTok_wait {c d : Dev nD} (h : d ≠ c) :
    FTok m c 32 (dist c d) ⊢ iprop((atPos ER (sendC c d) 0 ∅ 0 ∗ cred (tallyAt (sendC c d) () N)) ∗ ((atPos ER (sendC c d) 1 ∅ 0 ∗ yP c d (Yv m c)) -∗ FTok m c 32 (dist c d + 1))) :=
  fam_move d (by rw [if_neg h, if_pos (pos_lt c d), if_neg (Nat.lt_irrefl _)]) (by rw [if_neg h, if_pos (pos_lt c d), if_pos (Nat.lt_succ_self _)]) fun e he => by
    have : dist c e ≠ dist c d := fun h => he (dist_inj h)
    by_cases hc : e = c
    · rw [if_pos hc, if_pos hc]
    rw [if_neg hc, if_neg hc, if_pos (pos_lt c e), if_pos (pos_lt c e)]
    by_cases h : dist c e < dist c d
    · rw [if_pos h, if_pos (by omega)]
    · rw [if_neg h, if_neg (by omega)]

theorem FY_store {c d : Dev nD} {n : ℕ} (h : n ≤ pos c d) :
    FY m c (spos c d) n ⊢ iprop((∃ f, yP (F := F) c d f) ∗ (yP c d (Yv m c) -∗ FY m c (spos c d + 1) n)) :=
  fam_move d (by rw [if_neg (by omega), if_neg (Nat.lt_irrefl _)]) (by rw [if_neg (by omega), if_pos (Nat.lt_succ_self _)]) fun e he => by
    have : spos c e ≠ spos c d := fun h => he (spos_inj h)
    by_cases hc : e ≠ c ∧ pos c e < n
    · rw [if_pos hc, if_pos hc]
    rw [if_neg hc, if_neg hc]
    by_cases h : spos c e < spos c d
    · rw [if_pos h, if_pos (by omega)]
    · rw [if_neg h, if_neg (by omega)]
/-- A slot is loaded before it is stored over. -/
theorem FY_peek {c d : Dev nD} {n : ℕ} (h : n ≤ pos c d) :
    FY m c (spos c d) n ⊢ iprop((∃ f, yP (F := F) c d f) ∗ ((∃ f, yP (F := F) c d f) -∗ FY m c (spos c d) n)) :=
  fam_move d (by rw [if_neg (by omega), if_neg (Nat.lt_irrefl _)]) (by rw [if_neg (by omega), if_neg (Nat.lt_irrefl _)]) fun e he => rfl
theorem FY_send {c d : Dev nD} {st : ℕ} (h : d ≠ c) (hs : spos c d < st) : FY m c st (pos c d) ⊢ iprop(yP c d (Yv m c) ∗ FY m c st (pos c d + 1)) :=
  fam_drop d (by rw [if_neg (by omega), if_pos hs]) (if_pos ⟨h, Nat.lt_succ_self _⟩) fun e he => by
    have : pos c e ≠ pos c d := fun h => he (pos_inj h)
    have e1 : pos c e < pos c d + 1 ↔ pos c e < pos c d := by omega
    simp only [e1]
theorem FY_self (c : Dev nD) (st : ℕ) : FY m c st 31 = FY m c st 32 := by
  refine bigSep_congr fun e _ => ?_
  have e1 : (e ≠ c ∧ pos c e < 31) ↔ (e ≠ c ∧ pos c e < 32) := ⟨fun h => ⟨h.1, by omega⟩, fun h => ⟨h.1, pos_ne h.1⟩⟩
  simp only [e1]
theorem FY_own (c : Dev nD) (n : ℕ) : FY m c 32 n ⊢ iprop(yP c c (Yv m c) ∗ (yP c c (Yv m c) -∗ FY m c 32 n)) :=
  fam_move c (by rw [if_neg fun h => h.1 rfl, if_pos (spos_lt c c)]) (by rw [if_neg fun h => h.1 rfl, if_pos (spos_lt c c)]) fun e he => rfl

theorem FRcv_wait {c s : Dev nD} (h : s ≠ c) :
    FRcv m c (dist s c) ⊢ iprop((atPos ER (recvC s c) 0 ∅ 0 ∗ cred (tallyAt (recvC s c) () N)) ∗ ((atPos ER (recvC s c) 1 ∅ 0 ∗ rP c s (Rv m c)) -∗ FRcv m c (dist s c + 1))) :=
  fam_move s (by rw [if_neg h, if_neg (Nat.lt_irrefl _)]) (by rw [if_neg h, if_pos (Nat.lt_succ_self _)]) fun e he => by
    have : dist e c ≠ dist s c := fun h => he (dist_inj' h)
    by_cases hc : e = c
    · rw [if_pos hc, if_pos hc]
    rw [if_neg hc, if_neg hc]
    by_cases h : dist e c < dist s c
    · rw [if_pos h, if_pos (by omega)]
    · rw [if_neg h, if_neg (by omega)]
theorem FRcv_read {c s : Dev nD} {r : ℕ} (h : s ≠ c) (hr : dist s c < r) :
    FRcv m c r ⊢ iprop((atPos ER (recvC s c) 1 ∅ 0 ∗ rP c s (Rv m c)) ∗ ((atPos ER (recvC s c) 1 ∅ 0 ∗ rP c s (Rv m c)) -∗ FRcv m c r)) :=
  fam_move s (by rw [if_neg h, if_pos hr]) (by rw [if_neg h, if_pos hr]) fun e he => rfl

theorem FW_start (c : Dev nD) (i : Fin 4) :
    FW m c i.val 0 ⊢ iprop((semVal ((c : Thread nD τ), .dma (wSem i)) 0 ∗ (∃ f, vP (F := F) c i f) ∗ wP m c i)
      ∗ (Transfers.Flight EC (c : Thread nD τ) (.dma (wSem i)) () NW iprop(vP c i (Wv m c) ∗ wP m c i) -∗ FW m c (i.val + 1) 0)) :=
  fam_move i (by rw [if_neg (Nat.not_lt_zero _), if_neg (Nat.lt_irrefl _)]) (by rw [if_neg (Nat.not_lt_zero _), if_pos (Nat.lt_succ_self _)]) fun e he => by
    have : e.val ≠ i.val := fun h => he (Fin.ext h)
    rw [if_neg (Nat.not_lt_zero _), if_neg (Nat.not_lt_zero _)]
    by_cases h : e.val < i.val
    · rw [if_pos h, if_pos (by omega)]
    · rw [if_neg h, if_neg (by omega)]
theorem FW_wait (c : Dev nD) (i : Fin 4) :
    FW m c 4 i.val ⊢ iprop(Transfers.Flight EC (c : Thread nD τ) (.dma (wSem i)) () NW iprop(vP c i (Wv m c) ∗ wP m c i)
      ∗ ((semVal ((c : Thread nD τ), .dma (wSem i)) 0 ∗ vP c i (Wv m c) ∗ wP m c i) -∗ FW m c 4 (i.val + 1))) :=
  fam_move i (by rw [if_neg (Nat.lt_irrefl _), if_pos i.isLt]) (by rw [if_pos (Nat.lt_succ_self _)]) fun e he => by
    have : e.val ≠ i.val := fun h => he (Fin.ext h)
    have e1 : e.val < i.val + 1 ↔ e.val < i.val := by omega
    simp only [e1]
theorem FW_read (c : Dev nD) {i : Fin 4} {ww : ℕ} (h : i.val < ww) :
    FW m c 4 ww ⊢ iprop((semVal ((c : Thread nD τ), .dma (wSem i)) 0 ∗ vP c i (Wv m c) ∗ wP m c i)
      ∗ ((semVal ((c : Thread nD τ), .dma (wSem i)) 0 ∗ vP c i (Wv m c) ∗ wP m c i) -∗ FW m c 4 ww)) :=
  fam_move i (by rw [if_pos h]) (by rw [if_pos h]) fun e he => rfl

end Cert.Proof
-- ==== Proof.Steps.lean ====
/-
  One lemma per kind of operation of the kernel: from what the core holds before it to what it holds after, its conclusion about
  the operation alone, its premise about what follows.
-/
module

public import proofs.«01_k».proof.Proof.State

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ)

variable (K : Dev nD × Fin 63 → ℕ)

abbrev 𝒱₀ : Variants := Variants.none

/-- A program of core `c`, run to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Control -/

theorem st_bind {c : Dev nD} {α β : Type} {X : sProp 𝕄} {p : Prog (TpuEff nD τ sig (Elt F) Λ₀ .tc) α} {k : α → Prog (TpuEff nD τ sig (Elt F) Λ₀ .tc) β}
    {Q : β → sProp 𝕄} (h : X ⊢ WP c p fun a => WP c (k a) Q) : X ⊢ WP c (p >>= k) Q := by
  unfold WP; rw [wp_bind]; exact h
theorem st_ret {c : Dev nD} {α : Type} {X : sProp 𝕄} {v : α} {Q : α → sProp 𝕄} (h : X ⊢ Q v) : X ⊢ WP (F := F) c (pure v) Q := by
  show X ⊢ WP c (.ret v) Q
  unfold WP; rw [wp_ret]
  iintro H; imodintro; iapply h $$ H
theorem st_dev {c : Dev nD} {X : sProp 𝕄} {Q : Dev nD → sProp 𝕄} (h : X ⊢ Q c) : X ⊢ WP (F := F) c (Prog.lift .deviceId) Q := by
  show X ⊢ WP c (.op .deviceId .ret) Q
  unfold WP; rw [wp_deviceId]; exact st_ret h
theorem st_then {c : Dev nD} {α : Type} {X : sProp 𝕄} {P : Prop} {inst : Decidable P} {A : P → Prog (TpuEff nD τ sig (Elt F) Λ₀ .tc) α} {B : ¬P → Prog (TpuEff nD τ sig (Elt F) Λ₀ .tc) α}
    {Q : α → sProp 𝕄} (hP : P) (h : X ⊢ WP c (A hP) Q) : X ⊢ WP c (dite P A B) Q := by rw [dif_pos hP]; exact h
theorem st_else {c : Dev nD} {α : Type} {X : sProp 𝕄} {P : Prop} {inst : Decidable P} {A : P → Prog (TpuEff nD τ sig (Elt F) Λ₀ .tc) α} {B : ¬P → Prog (TpuEff nD τ sig (Elt F) Λ₀ .tc) α}
    {Q : α → sProp 𝕄} (hP : ¬P) (h : X ⊢ WP c (B hP) Q) : X ⊢ WP c (dite P A B) Q := by rw [dif_neg hP]; exact h

/-! ## What the loads touch -/

theorem setOn_V {i : Fin 4} {off : Fin 3 → ℕ} {inb} (ho : off = ![i.val, 0, 0]) : vM.view.setOn (planeR off inb).set ⊆ planeS i := by
  exact ((View.set_slice vM.view (planeR off inb)).symm.trans ((View.set_slice_whole cc0_scratch0 _).trans (set_planeR ho))).subset
theorem setOn_Y {d : Dev nD} {off : Fin 3 → ℕ} {inb} (ho : off = ![d.val, 0, 0]) : yM.view.setOn (slotR off inb).set ⊆ slotS d := by
  exact ((View.set_slice yM.view (slotR off inb)).symm.trans ((View.set_slice_whole cc0_scratch1 _).trans (set_slotR ho))).subset
theorem setOn_R {d : Dev nD} {off : Fin 3 → ℕ} {inb} (ho : off = ![d.val, 0, 0]) : rM.view.setOn (slotR off inb).set ⊆ slotS d := by
  exact ((View.set_slice rM.view (slotR off inb)).symm.trans ((View.set_slice_whole cc0_scratch2 _).trans (set_slotR ho))).subset

/-! ## The barrier -/

section Steps

variable {c : Dev nD} {a : ℕ} {b : Prop} [Decidable b] {ws ww st n o r w : ℕ}

theorem st_signal {s : Sem sig} (hs : s = barrier0) {dv : Dev nD} (ha : dv.val = a) {Q : PUnit → sProp 𝕄}
    (h : St m K c (a + 1) b ws ww st n o r w ⊢ Q ⟨⟩) : St m K c a b ws ww st n o r w ⊢ WP c (semSignalWord dv s 1#32) Q := by
  subst hs ha
  show _ ⊢ WP c (.op (.semSignal (dv : Thread nD τ) barrier0 (1#32).toInt) .ret) Q
  unfold St
  iintro ⟨#He, HS, HB, HL, HT, HY, HR, HW, HOut, HX, HO⟩
  unfold FO; icases HO with ⟨%W, HO⟩
  ihave HS := (FSig_step c dv) $$ HS; icases HS with ⟨⟨Htok, Hslot⟩, HS⟩
  ihave Hi := (env_bar m K dv) $$ He; icases Hi with ⟨#Hi, #Hr⟩
  iapply (Rounds.wp_signal 𝒱₀ ER (Rd m) (c : Thread nD τ) none (dst := (dv : Thread nD τ)) (κ := K (dv, 0)) (d := c)
      (by rw [duties_bar]; exact Finset.mem_univ _) ((amount_bar m dv c).trans (by decide)) () (owe c (dv.val + 1) n) (owe_sig c dv n)) $$ [HO Htok Hslot]
  · isplitr; · iexact Hi
    isplitl [HO]; · iexact HO
    isplitl [Htok]; · iexact Htok
    isplitl [Hslot]; · rw [payload_bar]; iexact Hslot
    iexact Hr
  iintro HO
  iapply (st_ret h)
  unfold St FO
  isplitr; · iexact He
  iframe
  iexists W; iexact HO

theorem st_barrier {s : Sem sig} (hs : s = barrier0) {Q : PUnit → sProp 𝕄}
    (h : St m K c 32 True ws ww st 0 o r w ⊢ Q ⟨⟩) : St m K c 32 False ws ww st 0 o r w ⊢ WP c (semWaitWord s 32#32) Q := by
  subst hs
  show _ ⊢ WP c (.op (.semWait barrier0 (32#32).toInt) .ret) Q
  unfold St
  iintro ⟨#He, HS, HB, HL, HT, HY, HR, HW, HOut, HX, HO⟩
  unfold FO; icases HO with ⟨%W, HO⟩
  ihave HB := (Entails.of_eq (show FBar (F := F) c False = iprop(atPos ER (barC c) 0 ∅ 0 ∗ cred (tallyAt (barC c) () 32)) from if_neg id)) $$ HB
  icases HB with ⟨Hat, Hc⟩
  ihave Hi := (env_bar m K c) $$ He; icases Hi with ⟨#Hi, #Hr⟩
  iapply (Rounds.wp_wait_rest_token 𝒱₀ ER (Rd m) (c : Thread nD τ) none (κ := K (c, 0)) (wpE_semWait_eq 𝒱₀ (c : Thread nD τ) none Set.univ)
      (Set.mem_univ _) () (O := owe c 32 0) (W := W) (R := 0) (m := 0) (T := ∅) (by rw [expect_bar]; decide)) $$ [Hc HO Hat]
  · isplitr; · iexact Hi
    isplitl [Hc]; · iexact Hc
    isplitl [HO]; · iexact HO
    isplitr; · iapply (mayWait_bar c 0); iapply (env_lev m K); iexact He
    iexact Hat
  iintro ⟨HO, Hat, -, Hpay⟩
  ihave Hpay := (Entails.of_eq (rest_bar m c)) $$ Hpay
  ihave HL := (FLand_open c) $$ Hpay
  iapply (st_ret h)
  unfold St FO FBar; rw [if_pos trivial]
  isplitr; · iexact He
  iframe
  iexists _; iexact HO

/-! ## The local copies -/

theorem st_wstart (i : Fin 4) (hi : i.val = ws) {q : DmaSem sig} (hq : q = wSem i) {os : Fin 2 → ℕ} {od : Fin 3 → ℕ} {is id}
    (hos : os = ![0, cix c i.val * 512]) (hod : od = ![i.val, 0, 0]) {hsrc hdst hsem} {Q : PUnit → sProp 𝕄}
    (h : St m K c a b (ws + 1) 0 st n o r w ⊢ Q ⟨⟩) :
    St m K c a b ws 0 st n o r w ⊢ WP c (Prog.lift (.enqueueDma (colsM os is) (.here (planeM od id)) (.dma q) hsrc hdst hsem)) Q := by
  subst hi hq
  unfold Prog.lift
  unfold St
  iintro ⟨#He, HS, HB, HL, HT, HY, HR, HW, HOut, HX, HO⟩
  ihave HW := (FW_start m c i) $$ HW; icases HW with ⟨⟨Hs, ⟨%f, Hv⟩, Hw⟩, HW⟩
  unfold vP wP
  rw [← set_colsM (inb := is) hos, ← set_planeM (inb := id) hod]
  iapply (Transfers.wp_dmaLocal EC 𝒱₀ (c : Thread nD τ) none () NW (src := colsM os is) (dst := planeM od id) (sm := .dma (wSem i)) rfl NW_pos (Finset.Subset.refl _)) $$ [Hs Hv Hw]
  · isplitl [Hw]; · iexact Hw
    isplitl [Hv]; · iexact Hv
    iexact Hs
  iintro HF
  iapply (st_ret h)
  unfold St
  isplitr; · iexact He
  iframe
  iapply HW
  rw [pointsTo_congr (fun i hi => copied_eq m hos hod f i (set_planeM (inb := id) hod ▸ hi))]
  iexact HF

theorem st_wwait (i : Fin 4) (hi : i.val = ww) {q : DmaSem sig} (hq : q = wSem i) {os : Fin 2 → ℕ} {od : Fin 3 → ℕ} {is id}
    {hsrc hdst} {Q : PUnit → sProp 𝕄}
    (h : St m K c a b 4 (ww + 1) st n o r w ⊢ Q ⟨⟩) :
    St m K c a b 4 ww st n o r w ⊢ WP c (Prog.lift (.waitDma2 q (colsM os is) (planeM od id) hsrc hdst)) Q := by
  subst hi hq
  unfold Prog.lift
  unfold St
  iintro ⟨#He, HS, HB, HL, HT, HY, HR, HW, HOut, HX, HO⟩
  unfold FO; icases HO with ⟨%W, HO⟩
  ihave HW := (FW_wait m c i) $$ HW; icases HW with ⟨HF, HW⟩
  iapply (Transfers.wp_waitLocalO EC 𝒱₀ (c : Thread nD τ) none (srcw := colsM os is) (dstw := planeM od id) (hsrc := hsrc) (hdst := hdst) () (N := NW) rfl) $$ [HF HO]
  · isplitl [HF]; · iexact HF
    isplitl [HO]; · iexact HO
    iapply (mayWait_low c (wSem i) (by have := i.isLt; show 4 + i.val < 39; omega) a n); iapply (env_lev m K); iexact He
  iintro ⟨⟨Hv, Hw⟩, Hs, HO⟩
  iapply (st_ret h)
  unfold St FO
  isplitr; · iexact He
  ihave HW := HW $$ [Hs Hv Hw]
  · iframe
  iframe
  iexists _; iexact HO

/-! ## The loads -/

theorem st_x {off : Fin 2 → ℕ} {inb} {hl} (ho : off = ![0, 0]) {Q : Vec F S128x4096 .f32 → sProp 𝕄}
    (h : St m K c a b ws ww st n o r w ⊢ Q (xv m c)) :
    St m K c a b ws ww st n o r w ⊢ WP c (Prog.lift (.load xM (Rect.unit (s := S128x4096) off S128x4096.size inb).toLoadRect hl)) Q := by
  unfold Prog.lift
  unfold St
  iintro ⟨#He, HS, HB, HL, HT, HY, HR, HW, HOut, HX, HO⟩
  unfold FX; icases HX with ⟨HX, HX'⟩
  iapply (wp_load 𝒱₀ (c : Thread nD τ) none Set.univ (m := xM) (Finset.subset_univ _)) $$ HX; iintro HX
  rw [show xM.view.readAt (Elt F) (Rect.unit (s := S128x4096) off S128x4096.size inb).toLoadRect (xv m c) = xv m c from
    Memref.readAt_unit_zero (Elt F) cc0_stg0_0 (ho.trans (funext fun a => by fin_cases a <;> rfl)) _ _]
  iapply (st_ret h)
  unfold St FX
  isplitr; · iexact He
  iframe

theorem idx_S1 (x y : S1.Idx) : x = y := funext fun a => Fin.ext (by
  have h1 : (x 0).val < 1 := (x 0).isLt
  have h2 : (y 0).val < 1 := (y 0).isLt
  fin_cases a; show (x 0).val = (y 0).val; omega)
theorem st_sx {rr : Rect S1} {h1 hp} {Q : Elt F .f32 → sProp 𝕄}
    (h : St m K c a b ws ww st n o r w ⊢ Q (sxv m c i0)) :
    St m K c a b ws ww st n o r w ⊢ WP c (smemLoad sxM rr h1 hp) Q := by
  unfold smemLoad
  unfold St
  iintro ⟨#He, HS, HB, HL, HT, HY, HR, HW, HOut, HX, HO⟩
  unfold FX; icases HX with ⟨HX, HX', HX''⟩
  iapply (wp_smemLoadElt 𝒱₀ (c : Thread nD τ) none Set.univ (m := sxM) (r := rr) (S := Finset.univ) (Finset.subset_univ _)) $$ HX'; iintro HX'
  rw [show View.read (Elt F) (sxM.access rr) (sxv m c) _ = sxv m c i0 from congrArg (sxv m c) (idx_S1 _ _)]
  iapply (st_ret h)
  unfold St FX
  isplitr; · iexact He
  iframe
theorem st_sw {rr : Rect S1} {h1 hp} {Q : Elt F .f32 → sProp 𝕄}
    (h : St m K c a b ws ww st n o r w ⊢ Q (swv m c i0)) :
    St m K c a b ws ww st n o r w ⊢ WP c (smemLoad swM rr h1 hp) Q := by
  unfold smemLoad
  unfold St
  iintro ⟨#He, HS, HB, HL, HT, HY, HR, HW, HOut, HX, HO⟩
  unfold FX; icases HX with ⟨HX, HX', HX''⟩
  iapply (wp_smemLoadElt 𝒱₀ (c : Thread nD τ) none Set.univ (m := swM) (r := rr) (S := Finset.univ) (Finset.subset_univ _)) $$ HX''; iintro HX''
  rw [show View.read (Elt F) (swM.access rr) (swv m c) _ = swv m c i0 from congrArg (swv m c) (idx_S1 _ _)]
  iapply (st_ret h)
  unfold St FX
  isplitr; · iexact He
  iframe

theorem st_wv (i : Fin 4) (hi : i.val + 1 = ww) {off : Fin 3 → ℕ} {inb} {hl} (ho : off = ![i.val, 0, 0]) {Q : Vec F S1x4096x512 .f32 → sProp 𝕄}
    (h : St m K c a b 4 ww st n o r w ⊢ Q (wch m c (cix c i.val))) :
    St m K c a b 4 ww st n o r w ⊢ WP c (Prog.lift (.load vM (planeR off inb).toLoadRect hl)) Q := by
  unfold Prog.lift
  unfold St
  iintro ⟨#He, HS, HB, HL, HT, HY, HR, HW, HOut, HX, HO⟩
  ihave HW := (FW_read m c (i := i) (ww := ww) (by omega)) $$ HW; icases HW with ⟨⟨Hs, Hv, Hw⟩, HW⟩
  unfold vP
  iapply (wp_load 𝒱₀ (c : Thread nD τ) none Set.univ (m := vM) (r := (planeR off inb).toLoadRect) (S := planeS i) (setOn_V ho)) $$ Hv; iintro Hv
  rw [read_plane m ho]
  iapply (st_ret h)
  unfold St
  isplitr; · iexact He
  ihave HW := HW $$ [Hs Hv Hw]
  · isplitl [Hs]; · iexact Hs
    isplitl [Hv]; · iexact Hv
    iexact Hw
  iframe

/-! ## The slots to send -/

theorem st_ypeek (ht : st < 32) {off : Fin 3 → ℕ} {inb} {hl} (ho : off = ![(sord c st).val, 0, 0]) (hn : n ≤ 8 * (st / 8)) {Q : Vec F S1x128x64 .bf16 → sProp 𝕄}
    (h : ∀ v, St m K c a b ws ww st n o r w ⊢ Q v) :
    St m K c a b ws ww st n o r w ⊢ WP c (Prog.lift (.load yM (slotR off inb).toLoadRect hl)) Q := by
  unfold Prog.lift
  have e := spos_sord c ht
  have hp : n ≤ pos c (sord c st) := by unfold pos; unfold spos at e; omega
  unfold St
  iintro ⟨#He, HS, HB, HL, HT, HY, HR, HW, HOut, HX, HO⟩
  have hs := FY_peek (c := c) (d := sord c st) m hp; rw [e] at hs
  ihave HY := hs $$ HY; icases HY with ⟨⟨%f, Hy⟩, HY⟩
  unfold yP
  iapply (wp_load 𝒱₀ (c : Thread nD τ) none Set.univ (m := yM) (r := (slotR off inb).toLoadRect) (S := slotS (sord c st)) (setOn_Y ho)) $$ Hy; iintro Hy
  iapply (st_ret (h _))
  unfold St
  isplitr; · iexact He
  ihave HY := HY $$ [Hy]
  · iexists f; iexact Hy
  iframe

theorem st_ystore (ht : st < 32) {off : Fin 3 → ℕ} {inb} {Mk hm hst} (hM : Mk = Finset.univ) {pay : Vec F S1x128x64 .bf16} (ho : off = ![(sord c st).val, 0, 0]) (hn : n ≤ 8 * (st / 8))
    (hv : pay = fun j => Yv m c (ix3 (sord c st) (j 1) (j 2))) {Q : PUnit → sProp 𝕄}
    (h : St m K c a b ws ww (st + 1) n o r w ⊢ Q ⟨⟩) :
    St m K c a b ws ww st n o r w ⊢ WP c (Prog.lift (.store yM (slotR off inb) pay Mk hm hst)) Q := by
  subst hM
  unfold Prog.lift
  have e := spos_sord c ht
  have hp : n ≤ pos c (sord c st) := by unfold pos; unfold spos at e; omega
  unfold St
  iintro ⟨#He, HS, HB, HL, HT, HY, HR, HW, HOut, HX, HO⟩
  have hs := FY_store (c := c) (d := sord c st) m hp; rw [e] at hs
  ihave HY := hs $$ HY; icases HY with ⟨⟨%f, Hy⟩, HY⟩
  unfold yP
  iapply (wp_store 𝒱₀ (c : Thread nD τ) none Set.univ (m := yM) (r := slotR off inb) (Mk := Finset.univ) (S := slotS (sord c st))
    (by rw [View.setOn_univ, View.set_slice_whole, set_slotR (inb := inb) ho])) $$ Hy; iintro Hy
  ihave Hy := (Entails.of_eq (pointsTo_congr (f := (yM.access (slotR off inb)).write (Elt F) f pay Finset.univ) (g := Yv m c) (stored_slot m (inb := inb) ho f hv))) $$ Hy
  iapply (st_ret h)
  unfold St
  isplitr; · iexact He
  ihave HY := HY $$ [Hy]
  · iexact Hy
  iframe

/-! ## The remote copies -/

theorem st_send (hn : n < 31) (hst : 8 * (n / 8 + 1) ≤ st) {dv : Dev nD} (hd : dv = ord c n) {s1 s2 : DmaSem sig}
    (h1 : s1 = sSem (sIdx c (ord c n))) (h2 : s2 = rSem (sIdx c (ord c n))) {os od : Fin 3 → ℕ} {is id}
    (hos : os = ![(ord c n).val, 0, 0]) (hod : od = ![c.val, 0, 0])
    {hsc : (slotM rM od id : Memref sig (Dev.tc dv : Thread nD τ).2.kind .vmem S128x64 .bf16).view.ref.isScScratch = false} {hsrc hdst}
    {hsem : DmaTarget.Typed .vmem (.dma s2) (.remote (Dev.tc dv : Thread nD τ) (slotM rM od id) (.dma s1) hsc)} {Q : PUnit → sProp 𝕄}
    (h : St m K c 32 True ws ww st (n + 1) o r 0 ⊢ Q ⟨⟩) :
    St m K c 32 True ws ww st n o r 0
      ⊢ WP c (Prog.lift (.enqueueDma (slotM yM os is) (.remote (Dev.tc dv : Thread nD τ) (slotM rM od id) (.dma s1) hsc) (.dma s2) hsrc hdst hsem)) Q := by
  have e := pos_ord c (n := n) (by omega)
  have hne : ord c n ≠ c := fun h => by have := pos_self c; rw [h] at e; omega
  generalize ord c n = d at *
  subst hd h1 h2
  subst e
  have hsp : spos c dv < st := by have := spos_pos c dv (n := pos c dv / 8 + 1) (by omega); omega
  unfold Prog.lift
  unfold St
  iintro ⟨#He, HS, HB, HL, HT, HY, HR, HW, HOut, HX, HO⟩
  unfold FO; icases HO with ⟨%W, HO⟩
  ihave HL := (FLand_step hne) $$ HL; icases HL with ⟨⟨%fd, Hr⟩, HL⟩
  ihave HT := (FTok_send m hne) $$ HT; icases HT with ⟨⟨Ht1, Ht2⟩, HT⟩
  ihave HY := (FY_send m hne hsp) $$ HY; icases HY with ⟨Hy, HY⟩
  ihave Hi1 := (env_send m K c dv) $$ He; icases Hi1 with ⟨#Hi1, #Hr1⟩
  ihave Hi2 := (env_recv m K c dv) $$ He; icases Hi2 with ⟨#Hi2, #Hr2⟩
  unfold yP rP
  rw [← set_slotY (inb := is) hos, ← set_slotRM (inb := id) hod]
  iapply (Rounds.wp_send_pointsTo (c' := (Dev.tc dv : Thread nD τ)) (src := slotM yM os is)
    (dst := (slotM rM od id : Memref sig (Dev.tc dv : Thread nD τ).2.kind .vmem S128x64 .bf16)) (sS := .dma (sSem (sIdx c dv))) (sem := .dma (rSem (sIdx c dv)))
    (hsc := hsc) (hsrc := hsrc) (hdst := hdst) (hsem := hsem) (k := .ret) (q := fullShare) (fs := Yv m c) (Q := Q) (defs := defs₀ (F := F)) (Es := Set.univ)
    𝒱₀ ER (Rd m) (c : Thread nD τ) none (κ₁ := K (c, sendNo (sIdx c dv))) (κ₂ := K (dv, recvNo (sIdx c dv)))
    (r₁ := 0) (r₂ := 0) (d₁ := 0) (d₂ := 0) (fd := fd)
    (by rw [duties_send]; exact Finset.mem_singleton_self _) (by rw [duties_recv]; exact Finset.mem_singleton_self _)
    () () N rfl (amount_dma m c 0 _) (amount_dma m dv 0 _) (owe c 32 (pos c dv + 1)) (owe_send 32 hne) (W := W)
    (by rw [payload_send m hne]; unfold yP; rw [← set_slotY (inb := is) hos])
    (by rw [payload_recv m hne]; unfold rP; rw [← set_slotRM (inb := id) hod,
      pointsTo_congr fun i hi => landed_eq m hos hod fd i (set_slotRM (inb := id) hod ▸ hi)])) $$ [Hy Hr HO Ht1 Ht2]
  · isplitr; · iexact Hi1
    isplitr; · iexact Hi2
    isplitl [Hy]; · iexact Hy
    isplitl [Hr]; · iexact Hr
    isplitl [HO]; · iexact HO
    isplitl [Ht1]; · iexact Ht1
    isplitr; · iexact Hr1
    isplitl [Ht2]; · iexact Ht2
    iexact Hr2
  iintro ⟨Hc, HO⟩
  iapply (st_ret h)
  unfold St FO
  isplitr; · iexact He
  ihave HT := HT $$ Hc
  iframe
  iexists _; iexact HO

theorem st_rwait {s : ℕ} (hs : s < 31) {q : DmaSem sig} (hq : q = rSem (sIdx (srcOf c s) c)) {os od : Fin 3 → ℕ} {is id} {hsrc hdst} {Q : PUnit → sProp 𝕄}
    (h : St m K c 32 True ws ww st 32 o (s + 1) w ⊢ Q ⟨⟩) :
    St m K c 32 True ws ww st 32 o s w ⊢ WP c (Prog.lift (.waitDma2 q (slotM yM os is) (slotM rM od id) hsrc hdst)) Q := by
  have e := dist_srcOf c hs
  have hne := srcOf_ne c hs
  generalize srcOf c s = d at *
  subst hq
  subst e
  unfold Prog.lift
  unfold St
  iintro ⟨#He, HS, HB, HL, HT, HY, HR, HW, HOut, HX, HO⟩
  unfold FO; icases HO with ⟨%W, HO⟩; rw [owe_end]
  ihave HR := (FRcv_wait m hne) $$ HR; icases HR with ⟨⟨Hat, Hc⟩, HR⟩
  ihave Hi := (env_recv m K d c) $$ He; icases Hi with ⟨#Hi, #Hr⟩
  iapply (Rounds.wp_wait_rest_token 𝒱₀ ER (Rd m) (c : Thread nD τ) none (κ := K (c, recvNo (sIdx d c)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hp := (Entails.of_eq (rest_recv (c := d) (d := c) m hne.symm)) $$ Hpay
  iapply (st_ret h)
  unfold St FO; rw [owe_end]
  isplitr; · iexact He
  ihave HR := HR $$ [Hat Hp]
  · isplitl [Hat]; · iexact Hat
    iexact Hp
  iframe
  iexists _; iexact HO

theorem st_swait {s : ℕ} (hs : s < 31) {q : DmaSem sig} (hq : q = sSem (sIdx c (dstOf c s))) {os od : Fin 3 → ℕ} {is id} {hsrc hdst} {Q : PUnit → sProp 𝕄}
    (h : St m K c 32 True ws ww st 32 o r (s + 1) ⊢ Q ⟨⟩) :
    St m K c 32 True ws ww st 32 o r s ⊢ WP c (Prog.lift (.waitDma2 q (slotM rM os is) (slotM yM od id) hsrc hdst)) Q := by
  have e := dist_dstOf c hs
  have hne := dstOf_ne c hs
  generalize dstOf c s = d at *
  subst hq
  subst e
  unfold Prog.lift
  unfold St
  iintro ⟨#He, HS, HB, HL, HT, HY, HR, HW, HOut, HX, HO⟩
  unfold FO; icases HO with ⟨%W, HO⟩; rw [owe_end]
  ihave HT := (FTok_wait m hne) $$ HT; icases HT with ⟨⟨Hat, Hc⟩, HT⟩
  ihave Hi := (env_send m K c d) $$ He; icases Hi with ⟨#Hi, #Hr⟩
  iapply (Rounds.wp_wait_rest_token 𝒱₀ ER (Rd m) (c : Thread nD τ) none (κ := K (c, sendNo (sIdx c d)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hp := (Entails.of_eq (rest_send m hne)) $$ Hpay
  iapply (st_ret h)
  unfold St FO; rw [owe_end]
  isplitr; · iexact He
  ihave HT := HT $$ [Hat Hp]
  · isplitl [Hat]; · iexact Hat
    iexact Hp
  iframe
  iexists _; iexact HO

/-! ## The result's rows -/

/-- The device's own slot is passed over in the sending order. -/
theorem st_own {X : sProp 𝕄} (h : St m K c 32 True ws ww st 32 o r w ⊢ X) : St m K c 32 True ws ww st 31 o r w ⊢ X := by
  refine Entails.trans (Entails.of_eq ?_) h
  unfold St FO; rw [FLand_self, FTok_self, FY_self, owe_self]

theorem st_yown {off : Fin 3 → ℕ} {inb} {hl} (ho : off = ![c.val, 0, 0]) {Q : Vec F S1x128x64 .bf16 → sProp 𝕄}
    (h : St m K c a b ws ww 32 n o r w ⊢ Q (fun j => Rv m c (ix3 c (j 1) (j 2)))) :
    St m K c a b ws ww 32 n o r w ⊢ WP c (Prog.lift (.load yM (slotR off inb).toLoadRect hl)) Q := by
  unfold Prog.lift
  unfold St
  iintro ⟨#He, HS, HB, HL, HT, HY, HR, HW, HOut, HX, HO⟩
  ihave HY := (FY_own m c n) $$ HY; icases HY with ⟨Hy, HY⟩
  unfold yP
  iapply (wp_load 𝒱₀ (c : Thread nD τ) none Set.univ (m := yM) (r := (slotR off inb).toLoadRect) (S := slotS c) (setOn_Y ho)) $$ Hy; iintro Hy
  rw [read_slotY (c := c) ho]
  iapply (st_ret h)
  unfold St
  isplitr; · iexact He
  ihave HY := HY $$ [Hy]
  · iexact Hy
  iframe

theorem st_rread {s : ℕ} (hs : s < 31) (hr : s < r) {off : Fin 3 → ℕ} {inb} {hl} (ho : off = ![(srcOf c s).val, 0, 0]) {Q : Vec F S1x128x64 .bf16 → sProp 𝕄}
    (h : St m K c a b ws ww st n o r w ⊢ Q (fun j => Rv m c (ix3 (srcOf c s) (j 1) (j 2)))) :
    St m K c a b ws ww st n o r w ⊢ WP c (Prog.lift (.load rM (slotR off inb).toLoadRect hl)) Q := by
  have e := dist_srcOf c hs
  have hne := srcOf_ne c hs
  generalize srcOf c s = d at *
  unfold Prog.lift
  unfold St
  iintro ⟨#He, HS, HB, HL, HT, HY, HR, HW, HOut, HX, HO⟩
  ihave HR := (FRcv_read m hne (by omega)) $$ HR; icases HR with ⟨⟨Hat, Hy⟩, HR⟩
  unfold rP
  iapply (wp_load 𝒱₀ (c : Thread nD τ) none Set.univ (m := rM) (r := (slotR off inb).toLoadRect) (S := slotS d) (setOn_R ho)) $$ Hy; iintro Hy
  rw [read_slotR ho]
  iapply (st_ret h)
  unfold St
  isplitr; · iexact He
  ihave HR := HR $$ [Hat Hy]
  · isplitl [Hat]; · iexact Hat
    iexact Hy
  iframe

theorem st_opeek {off : Fin 2 → ℕ} {inb} {hl} {Q : Vec F S128x64 .f32 → sProp 𝕄}
    (h : ∀ v, St m K c a b ws ww st n o r w ⊢ Q v) :
    St m K c a b ws ww st n o r w ⊢ WP c (Prog.lift (.load oM (rowsR off inb).toLoadRect hl)) Q := by
  unfold Prog.lift
  unfold St
  iintro ⟨#He, HS, HB, HL, HT, HY, HR, HW, HOut, HX, HO⟩
  unfold FOut; icases HOut with ⟨%f, %hf, Hf⟩
  iapply (wp_load 𝒱₀ (c : Thread nD τ) none Set.univ (m := oM) (r := (rowsR off inb).toLoadRect) (S := Finset.univ) (Finset.subset_univ _)) $$ Hf; iintro Hf
  iapply (st_ret (h _))
  unfold St FOut
  isplitr; · iexact He
  iframe
  iexists f; isplitr; · ipureintro; exact hf
  iexact Hf

theorem st_ostore {d : Dev nD} (hd : opos c.val d.val = o) {off : Fin 2 → ℕ} {inb} {Mk hm hst} (hM : Mk = Finset.univ) {pay : Vec F S128x64 .f32} {v : Vec F S1x128x64 .bf16} (ho : off = ![d.val * 128, 0])
    (hp : pay = k0_pay13 v) (hv : v = fun j => Rv m c (ix3 d (j 1) (j 2))) {Q : PUnit → sProp 𝕄}
    (h : St m K c a b ws ww st n (o + 1) r w ⊢ Q ⟨⟩) :
    St m K c a b ws ww st n o r w ⊢ WP c (Prog.lift (.store oM (rowsR off inb) pay Mk hm hst)) Q := by
  subst hM hp
  unfold Prog.lift
  unfold St
  iintro ⟨#He, HS, HB, HL, HT, HY, HR, HW, HOut, HX, HO⟩
  unfold FOut; icases HOut with ⟨%f, %hf, Hf⟩
  iapply (wp_store 𝒱₀ (c : Thread nD τ) none Set.univ (m := oM) (r := rowsR off inb) (Mk := Finset.univ) (S := Finset.univ) (Finset.subset_univ _)) $$ Hf; iintro Hf
  iapply (st_ret h)
  unfold St FOut
  isplitr; · iexact He
  iframe
  iexists _; isplitr
  · ipureintro
    intro i hi
    refine (stored_rows m (inb := inb) ho f hv i).trans ?_
    by_cases hd' : (i 0).val / 128 = d.val
    · exact if_pos hd'
    · refine (if_neg hd').trans (hf i ?_)
      have h0 : (i 0).val < 4096 := (i 0).isLt
      have := dev_lt c; have := dev_lt d
      unfold opos at hi hd ⊢
      omega
  iexact Hf

end Steps
end Cert.Proof
-- ==== Proof.Ends.lean ====
/-
  The two ends of a core's body: what the launch deals it, sorted into the state its body starts from, and the state its body ends
  in, its cells closed and its buffers whole again.
-/
module

public import proofs.«01_k».proof.Proof.Steps

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ)

/-! ## Families renumbered -/

theorem fam_off (c : Dev nD) (Φ : Dev nD → sProp 𝕄) : bigSep Finset.univ (fun d => if d = c then iprop(emp) else Φ d) = bigSep (Finset.univ.erase c) Φ := by
  rw [bigSep_univ_at _ c, if_pos rfl, bigSep_congr (Ψ := Φ) fun d hd => if_neg (Finset.ne_of_mem_erase hd)]
  exact equiv_iff.mp emp_sep
theorem fam_on (c : Dev nD) (Φ : Dev nD → sProp 𝕄) : bigSep Finset.univ (fun d => if d = c then Φ d else iprop(emp)) = Φ c := by
  rw [bigSep_univ_at _ c, if_pos rfl, bigSep_congr (Ψ := fun _ => iprop(emp)) fun d hd => if_neg (Finset.ne_of_mem_erase hd)]
  exact (congrArg (fun X => iprop(Φ c ∗ X)) (bigSep_emp_const _)).trans (equiv_iff.mp sep_emp)
/-- The other devices, numbered by `e`. -/
theorem fam_num (c : Dev nD) (e : Fin 31 → Dev nD) (he : Function.Injective e) (hc : ∀ s, e s ≠ c) (Φ : Dev nD → sProp 𝕄) :
    bigSep (Finset.univ.erase c) Φ = bigSep Finset.univ fun s => Φ (e s) := by
  have h : Finset.univ.map ⟨e, he⟩ = Finset.univ.erase c := by
    refine Finset.eq_of_subset_of_card_le (fun d hd => ?_) ?_
    · obtain ⟨s, -, rfl⟩ := Finset.mem_map.mp hd
      exact Finset.mem_erase.mpr ⟨hc s, Finset.mem_univ _⟩
    · rw [Finset.card_map, Finset.card_erase_of_mem (Finset.mem_univ _)]; decide
  rw [← h, bigSep_map]; rfl
set_option backward.proofsInPublic true in
/-- By the semaphore they are sent to with, -/
def dstNo (c : Dev nD) (s : Fin 31) : Dev nD := dstOf c s.val
set_option backward.proofsInPublic true in
/-- by the one they are received from with. -/
def srcNo (c : Dev nD) (s : Fin 31) : Dev nD := srcOf c s.val
theorem sIdx_dst (c : Dev nD) (s : Fin 31) : sIdx c (dstNo c s) = s :=
  Fin.ext ((sIdx_val (dstOf_ne c s.isLt)).trans (dist_dstOf c s.isLt))
theorem sIdx_src (c : Dev nD) (s : Fin 31) : sIdx (srcNo c s) c = s :=
  Fin.ext ((sIdx_val (srcOf_ne c s.isLt).symm).trans (dist_srcOf c s.isLt))
theorem dstNo_inj (c : Dev nD) : Function.Injective (dstNo c) := fun s t h => by rw [← sIdx_dst c s, h, sIdx_dst]
theorem srcNo_inj (c : Dev nD) : Function.Injective (srcNo c) := fun s t h => by rw [← sIdx_src c s, h, sIdx_src]
theorem sendC_dst (c : Dev nD) (s : Fin 31) : sendC c (dstNo c s) = cellNo (c, sendNo s) :=
  congrArg (Prod.mk _) (by rw [sIdx_dst]; exact (semNo_send s).symm)
theorem recvC_src (c : Dev nD) (s : Fin 31) : recvC (srcNo c s) c = cellNo (c, recvNo s) :=
  congrArg (Prod.mk _) (by rw [sIdx_src]; exact (semNo_recv s).symm)
theorem recvC_dst (c : Dev nD) (s : Fin 31) : recvC c (dstNo c s) = cellNo (dstNo c s, recvNo s) :=
  congrArg (Prod.mk _) (by rw [sIdx_dst]; exact (semNo_recv s).symm)

theorem fam_dst (c : Dev nD) (Φ : Dev nD → sProp 𝕄) : bigSep (Finset.univ.erase c) Φ = bigSep Finset.univ fun s => Φ (dstNo c s) :=
  fam_num c _ (dstNo_inj c) (fun s => dstOf_ne c s.isLt) Φ
theorem fam_src (c : Dev nD) (Φ : Dev nD → sProp 𝕄) : bigSep (Finset.univ.erase c) Φ = bigSep Finset.univ fun s => Φ (srcNo c s) :=
  fam_num c _ (srcNo_inj c) (fun s => srcOf_ne c s.isLt) Φ

theorem sendNo_inj : Function.Injective sendNo := fun s t h => Fin.ext (by have := congrArg Fin.val h; simp only [sendNo] at this; omega)
theorem recvNo_inj : Function.Injective recvNo := fun s t h => Fin.ext (by have := congrArg Fin.val h; simp only [recvNo] at this; omega)
/-- A device's cells by kind. -/
theorem fam_cells (Φ : Fin 63 → sProp 𝕄) :
    bigSep Finset.univ Φ = iprop(Φ 0 ∗ (bigSep Finset.univ fun s => Φ (sendNo s)) ∗ bigSep Finset.univ fun s => Φ (recvNo s)) := by
  have h : (Finset.univ : Finset (Fin 63)).erase 0 = Finset.univ.map ⟨sendNo, sendNo_inj⟩ ∪ Finset.univ.map ⟨recvNo, recvNo_inj⟩ := by decide +kernel
  rw [bigSep_univ_at _ 0, h]
  refine congrArg (fun X => iprop(Φ 0 ∗ X)) ((bigSep_union (by decide +kernel)).trans ?_)
  rw [bigSep_map, bigSep_map]; rfl

theorem bigSep_with {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  (sep_mono_left (bigSep_of_persistent S R)).trans (by rw [← bigSep_sep']; exact bigSep_mono h)

/-! ## The buffers by slots, planes and columns -/

theorem slots_all : (Finset.univ : Finset (Dev nD)).biUnion slotS = Finset.univ :=
  Finset.eq_univ_of_forall fun i => Finset.mem_biUnion.mpr ⟨⟨(i 0).val, (i 0).isLt⟩, Finset.mem_univ _, mem_slotS.mpr rfl⟩
theorem slots_off : ∀ d ∈ (Finset.univ : Finset (Dev nD)), ∀ e ∈ (Finset.univ : Finset (Dev nD)), d ≠ e → Disjoint (slotS d) (slotS e) :=
  fun d _ e _ h => Finset.disjoint_left.mpr fun i hd he => h (Fin.ext ((mem_slotS.mp hd).symm.trans (mem_slotS.mp he)))
theorem planes_all : (Finset.univ : Finset (Fin 4)).biUnion planeS = Finset.univ :=
  Finset.eq_univ_of_forall fun i => Finset.mem_biUnion.mpr ⟨⟨(i 0).val, (i 0).isLt⟩, Finset.mem_univ _, mem_planeS.mpr rfl⟩
theorem planes_off : ∀ d ∈ (Finset.univ : Finset (Fin 4)), ∀ e ∈ (Finset.univ : Finset (Fin 4)), d ≠ e → Disjoint (planeS d) (planeS e) :=
  fun d _ e _ h => Finset.disjoint_left.mpr fun i hd he => h (Fin.ext ((mem_planeS.mp hd).symm.trans (mem_planeS.mp he)))
theorem cols_all (c : Dev nD) : (Finset.univ : Finset (Fin 4)).biUnion (colS c) = Finset.univ :=
  Finset.eq_univ_of_forall fun i => Finset.mem_biUnion.mpr
    ⟨⟨((i 1).val / 512 + 7 - c.val / 8) % 4, Nat.mod_lt _ (by decide)⟩, Finset.mem_univ _, mem_colS.mpr (by
      have h : (i 1).val < 2048 := (i 1).isLt
      have := dev_lt c
      unfold cix; dsimp only; omega)⟩
theorem cols_off (c : Dev nD) : ∀ d ∈ (Finset.univ : Finset (Fin 4)), ∀ e ∈ (Finset.univ : Finset (Fin 4)), d ≠ e → Disjoint (colS c d) (colS c e) :=
  fun d _ e _ h => Finset.disjoint_left.mpr fun i hd he => h (Fin.ext (by
    have := (mem_colS.mp hd).symm.trans (mem_colS.mp he)
    have := d.isLt; have := e.isLt
    unfold cix at this; unfold cix at *; omega))

theorem y_slots (c : Dev nD) (f : Buf (Elt F) ((c : Thread nD τ).loc cc0_scratch1)) :
    ((c : Thread nD τ).loc cc0_scratch1 ↦{fullShare} f : sProp 𝕄) = bigSep Finset.univ fun d => yP c d f := by
  unfold yP; exact (congrArg (fun S => ((c : Thread nD τ).loc cc0_scratch1 ↦[S]{fullShare} f : sProp 𝕄)) slots_all.symm).trans (pointsTo_biUnion _ _ slots_off)
theorem r_slots (c : Dev nD) (f : Buf (Elt F) ((c : Thread nD τ).loc cc0_scratch2)) :
    ((c : Thread nD τ).loc cc0_scratch2 ↦{fullShare} f : sProp 𝕄) = bigSep Finset.univ fun d => rP c d f := by
  unfold rP; exact (congrArg (fun S => ((c : Thread nD τ).loc cc0_scratch2 ↦[S]{fullShare} f : sProp 𝕄)) slots_all.symm).trans (pointsTo_biUnion _ _ slots_off)
theorem v_planes (c : Dev nD) (f : Buf (Elt F) ((c : Thread nD τ).loc cc0_scratch0)) :
    ((c : Thread nD τ).loc cc0_scratch0 ↦{fullShare} f : sProp 𝕄) = bigSep Finset.univ fun i => vP c i f := by
  unfold vP; exact (congrArg (fun S => ((c : Thread nD τ).loc cc0_scratch0 ↦[S]{fullShare} f : sProp 𝕄)) planes_all.symm).trans (pointsTo_biUnion _ _ planes_off)
theorem w_cols (c : Dev nD) :
    ((c : Thread nD τ).loc main_arg1 ↦{fullShare} m ((c : Thread nD τ).loc main_arg1) : sProp 𝕄) = bigSep Finset.univ fun i => wP m c i := by
  unfold wP; exact (congrArg (fun S => ((c : Thread nD τ).loc main_arg1 ↦[S]{fullShare} m ((c : Thread nD τ).loc main_arg1) : sProp 𝕄)) (cols_all c).symm).trans (pointsTo_biUnion _ _ (cols_off c))

/-! ## What a core is dealt -/

/-- The duty tokens a core pays with: a unit to each barrier cell, its send cells', the receive cells' it sends to. -/
def payToks (c : Dev nD) : sProp 𝕄 :=
  iprop((bigSep Finset.univ fun d : Dev nD => dutyTok ER (barC d) 0 c)
    ∗ (bigSep Finset.univ fun s : Fin 31 => dutyTok ER (cellNo (c, sendNo s)) 0 (0 : Dev nD))
    ∗ (bigSep Finset.univ fun s : Fin 31 => dutyTok ER (cellNo (dstNo c s, recvNo s)) 0 (0 : Dev nD)))
/-- Its positions, its tokens, and its local copies' counters at zero. -/
def Dealt (c : Dev nD) : sProp 𝕄 :=
  iprop((bigSep Finset.univ fun k : Fin 63 => atPos ER (cellNo (c, k)) 0 ∅ 0) ∗ payToks c
    ∗ bigSep Finset.univ fun i : Fin 4 => semVal ((c : Thread nD τ), .dma (wSem i)) 0)
/-- The credit other cores owe its cells. -/
def Due (c : Dev nD) : sProp 𝕄 :=
  iprop(cred (tallyAt (barC c) () 32) ∗ bigSep Finset.univ fun s : Fin 31 => cred (tallyAt (cellNo (c, recvNo s)) () N))
/-- Its working buffers, whole, at some contents. -/
def Scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- The weight matrix as launched. -/
def Weights (c : Dev nD) : sProp 𝕄 := ((c : Thread nD τ).loc main_arg1) ↦{fullShare} m ((c : Thread nD τ).loc main_arg1)

theorem FTok_start (c : Dev nD) :
    FTok m c 0 0 = iprop((bigSep Finset.univ fun s : Fin 31 => atPos ER (cellNo (c, sendNo s)) 0 ∅ 0)
      ∗ (bigSep Finset.univ fun s : Fin 31 => dutyTok ER (cellNo (c, sendNo s)) 0 (0 : Dev nD))
      ∗ (bigSep Finset.univ fun s : Fin 31 => dutyTok ER (cellNo (dstNo c s, recvNo s)) 0 (0 : Dev nD))) := by
  unfold FTok
  rw [fam_off c, fam_dst c, ← bigSep_sep', ← bigSep_sep']
  exact bigSep_congr fun s _ => by rw [if_neg (Nat.not_lt_zero _), sendC_dst, recvC_dst]
theorem FRcv_start (c : Dev nD) :
    FRcv m c 0 = iprop((bigSep Finset.univ fun s : Fin 31 => atPos ER (cellNo (c, recvNo s)) 0 ∅ 0)
      ∗ bigSep Finset.univ fun s : Fin 31 => cred (tallyAt (cellNo (c, recvNo s)) () N)) := by
  unfold FRcv
  rw [fam_off c, fam_src c, ← bigSep_sep']
  exact bigSep_congr fun s _ => by rw [if_neg (Nat.not_lt_zero _), recvC_src]
theorem FY_start (c : Dev nD) (f : Buf (Elt F) ((c : Thread nD τ).loc cc0_scratch1)) : ((c : Thread nD τ).loc cc0_scratch1 ↦{fullShare} f : sProp 𝕄) ⊢ FY m c 0 0 := by
  rw [y_slots]; unfold FY
  refine bigSep_mono fun d _ => ?_
  rw [if_neg fun h => Nat.not_lt_zero _ h.2, if_neg (Nat.not_lt_zero _)]
  show yP c d f ⊢ iprop(∃ f, yP c d f)
  iintro H; iexists f; iexact H
theorem FSig_start (c : Dev nD) (f : Buf (Elt F) ((c : Thread nD τ).loc cc0_scratch2)) :
    iprop((bigSep Finset.univ fun d : Dev nD => dutyTok ER (barC d) 0 c) ∗ ((c : Thread nD τ).loc cc0_scratch2 ↦{fullShare} f)) ⊢ FSig (F := F) c 0 := by
  rw [r_slots, ← bigSep_sep']; unfold FSig
  refine bigSep_mono fun d _ => ?_
  rw [if_neg (Nat.not_lt_zero _)]
  show iprop(dutyTok ER (barC d) 0 c ∗ rP c d f) ⊢ iprop(dutyTok ER (barC d) 0 c ∗ ∃ f, rP c d f)
  iintro ⟨H1, H2⟩; isplitl [H1]; · iexact H1
  iexists f; iexact H2
theorem FW_start0 (c : Dev nD) (f : Buf (Elt F) ((c : Thread nD τ).loc cc0_scratch0)) :
    iprop((bigSep Finset.univ fun i : Fin 4 => semVal ((c : Thread nD τ), .dma (wSem i)) 0) ∗ ((c : Thread nD τ).loc cc0_scratch0 ↦{fullShare} f) ∗ Weights m c) ⊢ FW m c 0 0 := by
  unfold Weights
  rw [v_planes, w_cols, ← bigSep_sep', ← bigSep_sep']; unfold FW
  refine bigSep_mono fun i _ => ?_
  rw [if_neg (Nat.not_lt_zero _), if_neg (Nat.not_lt_zero _)]
  show iprop(semVal ((c : Thread nD τ), .dma (wSem i)) 0 ∗ vP c i f ∗ wP m c i) ⊢ iprop(semVal ((c : Thread nD τ), .dma (wSem i)) 0 ∗ (∃ f, vP c i f) ∗ wP m c i)
  iintro ⟨H1, H2, H3⟩; isplitl [H1]; · iexact H1
  isplitl [H2]; · iexists f; iexact H2
  iexact H3
theorem FOut_start (c : Dev nD) (f : Buf (Elt F) ((c : Thread nD τ).loc cc0_stg3_0)) : ((c : Thread nD τ).loc cc0_stg3_0 ↦{fullShare} f : sProp 𝕄) ⊢ FOut m c 0 := by
  unfold FOut
  iintro H; iexists f
  isplitr; · ipureintro; exact fun _ h => absurd h (Nat.not_lt_zero _)
  iexact H

/-- The state a body starts from. -/
theorem enter (K : Dev nD × Fin 63 → ℕ) (c : Dev nD) (f : Buf (Elt F) ((c : Thread nD τ).loc cc0_stg3_0)) :
    iprop(Env m K ∗ Dealt c ∗ Due c ∗ Scratch c ∗ Weights m c ∗ ((c : Thread nD τ).loc cc0_stg3_0 ↦{fullShare} f) ∗ FX m c ∗ FO c 0 0)
      ⊢ St m K c 0 False 0 0 0 0 0 0 0 := by
  unfold Dealt Due Scratch payToks
  rw [fam_cells]
  iintro ⟨He, ⟨⟨Hb, Hs, Hr⟩, ⟨Tb, Ts, Tr⟩, Hw⟩, ⟨Cb, Cr⟩, ⟨⟨%f0, H0⟩, ⟨%f1, H1⟩, ⟨%f2, H2⟩⟩, HW, Hout, HX, HO⟩
  unfold St
  isplitl [He]; · iexact He
  isplitl [Tb H2]
  · iapply (FSig_start c f2); isplitl [Tb] <;> iassumption
  isplitl [Hb Cb]
  · iapply (Entails.of_eq (show iprop(atPos ER (barC c) 0 ∅ 0 ∗ cred (tallyAt (barC c) () 32)) = FBar (F := F) c False from (if_neg id).symm))
    isplitl [Hb]; · iexact Hb
    iexact Cb
  isplitr; · iapply (FLand_shut (F := F) c 0); iempintro
  isplitl [Hs Ts Tr]
  · rw [FTok_start]; isplitl [Hs]; · iexact Hs
    isplitl [Ts] <;> iassumption
  isplitl [H1]; · iapply (FY_start m c f1); iexact H1
  isplitl [Hr Cr]
  · rw [FRcv_start]; isplitl [Hr] <;> iassumption
  isplitl [Hw H0 HW]
  · iapply (FW_start0 m c f0); isplitl [Hw]; · iexact Hw
    isplitl [H0] <;> iassumption
  isplitl [Hout]; · iapply (FOut_start m c f); iexact Hout
  isplitl [HX] <;> iassumption

/-! ## What a core gives back -/

/-- Its cells' counters, its local copies', all at zero. -/
def Quiet (c : Dev nD) : sProp 𝕄 :=
  iprop(semVal (barC c) 0 ∗ (bigSep Finset.univ fun s : Fin 31 => semVal (cellNo (c, sendNo s)) 0)
    ∗ (bigSep Finset.univ fun s : Fin 31 => semVal (cellNo (c, recvNo s)) 0) ∗ bigSep Finset.univ fun i : Fin 4 => semVal ((c : Thread nD τ), .dma (wSem i)) 0)

theorem close (K : Dev nD × Fin 63 → ℕ) (p : Dev nD × Fin 63) : iprop(Env m K ∗ atPos ER (cellNo p) 1 ∅ 0) ⊢ |={Set.univ}=> semVal (cellNo p) 0 := by
  iintro ⟨He, Ha⟩
  ihave Hi := (env_cell m K p) $$ He; icases Hi with ⟨#Hi, -⟩
  iapply (Rounds.cell_close ER (Rd m) (Set.mem_univ (K p)) (fun h => h) (R := 1) (duties_later m (cellNo p)))
  isplitr; · iexact Hi
  iexact Ha
theorem close_all (K : Dev nD × Fin 63 → ℕ) (c : Dev nD) (e : Fin 31 → Fin 63) :
    iprop(Env m K ∗ bigSep Finset.univ fun s : Fin 31 => atPos ER (cellNo (c, e s)) 1 ∅ 0)
      ⊢ |={Set.univ}=> bigSep Finset.univ fun s : Fin 31 => semVal (cellNo (c, e s)) 0 :=
  (bigSep_with fun s _ => close m K (c, e s)).trans (bigSep_fupd _ _)

theorem FLand_end (c : Dev nD) : FLand (F := F) c True 32 = iprop(∃ f, rP (F := F) c c f) := by
  unfold FLand
  rw [← fam_on c (fun d => iprop(∃ f, rP (F := F) d c f))]
  refine bigSep_congr fun d _ => ?_
  have := pos_lt c d
  by_cases h : d = c
  · rw [if_pos ⟨trivial, .inr h⟩, if_pos h]
  · rw [if_neg fun h' => h'.2.elim (fun h' => by omega) h, if_neg h]
theorem FTok_end (c : Dev nD) :
    FTok m c 32 31 = iprop((bigSep Finset.univ fun s : Fin 31 => atPos ER (cellNo (c, sendNo s)) 1 ∅ 0) ∗ bigSep (Finset.univ.erase c) fun d => yP c d (Yv m c)) := by
  unfold FTok
  rw [fam_off c, bigSep_congr (Ψ := fun d => iprop(atPos ER (sendC c d) 1 ∅ 0 ∗ yP c d (Yv m c))) fun d hd => by
    rw [if_pos (pos_lt c d), if_pos (dist_lt (Finset.ne_of_mem_erase hd))], bigSep_sep', fam_dst c (fun d => atPos ER (sendC c d) 1 ∅ 0)]
  exact congrArg (fun X => iprop(X ∗ bigSep (Finset.univ.erase c) fun d => yP c d (Yv m c))) (bigSep_congr fun s _ => by rw [sendC_dst])
theorem FRcv_end (c : Dev nD) :
    FRcv m c 31 = iprop((bigSep Finset.univ fun s : Fin 31 => atPos ER (cellNo (c, recvNo s)) 1 ∅ 0) ∗ bigSep (Finset.univ.erase c) fun s => rP c s (Rv m c)) := by
  unfold FRcv
  rw [fam_off c, bigSep_congr (Ψ := fun s => iprop(atPos ER (recvC s c) 1 ∅ 0 ∗ rP c s (Rv m c))) fun d hd => by
    rw [if_pos (dist_lt (Finset.ne_of_mem_erase hd).symm)], bigSep_sep', fam_src c (fun s => atPos ER (recvC s c) 1 ∅ 0)]
  exact congrArg (fun X => iprop(X ∗ bigSep (Finset.univ.erase c) fun d => rP c d (Rv m c))) (bigSep_congr fun s _ => by rw [recvC_src])
theorem FY_end (c : Dev nD) : FY m c 32 32 = yP c c (Yv m c) := by
  unfold FY
  rw [← fam_on c (fun d => yP c d (Yv m c))]
  refine bigSep_congr fun d _ => ?_
  by_cases h : d = c
  · rw [if_neg fun h' => h'.1 h, if_pos (spos_lt c d), if_pos h]
  · rw [if_pos ⟨h, pos_lt c d⟩, if_neg h]
theorem FW_end (c : Dev nD) :
    FW m c 4 4 = iprop((bigSep Finset.univ fun i : Fin 4 => semVal ((c : Thread nD τ), .dma (wSem i)) 0) ∗ ((c : Thread nD τ).loc cc0_scratch0 ↦{fullShare} Wv m c) ∗ Weights m c) := by
  unfold FW Weights
  rw [v_planes, w_cols, ← bigSep_sep', ← bigSep_sep']
  exact bigSep_congr fun i _ => if_pos i.isLt
theorem y_join (c : Dev nD) : iprop(yP c c (Yv m c) ∗ bigSep (Finset.univ.erase c) fun d => yP c d (Yv m c)) = ((c : Thread nD τ).loc cc0_scratch1 ↦{fullShare} Yv m c : sProp 𝕄) := by
  rw [y_slots, bigSep_univ_at _ c]
theorem r_join (c : Dev nD) (f : Buf (Elt F) ((c : Thread nD τ).loc cc0_scratch2)) :
    iprop(rP c c f ∗ bigSep (Finset.univ.erase c) fun d => rP c d (Rv m c)) ⊢ (iprop(∃ g : Buf (Elt F) ((c : Thread nD τ).loc cc0_scratch2), ((c : Thread nD τ).loc cc0_scratch2) ↦{fullShare} g) : sProp 𝕄) := by
  have h1 : iprop(rP c c f ∗ bigSep (Finset.univ.erase c) fun d => rP c d (Rv m c))
      = bigSep Finset.univ fun d : Dev nD => ((c : Thread nD τ).loc cc0_scratch2 ↦[slotS d]{fullShare} (if d = c then f else Rv m c) : sProp 𝕄) := by
    rw [bigSep_univ_at _ c, if_pos rfl]
    exact congrArg (fun X => iprop(rP c c f ∗ X)) (bigSep_congr fun d hd => by rw [if_neg (Finset.ne_of_mem_erase hd)]; rfl)
  have h2 := pointsTo_biUnion_join (Ix := Unit) (Name := ℕ) (U := UU) (Lvl := ℕ) (q := fullShare) (ℓ := (c : Thread nD τ).loc cc0_scratch2)
    (Finset.univ : Finset (Dev nD)) slotS (fun d => if d = c then f else Rv m c) f slots_off
  rw [h1]
  refine h2.trans ?_
  have h3 : (iprop(∃ g : Buf (Elt F) ((c : Thread nD τ).loc cc0_scratch2), ⌜∀ t ∈ (Finset.univ : Finset (Dev nD)), ∀ i ∈ slotS t, g i = (if t = c then f else Rv m c) i⌝
      ∗ ((c : Thread nD τ).loc cc0_scratch2) ↦[(Finset.univ : Finset (Dev nD)).biUnion slotS]{fullShare} g) : sProp 𝕄)
      ⊢ iprop(∃ g : Buf (Elt F) ((c : Thread nD τ).loc cc0_scratch2), ((c : Thread nD τ).loc cc0_scratch2) ↦{fullShare} g) := by
    rw [slots_all]
    iintro ⟨%g, -, H⟩; iexists g; iexact H
  exact h3
theorem FOut_end (c : Dev nD) : FOut m c 32 ⊢ ((c : Thread nD τ).loc cc0_stg3_0 ↦{fullShare} Ov m c : sProp 𝕄) := by
  unfold FOut
  iintro ⟨%f, %hf, H⟩
  have e : f = Ov m c := funext fun i => hf i (Nat.mod_lt _ (by decide))
  subst e; iexact H

/-- The state a body ends in, closed. -/
theorem leave (K : Dev nD × Fin 63 → ℕ) (c : Dev nD) :
    St m K c 32 True 4 4 32 32 32 31 31
      ⊢ |={Set.univ}=> iprop(Quiet c ∗ Scratch c ∗ Weights m c ∗ ((c : Thread nD τ).loc cc0_stg3_0 ↦{fullShare} Ov m c) ∗ FX m c ∗ ∃ W, owes (c : Thread nD τ) 0 W) := by
  unfold St FO
  rw [owe_end, FLand_end, FTok_end, FRcv_end, FY_end, FW_end]
  iintro ⟨#He, -, HB, ⟨%f, HL⟩, ⟨HTa, HT⟩, HY, ⟨HRa, HR⟩, ⟨Hw, HV, HW⟩, HOut, HX, HO⟩
  ihave HB := (Entails.of_eq (show FBar (F := F) c True = atPos ER (cellNo (c, 0)) 1 ∅ 0 from if_pos trivial)) $$ HB
  imod (close m K (c, 0)) $$ [HB] with HB
  · isplitr; · iexact He
    iexact HB
  imod (close_all m K c sendNo) $$ [HTa] with HTa
  · isplitr; · iexact He
    iexact HTa
  imod (close_all m K c recvNo) $$ [HRa] with HRa
  · isplitr; · iexact He
    iexact HRa
  imodintro
  ihave HY := (Entails.of_eq (y_join m c)) $$ [HY HT]
  · isplitl [HY] <;> iassumption
  ihave HR := (r_join m c f) $$ [HL HR]
  · isplitl [HL] <;> iassumption
  ihave HOut := (FOut_end m c) $$ HOut
  unfold Quiet Scratch
  isplitl [HB HTa HRa Hw]
  · isplitl [HB]; · iexact HB
    isplitl [HTa]; · iexact HTa
    isplitl [HRa] <;> iassumption
  isplitl [HV HY HR]
  · isplitl [HV]; · iexists _; iexact HV
    isplitl [HY]; · iexists _; iexact HY
    iexact HR
  isplitl [HW]; · iexact HW
  isplitl [HOut]; · iexact HOut
  isplitl [HX] <;> iassumption

end Cert.Proof
-- ==== Proof.Walk.lean ====
/-
  The kernel's body, walked one operation at a time: the semaphores its slices name, the slots of a computed chunk, then the run
  itself, from what a core holds at the start to what it holds at the end.
-/
module

public import proofs.«01_k».proof.Proof.Steps

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ)

variable (K : Dev nD × Fin 63 → ℕ)

/-! ## The semaphores the slices name -/

theorem inb4 (k : Fin 4) : ∀ i, (![k.val] : Fin 1 → ℕ) i + S1.size i ≤ S4.size i := by revert k; decide
theorem inb31 (k : Fin 31) : ∀ i, (![k.val] : Fin 1 → ℕ) i + S1.size i ≤ S31.size i := by revert k; decide
theorem w_all : ∀ k : Fin 4, ((cc0_scratch3.slice (Rect.unit (s := S4) ![k.val] S1.size (inb4 k))).squeeze S_ squeezes_S1_S_).sem = wSem k := by
  decide +kernel
theorem s_all : ∀ k : Fin 31, ((cc0_scratch4.slice (Rect.unit (s := S31) ![k.val] S1.size (inb31 k))).squeeze S_ squeezes_S1_S_).sem = sSem k := by
  decide +kernel
theorem r_all : ∀ k : Fin 31, ((cc0_scratch5.slice (Rect.unit (s := S31) ![k.val] S1.size (inb31 k))).squeeze S_ squeezes_S1_S_).sem = rSem k := by
  decide +kernel
theorem w_sem (k : Fin 4) {off : Fin 1 → ℕ} {inb} (h : off = ![k.val]) :
    ((cc0_scratch3.slice (Rect.unit (s := S4) off S1.size inb)).squeeze S_ squeezes_S1_S_).sem = wSem k := by subst h; exact w_all k
theorem s_sem (k : Fin 31) {off : Fin 1 → ℕ} {inb} (h : off = ![k.val]) :
    ((cc0_scratch4.slice (Rect.unit (s := S31) off S1.size inb)).squeeze S_ squeezes_S1_S_).sem = sSem k := by subst h; exact s_all k
theorem r_sem (k : Fin 31) {off : Fin 1 → ℕ} {inb} (h : off = ![k.val]) :
    ((cc0_scratch5.slice (Rect.unit (s := S31) off S1.size inb)).squeeze S_ squeezes_S1_S_).sem = rSem k := by subst h; exact r_all k

/-! ## A slot of a computed chunk -/

/-- Columns `64·jj …` of the chunk of step `st / 8` are what is due in the slot of step `st`. -/
theorem slot_pay (c : Dev nD) {st : ℕ} {off : Fin 2 → ℕ} (ho : off = ![0, 64 * (st % 8)]) {hs h} {y : FVec F S128x512 .bf16}
    (hy : y = ych m c (cix c (st / 8))) :
    shapeCast S1x128x64 (extractStridedSlice S128x64 off y hs) h = fun j => Yv m c (ix3 (sord c st) (j 1) (j 2)) := by
  subst ho hy
  funext j
  have h1 : (sord c st).val / 8 = cix c (st / 8) := by
    show (8 * ((st / 8 + c.val / 8 + 1) % 4) + st % 8) / 8 = _
    unfold cix; omega
  have h2 : (sord c st).val % 8 = st % 8 := by
    show (8 * ((st / 8 + c.val / 8 + 1) % 4) + st % 8) % 8 = _
    omega
  refine (shapeCast_addUnit_apply ![128, 64] _ h j).trans ?_
  have hj1 : (j 1).val < 128 := (j 1).isLt
  have hj2 : (j 2).val < 64 := (j 2).isLt
  refine (extractStridedSlice_apply _ _ hs _ (ix2 (j 1) ⟨64 * (st % 8) + (j 2).val, by show _ < 512; omega⟩) (fun a => ?_)).trans ?_
  · fin_cases a
    · show (j 1).val = 0 + (j 1).val; omega
    · rfl
  · show ych m c (cix c (st / 8)) _ = ych m c ((sord c st).val / 8) _
    rw [h1]
    refine congrArg (ych m c _) ?_
    refine congrArg (ix2 (j 1)) (Fin.ext ?_)
    show 64 * (st % 8) + (j 2).val = (sord c st).val % 8 * 64 + (j 2).val
    rw [h2]; omega

/-- The same of a payload whose two operations are met one after the other. -/
theorem slot_pay1 (c : Dev nD) {st : ℕ} {pay : FVec F S1x128x64 .bf16} {z : FVec F S128x64 .bf16} {h} (hp : pay = shapeCast S1x128x64 z h)
    {off : Fin 2 → ℕ} {hs} {y : FVec F S128x512 .bf16} (hz : z = extractStridedSlice S128x64 off y hs) (ho : off = ![0, 64 * (st % 8)])
    (hy : y = ych m c (cix c (st / 8))) : pay = fun j => Yv m c (ix3 (sord c st) (j 1) (j 2)) := by
  rw [hp, hz]; exact slot_pay m c ho hy

/-! ## The walk -/

/-- A block of the body run for its own postcondition, kept as a name until it returns. -/
theorem st_call {c : Dev nD} {α β : Type} {X : sProp 𝕄} {p : Prog (TpuEff nD τ sig (Elt F) Λ₀ .tc) α} {k : α → Prog (TpuEff nD τ sig (Elt F) Λ₀ .tc) β}
    {Q : β → sProp 𝕄} (h : ∀ Q', (fun a => WP c (k a) Q) = Q' → X ⊢ WP c p Q') : X ⊢ WP c (p >>= k) Q := st_bind (h _ rfl)

section Walk
variable {c : Dev nD} {a : ℕ} {b : Prop} [Decidable b] {ws ww st n o w : ℕ}

/-- The slot just waited for is the one read. -/
theorem st_rread1 {s : ℕ} (hs : s < 31) {off : Fin 3 → ℕ} {inb} {hl} (ho : off = ![(srcOf c s).val, 0, 0]) {Q : Vec F S1x128x64 .bf16 → sProp 𝕄}
    (h : St m K c a b ws ww st n o (s + 1) w ⊢ Q (fun j => Rv m c (ix3 (srcOf c s) (j 1) (j 2)))) :
    St m K c a b ws ww st n o (s + 1) w ⊢ WP c (Prog.lift (.load rM (slotR off inb).toLoadRect hl)) Q :=
  st_rread m K hs (Nat.lt_succ_self s) ho h
/-- A slot written out, the slot and its contents found from the payload. -/
theorem st_ostore1 {r : ℕ} {off : Fin 2 → ℕ} {inb} {Mk hm hst} {pay : Vec F S128x64 .f32} (hx : ∃ (d : Dev nD) (v : Vec F S1x128x64 .bf16),
      pay = k0_pay13 v ∧ (v = fun j => Rv m c (ix3 d (j 1) (j 2))) ∧ off = ![d.val * 128, 0] ∧ opos c.val d.val = o)
    (hM : Mk = Finset.univ) {Q : PUnit → sProp 𝕄} (h : St m K c a b ws ww st n (o + 1) r w ⊢ Q ⟨⟩) :
    St m K c a b ws ww st n o r w ⊢ WP c (Prog.lift (.store oM (rowsR off inb) pay Mk hm hst)) Q := by
  obtain ⟨d, v, hp, hv, ho, hd⟩ := hx
  exact st_ostore m K hd hM ho hp hv h
end Walk

set_option maxHeartbeats 0 in
set_option maxRecDepth 100000 in
/-- The body of core `c`, from before its first operation to before its last three waits. -/
theorem walk_parts (c : Dev nD) {h0 h1 h2 h3 h4 h5 h6 h7} {Q : PUnit → sProp 𝕄} (h : St m K c 32 True 4 4 32 32 32 31 28 ⊢ Q ⟨⟩) :
    St m K c 0 False 0 0 0 0 0 0 0
      ⊢ WP c (k0_part57 (F := F) xM h0 wM h1 sxM h2 swM h3 oM h4 vM h5 yM h6 rM h7 cc0_scratch3 cc0_scratch4 cc0_scratch5) Q := by
  rw [k0_part57_eq_skeleton]; unfold k0_part57_skel
  repeat
    with_reducible refine st_call fun Q'' hQ' => ?_
    simp (disch := (clear * -; revert c; decide +kernel)) only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, dif_pos, dif_neg]
    repeat
      with_reducible refine st_bind ?_
      first
        | (with_reducible refine st_ypeek m K ?_ ?_ ?_ (fun v => ?_)); (· omega); (· clear * -; revert c; decide +kernel); (· omega)
        | (with_reducible refine st_ystore m K ?_ ?_ ?_ ?_ ?_ ?_); (· omega); (· rfl); (· clear * -; revert c; decide +kernel); (· omega); (· apply slot_pay1 m c <;> first | rfl | decide)
        | (with_reducible refine st_send m K ?_ ?_ ?_ ?_ ?_ ?_ ?_ ?_); (· omega); (· omega); (· clear * -; revert c; decide +kernel); (· exact s_sem _ (by clear * -; revert c; decide +kernel)); (· exact r_sem _ (by clear * -; revert c; decide +kernel)); (· clear * -; revert c; decide +kernel); (· clear * -; revert c; decide +kernel)
        | (with_reducible refine st_rwait m K ?_ ?_ ?_); (· omega); (· exact r_sem _ (by clear * -; revert c; decide +kernel))
        | (with_reducible refine st_rread1 m K ?_ ?_ ?_); (· omega); (· clear * -; revert c; decide +kernel)
        | (with_reducible refine st_opeek m K (fun v => ?_))
        | (with_reducible refine st_swait m K ?_ ?_ ?_); (· omega); (· exact s_sem _ (by clear * -; revert c; decide +kernel))
        | (with_reducible refine st_signal m K ?_ ?_ ?_); (· rfl); (· decide +kernel)
        | (with_reducible refine st_wstart m K 0 ?_ ?_ ?_ ?_ ?_); (· rfl); (· exact w_sem 0 rfl); (· clear * -; revert c; decide +kernel); (· rfl)
        | (with_reducible refine st_wstart m K 1 ?_ ?_ ?_ ?_ ?_); (· rfl); (· exact w_sem 1 rfl); (· clear * -; revert c; decide +kernel); (· rfl)
        | (with_reducible refine st_wstart m K 2 ?_ ?_ ?_ ?_ ?_); (· rfl); (· exact w_sem 2 rfl); (· clear * -; revert c; decide +kernel); (· rfl)
        | (with_reducible refine st_wstart m K 3 ?_ ?_ ?_ ?_ ?_); (· rfl); (· exact w_sem 3 rfl); (· clear * -; revert c; decide +kernel); (· rfl)
        | (with_reducible refine st_wwait m K 0 ?_ ?_ ?_); (· rfl); (· exact w_sem 0 rfl)
        | (with_reducible refine st_wwait m K 1 ?_ ?_ ?_); (· rfl); (· exact w_sem 1 rfl)
        | (with_reducible refine st_wwait m K 2 ?_ ?_ ?_); (· rfl); (· exact w_sem 2 rfl)
        | (with_reducible refine st_wwait m K 3 ?_ ?_ ?_); (· rfl); (· exact w_sem 3 rfl)
        | (with_reducible refine st_wv m K 0 ?_ ?_ ?_); (· rfl); (· rfl)
        | (with_reducible refine st_wv m K 1 ?_ ?_ ?_); (· rfl); (· rfl)
        | (with_reducible refine st_wv m K 2 ?_ ?_ ?_); (· rfl); (· rfl)
        | (with_reducible refine st_wv m K 3 ?_ ?_ ?_); (· rfl); (· rfl)
        | (with_reducible refine st_barrier m K ?_ ?_); (· rfl)
        | (with_reducible refine st_x m K ?_ ?_); (· rfl)
        | (with_reducible refine st_dev ?_)
        | refine st_own m K ?_; (with_reducible refine st_yown m K ?_ ?_); (· clear * -; revert c; decide +kernel)
        | (with_reducible refine st_ostore1 m K ?_ ?_ ?_); (· exact ⟨_, _, rfl, rfl, (by clear * -; revert c; decide +kernel), (by clear * -; revert c; decide +kernel)⟩); (· rfl)
        | refine st_sx m K ?_; (with_reducible refine st_bind ?_); refine st_sw m K ?_
    with_reducible refine st_ret ?_
    subst hQ'
    dsimp only [Nat.reduceAdd]
  exact st_ret h

/-- The end of a program reached with its post-condition one update away. -/
theorem st_end {α : Type} {c : Dev nD} {v : α} {Q : α → sProp 𝕄} {X : sProp 𝕄} (h : X ⊢ |={Set.univ}=> Q v) :
    X ⊢ WP c (Pure.pure v : Prog (TpuEff nD τ sig (Elt F) Λ₀ .tc) α) Q := by
  show X ⊢ WP c (.ret v) Q
  unfold WP
  rw [wp_ret]
  exact h

set_option maxHeartbeats 0 in
set_option maxRecDepth 100000 in
/-- The body of core `c`, from before its first operation to after its last. -/
theorem walk (c : Dev nD) {h0 h1 h2 h3 h4 h5 h6 h7} {Q : PUnit → sProp 𝕄} (h : St m K c 32 True 4 4 32 32 32 31 31 ⊢ |={Set.univ}=> Q ⟨⟩) :
    St m K c 0 False 0 0 0 0 0 0 0
      ⊢ WP c (cc0_body (F := F) xM h0 wM h1 sxM h2 swM h3 oM h4 vM h5 yM h6 rM h7 cc0_scratch3 cc0_scratch4 cc0_scratch5) Q := by
  rw [cc0_body_eq_skeleton]; unfold cc0_body_skel
  with_reducible refine st_call fun Q' hQ => ?_
  with_reducible refine walk_parts m K c ?_
  subst hQ
  dsimp only [Nat.reduceAdd]
  iterate 3
    with_reducible refine st_bind ?_
    (with_reducible refine st_swait m K ?_ ?_ ?_); (· omega); (· exact s_sem _ (by clear * -; revert c; decide +kernel))
    dsimp only [Nat.reduceAdd]
  exact st_end h

end Cert.Proof
-- ==== Proof.Launch.lean ====
/-
  The launch: the body's obligation from its walk, the cells made for all devices at once and dealt out, and the run of the whole
  program.
-/
module

public import Idealize.ShloMosaic.Lib.Pipeline.CollectiveSegs
public import Idealize.ShloMosaic.Lib.Pipeline.Quiescent
public import proofs.«01_k».proof.Proof.Ends
public import proofs.«01_k».proof.Proof.Walk

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UU ℕ

variable (m : (ℓ : Loc nD τ sig) → Buf (Elt F) ℓ)

variable (ρ : Dev nD → PrngReg)

/-! ## The proof's data: what each buffer holds before and after, what is owed -/

set_option backward.proofsInPublic true in
/-- The kernel's own semaphores: the local copies', the send ones, the receive ones. -/
def osem : Fin 4 ⊕ (Fin 31 ⊕ Fin 31) → SemLoc sig :=
  Sum.elim (fun i => .dma (wSem i)) (Sum.elim (fun s => .dma (sSem s)) (fun s => .dma (rSem s)))

theorem ownSemFacts : Pipeline.OwnSemFacts cfg0.spec osem := by decide +kernel

/-- The records of all cells, shared by every core. -/
def Records (K : Dev nD × Fin 63 → ℕ) : sProp 𝕄 :=
  bigSep Finset.univ fun p : Dev nD × Fin 63 => iprop(cellInv ER (Rd m) (K p) (cellNo p) ∗ reached ER (cellNo p) 0)
instance Records_persistent (K : Dev nD × Fin 63 → ℕ) : Persistent (Records m K) := by unfold Records; infer_instance

/-- What a core is dealt once the cells are made. -/
def G' (c : Dev nD) : sProp 𝕄 := iprop(∃ K, Records m K ∗ Dealt c)
/-- What it starts its body with beside its working buffers. -/
def X (c : Dev nD) : sProp 𝕄 := iprop((∃ K, Env m K ∗ Dealt c) ∗ Due c ∗ Weights m c)
def Φ₀ (c : Dev nD) : sProp 𝕄 := iprop(X m c ∗ Scratch c)
/-- What it ends with. -/
def Φ₁ (c : Dev nD) : sProp 𝕄 := iprop(Quiet c ∗ Scratch c ∗ Weights m c)

def dats (_ : Fin 1) (c : Dev nD) : Dat τ (Elt F) Unit ℕ UU ℕ cfg0 c where
  A w := m ((cfg0.win w).arr.view.loc (c : Thread nD τ))
  after w _ := match w with
    | ⟨0, _⟩ => xv m c
    | ⟨1, _⟩ => sxv m c
    | ⟨2, _⟩ => swv m c
    | ⟨3, _⟩ => Ov m c
  Φ t := match t with
    | ⟨0, _⟩ => Φ₀ m c
    | ⟨_ + 1, _⟩ => Φ₁ m c
  q _ := fullShare
  owed t := match t with
    | ⟨0, _⟩ => owe c 0 0
    | ⟨_ + 1, _⟩ => 0

theorem share_eq (c : Dev nD) (w : Fin cfg0.W) : (dats m 0 c).share w = fullShare := by unfold Dat.share; split <;> rfl

/-! ## The body -/

/-- A staged buffer, held whole. -/
abbrev stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

theorem owns_whole_eq (c : Dev nD) (b : Ref sig .tc) (v : b.ty.Contents (Elt F)) :
    (owns (Ix := Unit) (Name := ℕ) (U := UU) (Lvl := ℕ) (c : Thread nD τ) (Memref.whole b) fullShare v : sProp 𝕄) = stg c b v := by
  unfold owns; simp only [Memref.view_whole, View.read_whole, View.set_whole]

theorem before_0 (c : Dev nD) (d) : (dats m 0 c).before (0 : Fin 4) t0_0 d = xv m c := by
  unfold Dat.before; rw [if_pos (fetch0_0 t0_0)]; rfl
theorem before_1 (c : Dev nD) (d) : (dats m 0 c).before (1 : Fin 4) t0_0 d = sxv m c := by
  unfold Dat.before; rw [if_pos (fetch0_1 t0_0)]; rfl
theorem before_2 (c : Dev nD) (d) : (dats m 0 c).before (2 : Fin 4) t0_0 d = swv m c := by
  unfold Dat.before; rw [if_pos (fetch0_2 t0_0)]; rfl

@[reducible] def bodyPre (c : Dev nD) : sProp 𝕄 :=
  iprop((dats m 0 c).Φ t0_0.castSucc ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
@[reducible] def bodyPost (c : Dev nD) : sProp 𝕄 :=
  iprop((dats m 0 c).Φ t0_0.succ ∗ (dats m 0 c).owesAt () t0_0.succ
    ∗ stg c cc0_stg0_0 ((dats m 0 c).after (0 : Fin 4) t0_0) ∗ stg c cc0_stg1_0 ((dats m 0 c).after (1 : Fin 4) t0_0)
    ∗ stg c cc0_stg2_0 ((dats m 0 c).after (2 : Fin 4) t0_0) ∗ stg c cc0_stg3_0 ((dats m 0 c).after (3 : Fin 4) t0_0))

theorem body_enter (c : Dev nD) : bodyPre m c ⊢ iprop(∃ K, St m K c 0 False 0 0 0 0 0 0 0) := by
  unfold bodyPre
  rw [show (dats m 0 c).Φ t0_0.castSucc = Φ₀ m c from rfl]
  unfold Φ₀ X Dat.owesAt Pipeline.owesWithin
  rw [show (dats m 0 c).owed t0_0.castSucc = owe c 0 0 from rfl]
  iintro ⟨⟨⟨⟨%K, He, HD⟩, Hdue, HW⟩, Hscr⟩, ⟨%W, %hW, HO⟩, ⟨%d0, %f0, %e0, H0⟩, ⟨%d1, %f1, %e1, H1⟩, ⟨%d2, %f2, %e2, H2⟩, ⟨%d3, %f3, -, H3⟩⟩
  rw [before_0] at e0; rw [before_1] at e1; rw [before_2] at e2
  subst e0 e1 e2
  iexists K
  iapply (enter m K c f3)
  isplitl [He]; · iexact He
  isplitl [HD]; · iexact HD
  isplitl [Hdue]; · iexact Hdue
  isplitl [Hscr]; · iexact Hscr
  isplitl [HW]; · iexact HW
  isplitl [H3]; · iexact H3
  isplitl [H0 H1 H2]
  · unfold FX; isplitl [H0]; · iexact H0
    isplitl [H1] <;> iassumption
  unfold FO; iexists W; iexact HO

theorem body_leave (K : Dev nD × Fin 63 → ℕ) (c : Dev nD) : St m K c 32 True 4 4 32 32 32 31 31 ⊢ |={Set.univ}=> bodyPost m c := by
  iintro H
  imod (leave m K c) $$ H with ⟨Hq, Hs, HW, Hout, HX, ⟨%W, HO⟩⟩
  imodintro
  unfold bodyPost
  rw [show (dats m 0 c).Φ t0_0.succ = Φ₁ m c from rfl, show (dats m 0 c).after (0 : Fin 4) t0_0 = xv m c from rfl,
    show (dats m 0 c).after (1 : Fin 4) t0_0 = sxv m c from rfl, show (dats m 0 c).after (2 : Fin 4) t0_0 = swv m c from rfl,
    show (dats m 0 c).after (3 : Fin 4) t0_0 = Ov m c from rfl]
  unfold Φ₁ Dat.owesAt Pipeline.owesWithin FX
  rw [show (dats m 0 c).owed t0_0.succ = 0 from rfl]
  icases HX with ⟨H0, H1, H2⟩
  isplitl [Hq Hs HW]
  · isplitl [Hq]; · iexact Hq
    isplitl [Hs] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact Hout

/-- The program the launch runs at its one grid point. -/
theorem body_prog : (defs₀ (F := F)) .tc cfg0.body (cfg0.bodyArgs t0_0 (cfg0.slots t0_0)) = cc0_body (F := F) xM (Memref.isWhole_whole _) wM (Memref.isWhole_whole _) sxM (Memref.isWhole_whole _) swM (Memref.isWhole_whole _)
    oM (Memref.isWhole_whole _) vM (Memref.isWhole_whole _) yM (Memref.isWhole_whole _) rM (Memref.isWhole_whole _) cc0_scratch3 cc0_scratch4 cc0_scratch5 :=
  rfl

/-- The body obligation of the launch, from the walk. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  rw [body_prog]
  with_reducible show bodyPre m c ⊢ WP c _ (fun _ => bodyPost m c)
  refine (body_enter m c).trans ?_
  iintro ⟨%K, H⟩
  iapply (walk m K c (Q := fun _ => bodyPost m c) (body_leave m K c))
  iexact H

/-! ## The cells made and dealt out -/

theorem semNo_inj : Function.Injective semNo := fun i j h => by
  unfold semNo at h
  apply Fin.ext
  split at h <;> split at h
  · omega
  · cases h
  · cases h
  · have h' := congrArg Fin.val (SemLoc.dma.inj h); simp only at h'; omega
theorem cellNo_inj : Function.Injective cellNo := by
  rintro ⟨c, k⟩ ⟨c', k'⟩ h
  have h1 : c = c' := congrArg (fun g : GSem nD τ sig => g.1.1) h
  have h2 : k = k' := semNo_inj (congrArg Prod.snd h)
  rw [h1, h2]
/-- All cells of all devices. -/
def cells : Finset (GSem nD τ sig) := Finset.univ.map ⟨cellNo, cellNo_inj⟩

/-- The duty tokens of a device's own cells: every device's at its barrier, one at each send and receive cell. -/
def tokOf : Dev nD × (Dev nD ⊕ (Fin 31 ⊕ Fin 31)) → GSem nD τ sig × ℕ × Dev nD
  | (c, .inl d) => (cellNo (c, 0), 0, d)
  | (c, .inr (.inl s)) => (cellNo (c, sendNo s), 0, 0)
  | (c, .inr (.inr s)) => (cellNo (c, recvNo s), 0, 0)
theorem tokOf_inj : Function.Injective tokOf := by
  have hs : ∀ s t : Fin 31, sendNo s ≠ recvNo t := fun s t h => by
    have h' := congrArg Fin.val h; have := s.isLt; simp only [sendNo, recvNo] at h'; omega
  have h0 : ∀ s : Fin 31, (0 : Fin 63) ≠ sendNo s := fun s h => by
    have h' : 0 = 1 + s.val := congrArg Fin.val h; omega
  have h1 : ∀ s : Fin 31, (0 : Fin 63) ≠ recvNo s := fun s h => by
    have h' : 0 = 32 + s.val := congrArg Fin.val h; omega
  rintro ⟨c, d | s | s⟩ ⟨c', d' | s' | s'⟩ h <;>
    (have hp := cellNo_inj (congrArg Prod.fst h)
     have hc := congrArg Prod.fst hp
     have hk := congrArg Prod.snd hp
     have hd := congrArg (fun x : GSem nD τ sig × ℕ × Dev nD => x.2.2) h
     dsimp only [tokOf] at hc hk hd
     subst hc)
  · rw [hd]
  · exact absurd hk (h0 _)
  · exact absurd hk (h1 _)
  · exact absurd hk.symm (h0 _)
  · rw [sendNo_inj hk]
  · exact absurd hk (hs _ _)
  · exact absurd hk.symm (h1 _)
  · exact absurd hk.symm (hs _ _)
  · rw [recvNo_inj hk]
def allToks : Finset (GSem nD τ sig × ℕ × Dev nD) := Finset.univ.map ⟨tokOf, tokOf_inj⟩

/-- The launch element: the pipeline's rounds, the exchange's, no counter. -/
def u₀ : UU := (initOf (Pipeline.cells cfgs cellOf_inj) (Pipeline.launchToks cfgs cellOf_inj), (initOf cells allToks, 1))

/-- The duty tokens of a device's own cells. -/
def toks (c : Dev nD) : sProp 𝕄 :=
  iprop((bigSep Finset.univ fun d : Dev nD => dutyTok ER (cellNo (c, 0)) 0 d)
    ∗ (bigSep Finset.univ fun s : Fin 31 => dutyTok ER (cellNo (c, sendNo s)) 0 (0 : Dev nD))
    ∗ (bigSep Finset.univ fun s : Fin 31 => dutyTok ER (cellNo (c, recvNo s)) 0 (0 : Dev nD)))

/-- What the launch element deals a device. -/
def G (c : Dev nD) : sProp 𝕄 :=
  iprop((bigSep Finset.univ fun k : Fin 63 => roundState ER (Rd m) (cellNo (c, k)) 0)
    ∗ (bigSep Finset.univ fun k : Fin 63 => atPos ER (cellNo (c, k)) 0 ∅ 0)
    ∗ (bigSep Finset.univ fun k : Fin 63 => reached ER (cellNo (c, k)) 0) ∗ toks c)

theorem fund_cells : BI.own (ER (initOf cells allToks)) ⊢ (|==> bigSep Finset.univ (G m) : sProp 𝕄) := by
  have hX (Φ : GSem nD τ sig → sProp 𝕄) : bigSep cells Φ = bigSep Finset.univ fun c : Dev nD => bigSep Finset.univ fun k : Fin 63 => Φ (cellNo (c, k)) := by
    unfold cells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum, bigSep_univ_sum]; rfl
  iintro HX
  imod (Rounds.fund ER (Rd m) cells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The local copies' counters, at zero. -/
def locals (c : Dev nD) : sProp 𝕄 := bigSep Finset.univ fun i : Fin 4 => semVal ((c : Thread nD τ), .dma (wSem i)) 0

theorem ownSems0_eq (c : Dev nD) : (Pipeline.ownSems0 (Ix := Unit) (Name := ℕ) (U := UU) (Lvl := ℕ) (Val := Elt F) (τ := τ) osem c : sProp 𝕄)
    = iprop(locals c ∗ (bigSep Finset.univ fun s : Fin 31 => semVal (cellNo (c, sendNo s)) 0) ∗ bigSep Finset.univ fun s : Fin 31 => semVal (cellNo (c, recvNo s)) 0) := by
  unfold Pipeline.ownSems0 locals
  rw [bigSep_univ_sum, bigSep_univ_sum]
  refine congrArg₂ (fun a b => iprop(a ∗ b)) rfl (congrArg₂ (fun a b => iprop(a ∗ b)) (bigSep_congr fun s _ => ?_) (bigSep_congr fun s _ => ?_))
  · unfold cellNo; rw [semNo_send]; rfl
  · unfold cellNo; rw [semNo_recv]; rfl
theorem unscopedSems0_eq (c : Dev nD) : (unscopedSems0 c : sProp 𝕄) = semVal (cellNo (c, 0)) 0 := by
  unfold unscopedSems0; rw [bigSep_eq_bigSepL_of_eq [SemLoc.reg barrier0] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (iprop(locals c ∗ bigSep Finset.univ fun k : Fin 63 => semVal (cellNo (c, k)) 0) : sProp 𝕄) := by
  rw [ownSems0_eq, unscopedSems0_eq, fam_cells (F := F)]
  iintro ⟨⟨HL, HS, HV⟩, HB⟩
  isplitl [HL]; · iexact HL
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cellNo (c, k))))
          ∗ (bigSep Finset.univ fun k : Fin 63 => atPos ER (cellNo (c, k)) 0 ∅ 0)
          ∗ (bigSep Finset.univ fun k : Fin 63 => reached ER (cellNo (c, k)) 0) ∗ toks c ∗ locals c) := by
  unfold G
  iintro ⟨Hos, Hus, Hst, Hat, Hr, Htok⟩
  ihave Hv := (sems0_eq (F := F) c) $$ [Hos Hus]
  · isplitl [Hos] <;> iassumption
  icases Hv with ⟨HL, Hv⟩
  imod (show iprop((bigSep Finset.univ fun k : Fin 63 => semVal (cellNo (c, k)) 0) ∗ bigSep Finset.univ fun k : Fin 63 => roundState ER (Rd m) (cellNo (c, k)) 0)
      ⊢ (|={Set.univ}=> bigSep Finset.univ fun k => iprop(∃ κ : ℕ, cellInv ER (Rd m) κ (cellNo (c, k))) : sProp 𝕄) from by
        rw [← bigSep_sep']
        exact (bigSep_mono fun k _ => (Rounds.body_intro ER (Rd m) (cellNo (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok] <;> iassumption

/-- The shift by which the copies of one semaphore go round. -/
def shift (s : Fin 31) : Dev nD ≃ Dev nD where
  toFun c := dstNo c s
  invFun c := srcNo c s
  left_inv c := by have := dev_lt c; have := s.isLt; apply dev_ext; simp only [dstNo, srcNo, dstOf, srcOf]; omega
  right_inv c := by have := dev_lt c; have := s.isLt; apply dev_ext; simp only [dstNo, srcNo, dstOf, srcOf]; omega

/-- The tokens handed to the devices that pay with them. -/
theorem toks_around : (bigSep Finset.univ fun c : Dev nD => (toks c : sProp 𝕄)) ⊢ bigSep Finset.univ fun c : Dev nD => payToks c := by
  unfold toks payToks
  have hb : (bigSep Finset.univ fun c : Dev nD => bigSep Finset.univ fun d : Dev nD => (dutyTok ER (cellNo (c, 0)) 0 d : sProp 𝕄))
      = bigSep Finset.univ fun c : Dev nD => bigSep Finset.univ fun d : Dev nD => dutyTok ER (barC d) 0 c := bigSep_univ_comm _
  have hr : (bigSep Finset.univ fun c : Dev nD => bigSep Finset.univ fun s : Fin 31 => (dutyTok ER (cellNo (c, recvNo s)) 0 (0 : Dev nD) : sProp 𝕄))
      = bigSep Finset.univ fun c : Dev nD => bigSep Finset.univ fun s : Fin 31 => dutyTok ER (cellNo (dstNo c s, recvNo s)) 0 (0 : Dev nD) := by
    rw [bigSep_univ_comm, bigSep_univ_comm (fun (c : Dev nD) (s : Fin 31) => (dutyTok ER (cellNo (dstNo c s, recvNo s)) 0 (0 : Dev nD) : sProp 𝕄))]
    exact bigSep_congr fun s _ => bigSep_univ_equiv (shift s) (fun c : Dev nD => (dutyTok ER (cellNo (c, recvNo s)) 0 (0 : Dev nD) : sProp 𝕄))
  rw [bigSep_sep', bigSep_sep', bigSep_sep', bigSep_sep', hb, hr]

/-- What stays with one device. -/
def own1 (c : Dev nD) : sProp 𝕄 :=
  iprop((bigSep Finset.univ fun k : Fin 63 => atPos ER (cellNo (c, k)) 0 ∅ 0) ∗ payToks c ∗ locals c)

theorem regroup :
    (bigSep Finset.univ fun c : Dev nD => iprop((bigSep Finset.univ fun k => iprop(∃ κ : ℕ, cellInv ER (Rd m) κ (cellNo (c, k))))
          ∗ (bigSep Finset.univ fun k : Fin 63 => atPos ER (cellNo (c, k)) 0 ∅ 0)
          ∗ (bigSep Finset.univ fun k : Fin 63 => reached ER (cellNo (c, k)) 0) ∗ toks c ∗ locals c) : sProp 𝕄)
      ⊢ bigSep Finset.univ (G' m) := by
  rw [bigSep_sep', bigSep_sep', bigSep_sep', bigSep_sep', ← bigSep_univ_prod (fun ck : Dev nD × Fin 63 => iprop(∃ κ : ℕ, cellInv ER (Rd m) κ (cellNo ck))),
    ← bigSep_univ_prod (fun ck : Dev nD × Fin 63 => (reached ER (cellNo ck) 0 : sProp 𝕄))]
  iintro ⟨HI, Hat, #HR, Htok, HL⟩
  ihave HK := (BI.bigSep_exists_pi Finset.univ (fun (ck : Dev nD × Fin 63) (κ : ℕ) => (cellInv ER (Rd m) κ (cellNo ck) : sProp 𝕄))) $$ HI
  icases HK with ⟨%K, #HI⟩
  ihave Htk := (toks_around (F := F)) $$ Htok
  have hg : ∀ c ∈ (Finset.univ : Finset (Dev nD)), iprop(Records m K ∗ own1 c) ⊢ G' m c := fun c _ => by
    unfold G' own1 Dealt locals
    iintro ⟨Hr, Ho⟩
    iexists K
    isplitl [Hr] <;> iassumption
  iapply (bigSep_with hg)
  isplitr
  · unfold Records
    have e : iprop((bigSep Finset.univ fun p : Dev nD × Fin 63 => cellInv ER (Rd m) (K p) (cellNo p)) ∗ (bigSep Finset.univ fun p : Dev nD × Fin 63 => (reached ER (cellNo p) 0 : sProp 𝕄)))
        ⊢ bigSep Finset.univ fun p : Dev nD × Fin 63 => iprop(cellInv ER (Rd m) (K p) (cellNo p) ∗ reached ER (cellNo p) 0) := Entails.of_eq (bigSep_sep' _ _ _).symm
    iapply e
    isplitl; · iexact HI
    iexact HR
  · have e : iprop((bigSep Finset.univ fun c : Dev nD => bigSep Finset.univ fun k : Fin 63 => (atPos ER (cellNo (c, k)) 0 ∅ 0 : sProp 𝕄))
        ∗ (bigSep Finset.univ fun c : Dev nD => payToks c) ∗ bigSep Finset.univ fun c : Dev nD => locals c) ⊢ bigSep Finset.univ fun c : Dev nD => own1 c :=
      Entails.of_eq (by unfold own1; rw [bigSep_sep', bigSep_sep'])
    iapply e
    isplitl [Hat]; · iexact Hat
    isplitl [Htk] <;> iassumption

/-- The cells made, for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What each device owes at launch. -/
abbrev O₀ (c : Dev nD) : CellTallies nD τ sig Unit := owe c 0 0

theorem oweR_eq (c : Dev nD) : oweR c 0 = ∑ s : Fin 31, tallyAt (((dstNo c s : Dev nD) : Thread nD τ), .dma (rSem s)) () N := by
  unfold oweR
  rw [← Finset.add_sum_erase _ _ (Finset.mem_univ c), if_pos (.inl rfl), zero_add]
  have h : Finset.univ.map ⟨dstNo c, dstNo_inj c⟩ = Finset.univ.erase c := by
    refine Finset.eq_of_subset_of_card_le (fun d hd => ?_) ?_
    · obtain ⟨s, -, rfl⟩ := Finset.mem_map.mp hd
      exact Finset.mem_erase.mpr ⟨dstOf_ne c s.isLt, Finset.mem_univ _⟩
    · rw [Finset.card_map, Finset.card_erase_of_mem (Finset.mem_univ _)]; decide
  rw [← h, Finset.sum_map]
  refine Finset.sum_congr rfl fun s _ => ?_
  show (if dstNo c s = c ∨ pos c (dstNo c s) < 0 then 0 else tallyAt (recvC c (dstNo c s)) () N) = _
  rw [if_neg fun h => h.elim (dstOf_ne c s.isLt) (Nat.not_lt_zero _)]
  unfold recvC; rw [sIdx_dst]

theorem bar_credit (c : Dev nD) : (Pipeline.launchCred (fun _ : Dev nD => oweB 0) c : sProp 𝕄) ⊢ cred (tallyAt (barC c) () 32) := by
  have h1 : (oweB 0) (barC c) () = 1 := by
    unfold oweB
    rw [Finset.sum_apply, Finsupp.finset_sum_apply, Finset.sum_eq_single c]
    · rw [if_neg (Nat.not_lt_zero _), tallyAt_apply, if_pos ⟨rfl, rfl⟩]
    · intro e _ he
      rw [if_neg (Nat.not_lt_zero _), tallyAt_apply, if_neg fun hh => he (congrArg (fun g : GSem nD τ sig => g.1.1) hh.1).symm]
    · exact fun h => absurd (Finset.mem_univ _) h
  have h : tallyOn (barC c) (launchCredit (Pipeline.owing fun _ : Dev nD => oweB 0) 0 (barC c)) = (tallyAt (barC c) () 32 : CellTallies nD τ sig Unit) := by
    unfold tallyAt; refine congrArg _ (Finsupp.ext fun u => ?_); cases u
    rw [Pipeline.launchCredit_owing, Finsupp.single_eq_same, Finset.sum_congr rfl fun d _ => h1]; rfl
  unfold Pipeline.launchCred
  rw [← h]
  exact bigSep_elim (Finset.mem_univ (SemLoc.reg barrier0))

theorem creds (c : Dev nD) : (Pipeline.launchCred O₀ c : sProp 𝕄) ⊢ Due c := by
  have e : (O₀ : Dev nD → CellTallies nD τ sig Unit) = fun d => oweB 0 + ∑ s : Fin 31, tallyAt (((dstNo d s : Dev nD) : Thread nD τ), .dma (rSem s)) () N :=
    funext fun d => by rw [← oweR_eq]; rfl
  rw [e, Pipeline.launchCred_add (fun _ => oweB 0), Pipeline.launchCred_sum Finset.univ (fun (s : Fin 31) (d : Dev nD) => tallyAt (((dstNo d s : Dev nD) : Thread nD τ), .dma (rSem s)) () N)]
  have hr : (bigSep Finset.univ fun s : Fin 31 => (Pipeline.launchCred (fun d : Dev nD => tallyAt (((dstNo d s : Dev nD) : Thread nD τ), .dma (rSem s)) () N) c : sProp 𝕄))
      ⊢ bigSep Finset.univ fun s : Fin 31 => cred (tallyAt (cellNo (c, recvNo s)) () N) :=
    bigSep_mono fun s _ => by
      unfold cellNo; rw [semNo_recv]
      exact Pipeline.launchCred_tallyAt (.dma (rSem s)) (fun d => dstNo d s) (fun d => srcNo d s) (shift s).right_inv (shift s).left_inv () N c
  unfold Due
  exact (sep_mono_left (bar_credit c)).trans (sep_mono_right hr)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G' X Weights
  iintro ⟨HW, Hlev, Hcr, -, ⟨%K, HR, HD⟩⟩
  ihave Hc := (creds (F := F) c) $$ Hcr
  imodintro
  isplitl
  · isplitl [HR HD Hlev]
    · iexists K
      isplitl [HR Hlev]
      · unfold Env Records
        isplitl [HR] <;> iassumption
      iexact HD
    isplitl [Hc] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scratch
  iintro ⟨Hs, -, Hr⟩
  isplitl [Hs] <;> iassumption

/-- What a device keeps to the end beside its windows' arrays. -/
def Y (c : Dev nD) : sProp 𝕄 := iprop(unscopedSems0 c ∗ Weights m c)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Y; rw [unscopedSems0_eq]
  unfold Φ₁ Quiet Scratch locals
  iintro ⟨⟨HB, HS, HR, HL⟩, Hs, HW⟩
  isplitl [HB HW]
  · isplitl [HB]; · iexact HB
    iexact HW
  isplitl [HS HR HL]
  · isplitl [HL]; · iexact HL
    isplitl [HS] <;> iassumption
  iexact Hs

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide) 0 0
    · have h := mayWait_low (F := F) c ((cfg0.win w).sem s) (by fin_cases w <;> fin_cases s <;> decide) 32 32
      rw [owe_end] at h; exact h

/-- What the run ends with: each window's array at the computed contents, the weights as launched, every counter at zero. -/
def Post : PUnit × MemSt nD τ sig (Elt F) → Prop := fun r =>
  (∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)) ∧ r.2.sem = fun _ => 0

theorem start_own : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX' := (own_pair_emb _ _ _) $$ HX
  icases HX' with ⟨HX1, -⟩
  have hf : BI.own (((Emb.inl : Emb UX (UX × Counters)).trans embR) (initOf cells allToks)) ⊢ (|==> bigSep Finset.univ (G m) : sProp 𝕄) := fund_cells m
  imod hf $$ HX1 with HG
  imodintro
  isplitl [HP]; · iexact HP
  iexact HG

/-- What is read of a device at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem end_read (c : Dev nD) (s' : Phys nD τ sig (Elt F)) :
    iprop(Y m c ∗ emp ∗ SI s') ⊢ (|={Set.univ}=> iprop(⌜QY m c s'.mem⌝ ∗ SI s') : sProp 𝕄) := by
  unfold Y Weights
  iintro ⟨⟨Hu, HW⟩, -, HSI⟩
  icombine HSI HW gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => h i (Finset.mem_univ i)⟩
  iexact HSI

set_option maxHeartbeats 1000000 in
/-- From any memory with zero counters every weakly fair execution of the program on all devices ends, in such a state. -/
theorem run_main : θ_run defs (onTc (τ := τ) (main (F := F))) (s₀ m ρ) (Post m) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?hmain)
    (hbody := ?hbody) (hne := ?hne) (harr := ?harr) (hstage := ?hstage) (hshare := ?hshare)
    (hdistinct := ?hdist)
    (O₀ := O₀) (howed₀ := ?o1) (howedN := ?o2)
    (L := L) (lv := lv) (hL := L_of_ne) (hwaits := ?waits)
    (G := G m) (G' := G' m) (u₀ := u₀)
    (hu₀ := ?hu)
    (hglob := ?glob)
    (hA := ?hA) (hpf := fun _ k => k.elim0)
    (X := X m) (Y := Y m) (Z := fun _ => iprop(emp))
    (hX := ?hX) (hin := ?hin) (hout := ?hout)
    (QY := QY m)
    (hY := ?hY)
    (hQ := ?hQ)
  case hmain => exact fun _ => rfl
  case hbody => exact fun c => (body_obligation m c).loose
  case hne => exact block_pos0
  case harr => exact arr_whole0
  case hstage => exact stage_whole0
  case hshare => exact share_eq m
  case hdist => exact winFacts0.arr_inj
  case o1 => exact fun _ => rfl
  case o2 => exact fun _ => rfl
  case waits => exact waits m
  case hu => exact start_own m
  case glob => exact glob m
  case hA => exact fun _ _ => rfl
  case hX => exact start_intro m ρ
  case hin => exact phi0_intro m
  case hout => exact phi1_exit m
  case hY => exact end_read m
  case hQ => exact fun _ h hs => ⟨fun c => ⟨fun w => (h c).1 w, (h c).2.2.2⟩, sem_eq_zero hs fun c => (h c).2.2.1⟩

end Cert.Proof
-- ==== Proof.Result.lean ====
/-
  What the run ends with, read at the arguments and at the result.
-/
module

public import Idealize.ShloMosaic.Lib.Pipeline.ValueKit
public import proofs.«01_k».proof.Proof.Launch

@[expose] public section

noncomputable section

namespace Cert.Proof

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- The result array ends at the block the body leaves. -/
theorem arrAt_out (c : Dev nD) : (dats m 0 c).arrAt 3 cfg0.N = Ov m c := by
  refine (dats m 0 c).arrAt_eq_of_after_last 3 t0_0 (by decide +kernel) _ fun j => ?_
  rfl

variable {m}

/-- The arguments end as they were. -/
theorem Post.args {r : PUnit × MemSt nD τ sig (Elt F)} (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.1 c).1 0).trans ((dats m 0 c).arrAt_in 0 rfl _), (h.1 c).2,
    ((h.1 c).1 1).trans ((dats m 0 c).arrAt_in 1 rfl _), ((h.1 c).1 2).trans ((dats m 0 c).arrAt_in 2 rfl _)⟩

/-- The result ends at the computed block. -/
theorem Post.result {r : PUnit × MemSt nD τ sig (Elt F)} (h : Post m r) (c : Dev nD) :
    r.2.mem ((c.tc : Thread nD τ).loc main_v1) = Ov m c :=
  ((h.1 c).1 3).trans (arrAt_out m c)

end Cert.Proof
-- ==== Proof.Same.lean ====
/-
  The program as compiled and the program read over the extended reals are one text: at the machine's floats they are equal, so
  a run of the one is a run of the other.
-/
module

public import proofs.«01_k».proof.Defs
public import proofs.«01_k».proof.Proof.Gen.Kernel
public import proofs.«01_k».proof.Proof.Gen.KernelIdeal

@[expose] public section

set_option maxRecDepth 65536
set_option maxHeartbeats 0

noncomputable section

namespace Cert.Proof

open Idealize.ShloMosaic

theorem same_body : Cert.Kernel.cc0_body (F := Bits) = Cert.KernelIdeal.cc0_body (F := Bits) := rfl

theorem same_table : Cert.Kernel.defs₀ (F := Bits) = Cert.KernelIdeal.defs₀ (F := Bits) := by
  unfold Cert.Kernel.defs₀ Cert.KernelIdeal.defs₀
  rw [same_body]
  refine congrArg Defs.onTc (funext fun l => funext fun a => ?_)
  match l, a with
  | 0, (t, s) => rfl
  | ⟨_ + 1, h⟩, _ => exact absurd h (Nat.not_lt.2 (Nat.le_add_left _ _))

theorem same_defs : Cert.Kernel.defs (F := Bits) = Cert.KernelIdeal.defs (F := Bits) := by
  unfold Cert.Kernel.defs Cert.KernelIdeal.defs
  rw [same_table]
  rfl

theorem same_main : Cert.Kernel.main (F := Bits) = Cert.KernelIdeal.main (F := Bits) := rfl

end Cert.Proof
-- ==== Proof.Ref.lean ====
/-
  The reference: its straight line of host operations run on its one device, and its result read at an index, a row of `x`
  times a column of `w`, scaled by the two scales and clipped below at zero.
-/
module

public import proofs.«01_k».proof.Defs
public import Idealize.ShloMosaic.Lib.StableHlo.Run
public import Idealize.ShloMosaic.Lib.Pointwise
public import Idealize.ShloMosaic.Lib.Quiescent
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of the reference, first to last. -/
abbrev line : List (HloOp τ sig (Elt F)) :=
  [ binary main_arg0 main_arg1 main_v0 (fun l r => Host.dotGeneral dot_S4096x4096_S4096x2048_S4096x2048_1_0_0_1_n_n none l r),
    binary main_arg2 main_arg3 main_v1 mulf,
    unary main_v1 main_v2 (broadcastInDim S1x1 ![1] Facts₀.bcast_S1_S1x1_1),
    unary main_v2 main_v3 (broadcastInDim S4096x2048 ![0, 1] Facts₀.bcast_S1x1_S4096x2048_0_1),
    binary main_v0 main_v3 main_v4 mulf,
    nullary main_cst (constant S_ .f32 0x00000000#32),
    unary main_cst main_v5 (broadcastInDim S4096x2048 ![] Facts₀.bcast_S_S4096x2048),
    binary main_v4 main_v5 main_v6 maximumf ]

/-- What they make of the four arguments. -/
def out (x : FVec F S4096x4096 .f32) (w : FVec F S4096x2048 .f32) (sx sw : FVec F S1 .f32) : FVec F S4096x2048 .f32 :=
  maximumf
    (mulf (Host.dotGeneral dot_S4096x4096_S4096x2048_S4096x2048_1_0_0_1_n_n none x w)
      (broadcastInDim S4096x2048 ![0, 1] Facts₀.bcast_S1x1_S4096x2048_0_1
        (broadcastInDim S1x1 ![1] Facts₀.bcast_S1_S1x1_1 (mulf sx sw))))
    (broadcastInDim S4096x2048 ![] Facts₀.bcast_S_S4096x2048 (constant S_ .f32 0x00000000#32))

theorem main_line (d : Dev nD) : main (F := F) d = seq line := rfl

theorem at_out (V : Valuation τ sig (Elt F)) : after line V (main_v6 : DevRef τ sig)
    = out (V (main_arg0 : DevRef τ sig)) (V (main_arg1 : DevRef τ sig)) (V (main_arg2 : DevRef τ sig)) (V (main_arg3 : DevRef τ sig)) := by
  after_results
  rfl
theorem at_arg0 (V : Valuation τ sig (Elt F)) : after line V (main_arg0 : DevRef τ sig) = V (main_arg0 : DevRef τ sig) := by after_results
theorem at_arg1 (V : Valuation τ sig (Elt F)) : after line V (main_arg1 : DevRef τ sig) = V (main_arg1 : DevRef τ sig) := by after_results
theorem at_arg2 (V : Valuation τ sig (Elt F)) : after line V (main_arg2 : DevRef τ sig) = V (main_arg2 : DevRef τ sig) := by after_results
theorem at_arg3 (V : Valuation τ sig (Elt F)) : after line V (main_arg3 : DevRef τ sig) = V (main_arg3 : DevRef τ sig) := by after_results

theorem no_scoped_refs : (Finset.univ.filter fun b : Ref sig .tc => b.isScoped) = ∅ := by decide
theorem no_scoped_sems : (Finset.univ.filter fun s : SemLoc sig => s.isScoped .tc) = ∅ := by decide
theorem line_sub : (line : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub ..⟩

/-- Every execution ends with the result at `out` of the arguments, the arguments as they were and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v6) = out (m ((c.tc : Thread nD τ).loc main_arg0)) (m ((c.tc : Thread nD τ).loc main_arg1))
            (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => ⟨(h c main_v6).trans (at_out _), (h c main_arg0).trans (at_arg0 _),
      (h c main_arg1).trans (at_arg1 _), (h c main_arg2).trans (at_arg2 _), (h c main_arg3).trans (at_arg3 _)⟩,
      sem_eq_zero_of_no_sems rfl _⟩)
    (run_seq no_scoped_refs no_scoped_sems defs main (fun _ => line) main_line (fun _ => line_sub) m ρ)

/-- The result at row `i`, column `j`. -/
theorem out_at (x : FVec Ideal S4096x4096 .f32) (w : FVec Ideal S4096x2048 .f32) (sx sw : FVec Ideal S1 .f32) (i : Fin 4096) (j : Fin 2048) :
    out x w sx sw (ix2 i j) = max ((∑ k : Fin 4096, x (ix2 i k) * w (ix2 k j)) * (sx (ix1 0) * sw (ix1 0)) : EReal) 0 := by
  unfold out
  pointwise

end Cert.Proof.Ref
-- ==== Proof.Value.lean ====
/-
  The result over the extended reals: each device's block read at an index is the reference's result at the column it names.
-/
module

public import Idealize.ShloMosaic.Lib.Layout
public import Idealize.ShloMosaic.Lib.Pointwise
public import Idealize.ShloMosaic.Lib.Pipeline.ValueKit
public import proofs.«01_k».proof.Proof.Common
public import proofs.«01_k».proof.Proof.Ref

@[expose] public section

noncomputable section

namespace Cert.Proof

open Cert.KernelIdeal Cert.KernelIdeal.Gen
open Idealize.ShloMosaic Idealize.ShloMosaic.TcCoe

variable {F : FTy → Type} [FloatOps F] (m : (ℓ : Loc nD τ sig) → Buf (Elt F) ℓ)

/-- Each staged argument is the argument. -/
theorem xv_eq (c : Dev nD) : xv m c = m ((c : Thread nD τ).loc main_arg0) := by
  funext i; show m _ _ = m _ _; congr 1; funext a; apply Fin.ext; blk_simp
  exact (congrArg (· + (i a).val) (Nat.zero_mul _)).trans (Nat.zero_add _)
theorem sxv_eq (c : Dev nD) : sxv m c = m ((c : Thread nD τ).loc main_arg2) := by
  funext i; show m _ _ = m _ _; congr 1; funext a; apply Fin.ext; blk_simp
  exact (congrArg (· + (i a).val) (Nat.zero_mul _)).trans (Nat.zero_add _)
theorem swv_eq (c : Dev nD) : swv m c = m ((c : Thread nD τ).loc main_arg3) := by
  funext i; show m _ _ = m _ _; congr 1; funext a; apply Fin.ext; blk_simp
  exact (congrArg (· + (i a).val) (Nat.zero_mul _)).trans (Nat.zero_add _)

/-- A chunk's product at an index. -/
theorem pay3_at (s : Ideal .f32) (x : FVec Ideal S128x4096 .fp8e4m3) (w : Vec Ideal S1x4096x512 .f32) (r : Fin 128) (j : Fin 512) :
    k0_pay3 s x w (ix2 r j) = max ((∑ k : Fin 4096, x (ix2 r k) * w (ix3 0 k j)) * s : EReal) 0 := by
  unfold k0_pay3
  pointwise

theorem pay2_at (x : Vec Ideal S128x4096 .f32) (i : S128x4096.Idx) : k0_pay2 x i = x i := by
  unfold k0_pay2
  pointwise

theorem pay13_at (v : Vec Ideal S1x128x64 .bf16) (r : Fin 128) (j : Fin 64) : k0_pay13 v (ix2 r j) = v (ix3 0 r j) := by
  unfold k0_pay13
  pointwise

set_option backward.proofsInPublic true in
/-- The device that holds row `i` of `x`. -/
def rowDev (i : Fin 4096) : Dev nD := ⟨i.val / 128, by have : nD = 32 := rfl; omega⟩

set_option backward.proofsInPublic true in
/-- The result at row `i`, column `j` of a device's block: the row's dot product, as the row's device holds it, with column
    `64 c + j` of the weights, scaled and clipped. -/
theorem Ov_at (m : (ℓ : Loc nD τ sig) → Buf (Elt Ideal) ℓ) (c : Dev nD) (i : Fin 4096) (j : Fin 64) :
    Ov m c (ix2 i j) = max ((∑ k : Fin 4096, x8 m (rowDev i) (ix2 ⟨i.val % 128, by omega⟩ k)
        * Wm m (rowDev i) (ix2 k ⟨c.val * 64 + j.val, by have := dev_lt c; omega⟩)) * scale m (rowDev i) : EReal) 0 := by
  have hc := dev_lt c
  refine (pay13_at _ ⟨i.val % 128, by omega⟩ j).trans ?_
  refine (pay3_at _ _ _ ⟨i.val % 128, by omega⟩ ⟨c.val % 8 * 64 + j.val, by omega⟩).trans ?_
  refine congrArg (fun t : EReal => max (t * scale m (rowDev i)) 0)
    (Finset.sum_congr rfl fun k _ => congrArg (x8 m (rowDev i) (ix2 ⟨i.val % 128, by omega⟩ k) * ·) ?_)
  refine congrArg (fun t => Wm m (rowDev i) (ix2 k t)) (Fin.ext ?_)
  show c.val / 8 % 4 * 512 + (c.val % 8 * 64 + j.val) = c.val * 64 + j.val
  omega

set_option backward.proofsInPublic true in
/-- A device's block of the result is that block of the reference's result, when each device holds its rows of `x` and all of
    the weights and scales. -/
theorem Ov_block (m : (ℓ : Loc nD τ sig) → Buf (Elt Ideal) ℓ) (x : FVec Ideal Cert.ReferenceIdeal.S4096x4096 .f32)
    (w : FVec Ideal Cert.ReferenceIdeal.S4096x2048 .f32) (sx sw : FVec Ideal Cert.ReferenceIdeal.S1 .f32)
    (hx : ∀ d : Dev nD, m ((d.tc : Thread nD τ).loc main_arg0) = Layout.block ⟨2, ![128, 4096]⟩ ⟨2, ![4096, 4096]⟩ 0 32 d x)
    (hw : ∀ d : Dev nD, m ((d.tc : Thread nD τ).loc main_arg1) = w)
    (hsx : ∀ d : Dev nD, m ((d.tc : Thread nD τ).loc main_arg2) = sx)
    (hsw : ∀ d : Dev nD, m ((d.tc : Thread nD τ).loc main_arg3) = sw) (c : Dev nD) :
    Ov m c = Layout.block ⟨2, ![4096, 64]⟩ ⟨2, ![4096, 2048]⟩ 1 32 c (Ref.out x w sx sw) := by
  have hc := dev_lt c
  funext j
  obtain ⟨a, b, rfl⟩ : ∃ (a : Fin 4096) (b : Fin 64), j = ix2 a b := ⟨j 0, j 1, eq_ix2 j⟩
  refine (Ov_at m c a b).trans ?_
  rw [Layout.block_apply]
  have hj : (Layout.Tiles.idx (by decide : Layout.Tiles ⟨2, ![4096, 64]⟩ ⟨2, ![4096, 2048]⟩ 1 32) c (ix2 a b))
      = ix2 a ⟨c.val * 64 + b.val, by omega⟩ := by
    funext t; apply Fin.ext; rw [Layout.Tiles.idx_val]; fin_cases t <;> rfl
  rw [hj, Ref.out_at]
  refine congrArg₂ (fun s t : EReal => max (s * t) 0) (Finset.sum_congr rfl fun k _ => congrArg₂ (fun s t : EReal => s * t) ?_ ?_) ?_
  · unfold x8
    rw [pay2_at, xv_eq, hx, Layout.block_apply]
    refine congrArg x ?_
    funext t; apply Fin.ext; rw [Layout.Tiles.idx_val]; fin_cases t
    · show a.val / 128 * 128 + a.val % 128 = a.val; omega
    · rfl
  · unfold Wm; rw [hw]
  · unfold scale k0_pay1
    rw [sxv_eq, swv_eq, hsx, hsw]
    refine congrArg₂ (fun s t : EReal => s * t) (congrArg sx ?_) (congrArg sw ?_) <;> (funext t; apply Fin.ext; fin_cases t; rfl)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Result
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The program over the machine's floats is the same text as over the extended reals, so the one run serves both. -/
theorem quiescent_p : Cert.quiescent_Kernel := fun m ρ _ => by
  have h := (θ_run Cert.KernelIdeal.defs _ _).mono
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)
    (fun _ h => ⟨Post.args h, h.2⟩) (run_main (F := Bits) m ρ)
  rw [same_defs]
  exact h

theorem quiescent_pi : Cert.quiescent_KernelIdeal := fun m ρ _ =>
  (θ_run Cert.KernelIdeal.defs _ _).mono (fun _ h => ⟨Post.args h, h.2⟩) (run_main (F := Ideal) m ρ)

theorem quiescent_ri : Cert.quiescent_ReferenceIdeal := fun m ρ _ =>
  (θ_run Cert.ReferenceIdeal.defs _ _).mono (fun _ h => ⟨fun c => (h.1 c).2, h.2⟩) (Ref.run (F := Ideal) m ρ)

theorem algebraic : Cert.algebraic_KernelIdeal_ReferenceIdeal := fun m ρ _ ρ' _ hm =>
  ⟨_, (θ_run Cert.KernelIdeal.defs _ _).mono
      (fun _ h c => ⟨(Post.result h c).trans (Ov_block m _ _ _ _ (fun d => (hm d).1) (fun d => (hm d).2.1) (fun d => (hm d).2.2.1)
        (fun d => (hm d).2.2.2) c), Post.args h c⟩) (run_main (F := Ideal) m ρ),
    (θ_run Cert.ReferenceIdeal.defs _ _).mono (fun _ h => h.1 0) (Ref.run (F := Ideal) _ ρ')⟩

theorem claim : Cert.Claim := ⟨Cert.Kernel.Gen.facts, Cert.KernelIdeal.Gen.facts, Cert.ReferenceIdeal.Gen.facts,
  quiescent_p, quiescent_pi, quiescent_ri, trivial, algebraic⟩

end Cert.Proof

end
